-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x3997B426#32 ((1 / 3456 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S13x4096x3456 : Shape := ⟨3, ![13, 4096, 3456]⟩
abbrev S3456 : Shape := ⟨1, ![3456]⟩
abbrev S_ : Shape := ⟨0, ![]⟩

class Facts : Prop where
  bitsLt_bf16_f32 : FTy.bits .bf16 < FTy.bits .f32
  bcast_S_S3456 : S_.BroadcastsInDim S3456 (![] : Fin 0 → Fin S3456.rank)
  reducesTo_S3456_S_d0 : S3456.ReducesTo [0] S_
  h_S_ : 0 < S_.numel

variable [Facts]

def fn {F : FTy → Type} [FloatOps F] (main_arg0 : FVec F S13x4096x3456 .bf16) (main_arg1 : FVec F S3456 .bf16) : IVec S_ 1 :=
  let main_v0 : FVec F S3456 .f32 := (extf .f32 · bitsLt_bf16_f32) main_arg1
  let main_v1 : FVec F S3456 .f32 := Host.absf main_v0
  let main_cst : FVec F S_ .f32 := constant S_ .f32 0x7F7F0000#32
  let main_v2 : FVec F S3456 .f32 := broadcastInDim S3456 ![] bcast_S_S3456 main_cst
  let main_v3 : IVec S3456 1 := cmpf .ole main_v1 main_v2
  let main_c : IVec S_ 1 := constantI S_ 1 1#1
  let main_v4 : IVec S_ 1 := (fun x v => Host.reduce IntOp.andi x v reducesTo_S3456_S_d0 h_S_) main_v3 main_c
  main_v4
-- ==== Kernel.lean ====
abbrev S13x4096x3456 : Shape := ⟨3, ![13, 4096, 3456]⟩
abbrev S3456 : Shape := ⟨1, ![3456]⟩
abbrev S53248x3456 : Shape := ⟨2, ![53248, 3456]⟩
abbrev S1x3456 : Shape := ⟨2, ![1, 3456]⟩
abbrev S53248x27 : Shape := ⟨2, ![53248, 27]⟩
abbrev S3456x53248 : Shape := ⟨2, ![3456, 53248]⟩
abbrev S3456x416 : Shape := ⟨2, ![3456, 416]⟩
abbrev S416x128 : Shape := ⟨2, ![416, 128]⟩
abbrev S512x3456 : Shape := ⟨2, ![512, 3456]⟩
abbrev S512x27 : Shape := ⟨2, ![512, 27]⟩
abbrev S3456x512 : Shape := ⟨2, ![3456, 512]⟩
abbrev S3456x128 : Shape := ⟨2, ![3456, 128]⟩
abbrev S27x128x128 : Shape := ⟨3, ![27, 128, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S128x256 : Shape := ⟨2, ![128, 256]⟩
abbrev S256x128 : Shape := ⟨2, ![256, 128]⟩
abbrev S1x1x128 : Shape := ⟨3, ![1, 1, 128]⟩
abbrev S128x27 : Shape := ⟨2, ![128, 27]⟩
abbrev S1x128x128 : Shape := ⟨3, ![1, 128, 128]⟩

abbrev nBuf : Space → Nat
  | .hbm => 10
  | .vmem => 13
  | .smem => 0
  | _ => 0

abbrev bufTy : (tb : Table) → Fin (tcTables nBuf tb) → BufTy
  | .hbm, ⟨0, _⟩ => ⟨S13x4096x3456, .bf16⟩
  | .hbm, ⟨1, _⟩ => ⟨S3456, .bf16⟩
  | .hbm, ⟨2, _⟩ => ⟨S53248x3456, .bf16⟩
  | .hbm, ⟨3, _⟩ => ⟨S3456, .f32⟩
  | .hbm, ⟨4, _⟩ => ⟨S1x3456, .f32⟩
  | .hbm, ⟨5, _⟩ => ⟨S53248x3456, .fp8e4m3⟩
  | .hbm, ⟨6, _⟩ => ⟨S53248x27, .f32⟩
  | .hbm, ⟨7, _⟩ => ⟨S3456x53248, .fp8e4m3⟩
  | .hbm, ⟨8, _⟩ => ⟨S3456x416, .f32⟩
  | .hbm, ⟨9, _⟩ => ⟨S416x128, .f32⟩
  | .local _ .vmem, ⟨0, _⟩ => ⟨S512x3456, .bf16⟩
  | .local _ .vmem, ⟨1, _⟩ => ⟨S512x3456, .bf16⟩
  | .local _ .vmem, ⟨2, _⟩ => ⟨S1x3456, .f32⟩
  | .local _ .vmem, ⟨3, _⟩ => ⟨S512x3456, .fp8e4m3⟩
  | .local _ .vmem, ⟨4, _⟩ => ⟨S512x3456, .fp8e4m3⟩
  | .local _ .vmem, ⟨5, _⟩ => ⟨S512x27, .f32⟩
  | .local _ .vmem, ⟨6, _⟩ => ⟨S512x27, .f32⟩
  | .local _ .vmem, ⟨7, _⟩ => ⟨S3456x512, .fp8e4m3⟩
  | .local _ .vmem, ⟨8, _⟩ => ⟨S3456x512, .fp8e4m3⟩
  | .local _ .vmem, ⟨9, _⟩ => ⟨S3456x128, .f32⟩
  | .local _ .vmem, ⟨10, _⟩ => ⟨S3456x128, .f32⟩
  | .local _ .vmem, ⟨11, _⟩ => ⟨S416x128, .f32⟩
  | .local _ .vmem, ⟨12, _⟩ => ⟨S27x128x128, .f32⟩
  | _, _ => ⟨S13x4096x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![104], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  v17
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v20 : Index := Scalar.indexCast v18
  let c0 : Index := 0#32
  ![v20.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v26 : Index := Scalar.indexCast v18
  let c128 : Index := 128#32
  ![v26.toNat, 128]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v32 : Index := Scalar.indexCast v18
  let c256 : Index := 256#32
  ![v32.toNat, 256]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v38 : Index := Scalar.indexCast v18
  let c384 : Index := 384#32
  ![v38.toNat, 384]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v44 : Index := Scalar.indexCast v18
  let c512 : Index := 512#32
  ![v44.toNat, 512]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v50 : Index := Scalar.indexCast v18
  let c640 : Index := 640#32
  ![v50.toNat, 640]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v56 : Index := Scalar.indexCast v18
  let c768 : Index := 768#32
  ![v56.toNat, 768]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v62 : Index := Scalar.indexCast v18
  let c896 : Index := 896#32
  ![v62.toNat, 896]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v68 : Index := Scalar.indexCast v18
  let c1024 : Index := 1024#32
  ![v68.toNat, 1024]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v74 : Index := Scalar.indexCast v18
  let c1152 : Index := 1152#32
  ![v74.toNat, 1152]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v80 : Index := Scalar.indexCast v18
  let c1280 : Index := 1280#32
  ![v80.toNat, 1280]
def k0_off12 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v86 : Index := Scalar.indexCast v18
  let c1408 : Index := 1408#32
  ![v86.toNat, 1408]
def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v92 : Index := Scalar.indexCast v18
  let c1536 : Index := 1536#32
  ![v92.toNat, 1536]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v98 : Index := Scalar.indexCast v18
  let c1664 : Index := 1664#32
  ![v98.toNat, 1664]
def k0_off15 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v104 : Index := Scalar.indexCast v18
  let c1792 : Index := 1792#32
  ![v104.toNat, 1792]
def k0_off16 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v110 : Index := Scalar.indexCast v18
  let c1920 : Index := 1920#32
  ![v110.toNat, 1920]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v116 : Index := Scalar.indexCast v18
  let c2048 : Index := 2048#32
  ![v116.toNat, 2048]
def k0_off18 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v122 : Index := Scalar.indexCast v18
  let c2176 : Index := 2176#32
  ![v122.toNat, 2176]
def k0_off19 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v128 : Index := Scalar.indexCast v18
  let c2304 : Index := 2304#32
  ![v128.toNat, 2304]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v134 : Index := Scalar.indexCast v18
  let c2432 : Index := 2432#32
  ![v134.toNat, 2432]
def k0_off21 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v140 : Index := Scalar.indexCast v18
  let c2560 : Index := 2560#32
  ![v140.toNat, 2560]
def k0_off22 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v146 : Index := Scalar.indexCast v18
  let c2688 : Index := 2688#32
  ![v146.toNat, 2688]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v152 : Index := Scalar.indexCast v18
  let c2816 : Index := 2816#32
  ![v152.toNat, 2816]
def k0_off24 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v158 : Index := Scalar.indexCast v18
  let c2944 : Index := 2944#32
  ![v158.toNat, 2944]
def k0_off25 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v164 : Index := Scalar.indexCast v18
  let c3072 : Index := 3072#32
  ![v164.toNat, 3072]
def k0_off26 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v170 : Index := Scalar.indexCast v18
  let c3200 : Index := 3200#32
  ![v170.toNat, 3200]
def k0_off27 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v176 : Index := Scalar.indexCast v18
  let c3328 : Index := 3328#32
  ![v176.toNat, 3328]
def k0_off28 (i : grid0.Coords) (k0_t1 : Fin k0_t1_loop.trips) : Fin 2 → Nat :=
  let arg0 : BitVec 32 := BitVec.ofNat 32 (i 0).val
  let c4_i32_10 : BitVec 32 := 4#32
  let v193 : BitVec 32 := Scalar.muli arg0 c4_i32_10
  let c0_i32 : BitVec 32 := 0#32
  let c1_i32 : BitVec 32 := 1#32
  let arg9 : BitVec 32 := Scf.iv c0_i32 c1_i32 k0_t1
  let v194 : BitVec 32 := Scalar.addi v193 arg9
  let v195 : Index := Scalar.indexCast v194
  let c0_11 : Index := 0#32
  ![v195.toNat, 0]
def k0_off29 (k0_t1 : Fin k0_t1_loop.trips) : Fin 2 → Nat :=
  let c0_42 : Index := 0#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v287 : Index := Scalar.indexCast v18
  ![0, v287.toNat]
def k0_off30 (i : grid0.Coords) (k0_t1 : Fin k0_t1_loop.trips) : Fin 3 → Nat :=
  let c0_51 : Index := 0#32
  let arg0 : BitVec 32 := BitVec.ofNat 32 (i 0).val
  let c32_i32_44 : BitVec 32 := 32#32
  let c0_i32_45 : BitVec 32 := 0#32
  let v294 : BitVec 1 := Scalar.cmpi .eq c32_i32_44 c0_i32_45
  let c1_i32_46 : BitVec 32 := 1#32
  let v295 : BitVec 32 := Scalar.select v294 c1_i32_46 c32_i32_44
  let v296 : BitVec 32 := Scalar.remsi arg0 v295
  let c0_i32_48 : BitVec 32 := 0#32
  let v298 : BitVec 1 := Scalar.cmpi .slt v296 c0_i32_48
  let c0_i32_49 : BitVec 32 := 0#32
  let v299 : BitVec 1 := Scalar.cmpi .slt v295 c0_i32_49
  let v300 : BitVec 1 := Scalar.xori v298 v299
  let c0_i32_47 : BitVec 32 := 0#32
  let v297 : BitVec 1 := Scalar.cmpi .ne v296 c0_i32_47
  let v301 : BitVec 1 := Scalar.andi v300 v297
  let v302 : BitVec 32 := Scalar.addi v296 v295
  let v303 : BitVec 32 := Scalar.select v301 v302 v296
  let c4_i32_50 : BitVec 32 := 4#32
  let v304 : BitVec 32 := Scalar.muli v303 c4_i32_50
  let c0_i32 : BitVec 32 := 0#32
  let c1_i32 : BitVec 32 := 1#32
  let arg9 : BitVec 32 := Scf.iv c0_i32 c1_i32 k0_t1
  let v305 : BitVec 32 := Scalar.addi v304 arg9
  let v306 : Index := Scalar.indexCast v305
  let c0_52 : Index := 0#32
  ![0, v306.toNat, 0]
def k0_off31 (k0_t1 : Fin k0_t1_loop.trips) : Fin 2 → Nat :=
  let c128_85 : Index := 128#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v399 : Index := Scalar.indexCast v18
  ![128, v399.toNat]
def k0_off32 (i : grid0.Coords) (k0_t1 : Fin k0_t1_loop.trips) : Fin 3 → Nat :=
  let c1 : Index := 1#32
  let arg0 : BitVec 32 := BitVec.ofNat 32 (i 0).val
  let c32_i32_87 : BitVec 32 := 32#32
  let c0_i32_88 : BitVec 32 := 0#32
  let v406 : BitVec 1 := Scalar.cmpi .eq c32_i32_87 c0_i32_88
  let c1_i32_89 : BitVec 32 := 1#32
  let v407 : BitVec 32 := Scalar.select v406 c1_i32_89 c32_i32_87
  let v408 : BitVec 32 := Scalar.remsi arg0 v407
  let c0_i32_91 : BitVec 32 := 0#32
  let v410 : BitVec 1 := Scalar.cmpi .slt v408 c0_i32_91
  let c0_i32_92 : BitVec 32 := 0#32
  let v411 : BitVec 1 := Scalar.cmpi .slt v407 c0_i32_92
  let v412 : BitVec 1 := Scalar.xori v410 v411
  let c0_i32_90 : BitVec 32 := 0#32
  let v409 : BitVec 1 := Scalar.cmpi .ne v408 c0_i32_90
  let v413 : BitVec 1 := Scalar.andi v412 v409
  let v414 : BitVec 32 := Scalar.addi v408 v407
  let v415 : BitVec 32 := Scalar.select v413 v414 v408
  let c4_i32_93 : BitVec 32 := 4#32
  let v416 : BitVec 32 := Scalar.muli v415 c4_i32_93
  let c0_i32 : BitVec 32 := 0#32
  let c1_i32 : BitVec 32 := 1#32
  let arg9 : BitVec 32 := Scf.iv c0_i32 c1_i32 k0_t1
  let v417 : BitVec 32 := Scalar.addi v416 arg9
  let v418 : Index := Scalar.indexCast v417
  let c0_94 : Index := 0#32
  ![1, v418.toNat, 0]
def k0_off33 (k0_t1 : Fin k0_t1_loop.trips) : Fin 2 → Nat :=
  let c256_127 : Index := 256#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v511 : Index := Scalar.indexCast v18
  ![256, v511.toNat]
def k0_off34 (i : grid0.Coords) (k0_t1 : Fin k0_t1_loop.trips) : Fin 3 → Nat :=
  let c2 : Index := 2#32
  let arg0 : BitVec 32 := BitVec.ofNat 32 (i 0).val
  let c32_i32_128 : BitVec 32 := 32#32
  let c0_i32_129 : BitVec 32 := 0#32
  let v518 : BitVec 1 := Scalar.cmpi .eq c32_i32_128 c0_i32_129
  let c1_i32_130 : BitVec 32 := 1#32
  let v519 : BitVec 32 := Scalar.select v518 c1_i32_130 c32_i32_128
  let v520 : BitVec 32 := Scalar.remsi arg0 v519
  let c0_i32_132 : BitVec 32 := 0#32
  let v522 : BitVec 1 := Scalar.cmpi .slt v520 c0_i32_132
  let c0_i32_133 : BitVec 32 := 0#32
  let v523 : BitVec 1 := Scalar.cmpi .slt v519 c0_i32_133
  let v524 : BitVec 1 := Scalar.xori v522 v523
  let c0_i32_131 : BitVec 32 := 0#32
  let v521 : BitVec 1 := Scalar.cmpi .ne v520 c0_i32_131
  let v525 : BitVec 1 := Scalar.andi v524 v521
  let v526 : BitVec 32 := Scalar.addi v520 v519
  let v527 : BitVec 32 := Scalar.select v525 v526 v520
  let c4_i32_134 : BitVec 32 := 4#32
  let v528 : BitVec 32 := Scalar.muli v527 c4_i32_134
  let c0_i32 : BitVec 32 := 0#32
  let c1_i32 : BitVec 32 := 1#32
  let arg9 : BitVec 32 := Scf.iv c0_i32 c1_i32 k0_t1
  let v529 : BitVec 32 := Scalar.addi v528 arg9
  let v530 : Index := Scalar.indexCast v529
  let c0_135 : Index := 0#32
  ![2, v530.toNat, 0]
def k0_off35 (k0_t1 : Fin k0_t1_loop.trips) : Fin 2 → Nat :=
  let c384_168 : Index := 384#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v623 : Index := Scalar.indexCast v18
  ![384, v623.toNat]
def k0_off36 (i : grid0.Coords) (k0_t1 : Fin k0_t1_loop.trips) : Fin 3 → Nat :=
  let c3 : Index := 3#32
  let arg0 : BitVec 32 := BitVec.ofNat 32 (i 0).val
  let c32_i32_169 : BitVec 32 := 32#32
  let c0_i32_170 : BitVec 32 := 0#32
  let v630 : BitVec 1 := Scalar.cmpi .eq c32_i32_169 c0_i32_170
  let c1_i32_171 : BitVec 32 := 1#32
  let v631 : BitVec 32 := Scalar.select v630 c1_i32_171 c32_i32_169
  let v632 : BitVec 32 := Scalar.remsi arg0 v631
  let c0_i32_173 : BitVec 32 := 0#32
  let v634 : BitVec 1 := Scalar.cmpi .slt v632 c0_i32_173
  let c0_i32_174 : BitVec 32 := 0#32
  let v635 : BitVec 1 := Scalar.cmpi .slt v631 c0_i32_174
  let v636 : BitVec 1 := Scalar.xori v634 v635
  let c0_i32_172 : BitVec 32 := 0#32
  let v633 : BitVec 1 := Scalar.cmpi .ne v632 c0_i32_172
  let v637 : BitVec 1 := Scalar.andi v636 v633
  let v638 : BitVec 32 := Scalar.addi v632 v631
  let v639 : BitVec 32 := Scalar.select v637 v638 v632
  let c4_i32_175 : BitVec 32 := 4#32
  let v640 : BitVec 32 := Scalar.muli v639 c4_i32_175
  let c0_i32 : BitVec 32 := 0#32
  let c1_i32 : BitVec 32 := 1#32
  let arg9 : BitVec 32 := Scf.iv c0_i32 c1_i32 k0_t1
  let v641 : BitVec 32 := Scalar.addi v640 arg9
  let v642 : Index := Scalar.indexCast v641
  let c0_176 : Index := 0#32
  ![3, v642.toNat, 0]
def k0_off37 (k0_t1 : Fin k0_t1_loop.trips) : Fin 2 → Nat :=
  let c512_209 : Index := 512#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v735 : Index := Scalar.indexCast v18
  ![512, v735.toNat]
def k0_off38 (i : grid0.Coords) (k0_t1 : Fin k0_t1_loop.trips) : Fin 3 → Nat :=
  let c4 : Index := 4#32
  let arg0 : BitVec 32 := BitVec.ofNat 32 (i 0).val
  let c32_i32_211 : BitVec 32 := 32#32
  let c0_i32_212 : BitVec 32 := 0#32
  let v742 : BitVec 1 := Scalar.cmpi .eq c32_i32_211 c0_i32_212
  let c1_i32_213 : BitVec 32 := 1#32
  let v743 : BitVec 32 := Scalar.select v742 c1_i32_213 c32_i32_211
  let v744 : BitVec 32 := Scalar.remsi arg0 v743
  let c0_i32_215 : BitVec 32 := 0#32
  let v746 : BitVec 1 := Scalar.cmpi .slt v744 c0_i32_215
  let c0_i32_216 : BitVec 32 := 0#32
  let v747 : BitVec 1 := Scalar.cmpi .slt v743 c0_i32_216
  let v748 : BitVec 1 := Scalar.xori v746 v747
  let c0_i32_214 : BitVec 32 := 0#32
  let v745 : BitVec 1 := Scalar.cmpi .ne v744 c0_i32_214
  let v749 : BitVec 1 := Scalar.andi v748 v745
  let v750 : BitVec 32 := Scalar.addi v744 v743
  let v751 : BitVec 32 := Scalar.select v749 v750 v744
  let c4_i32_217 : BitVec 32 := 4#32
  let v752 : BitVec 32 := Scalar.muli v751 c4_i32_217
  let c0_i32 : BitVec 32 := 0#32
  let c1_i32 : BitVec 32 := 1#32
  let arg9 : BitVec 32 := Scf.iv c0_i32 c1_i32 k0_t1
  let v753 : BitVec 32 := Scalar.addi v752 arg9
  let v754 : Index := Scalar.indexCast v753
  let c0_218 : Index := 0#32
  ![4, v754.toNat, 0]
def k0_off39 (k0_t1 : Fin k0_t1_loop.trips) : Fin 2 → Nat :=
  let c640_251 : Index := 640#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v847 : Index := Scalar.indexCast v18
  ![640, v847.toNat]
def k0_off40 (i : grid0.Coords) (k0_t1 : Fin k0_t1_loop.trips) : Fin 3 → Nat :=
  let c5 : Index := 5#32
  let arg0 : BitVec 32 := BitVec.ofNat 32 (i 0).val
  let c32_i32_252 : BitVec 32 := 32#32
  let c0_i32_253 : BitVec 32 := 0#32
  let v854 : BitVec 1 := Scalar.cmpi .eq c32_i32_252 c0_i32_253
  let c1_i32_254 : BitVec 32 := 1#32
  let v855 : BitVec 32 := Scalar.select v854 c1_i32_254 c32_i32_252
  let v856 : BitVec 32 := Scalar.remsi arg0 v855
  let c0_i32_256 : BitVec 32 := 0#32
  let v858 : BitVec 1 := Scalar.cmpi .slt v856 c0_i32_256
  let c0_i32_257 : BitVec 32 := 0#32
  let v859 : BitVec 1 := Scalar.cmpi .slt v855 c0_i32_257
  let v860 : BitVec 1 := Scalar.xori v858 v859
  let c0_i32_255 : BitVec 32 := 0#32
  let v857 : BitVec 1 := Scalar.cmpi .ne v856 c0_i32_255
  let v861 : BitVec 1 := Scalar.andi v860 v857
  let v862 : BitVec 32 := Scalar.addi v856 v855
  let v863 : BitVec 32 := Scalar.select v861 v862 v856
  let c4_i32_258 : BitVec 32 := 4#32
  let v864 : BitVec 32 := Scalar.muli v863 c4_i32_258
  let c0_i32 : BitVec 32 := 0#32
  let c1_i32 : BitVec 32 := 1#32
  let arg9 : BitVec 32 := Scf.iv c0_i32 c1_i32 k0_t1
  let v865 : BitVec 32 := Scalar.addi v864 arg9
  let v866 : Index := Scalar.indexCast v865
  let c0_259 : Index := 0#32
  ![5, v866.toNat, 0]
def k0_off41 (k0_t1 : Fin k0_t1_loop.trips) : Fin 2 → Nat :=
  let c768_292 : Index := 768#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v959 : Index := Scalar.indexCast v18
  ![768, v959.toNat]
def k0_off42 (i : grid0.Coords) (k0_t1 : Fin k0_t1_loop.trips) : Fin 3 → Nat :=
  let c6 : Index := 6#32
  let arg0 : BitVec 32 := BitVec.ofNat 32 (i 0).val
  let c32_i32_293 : BitVec 32 := 32#32
  let c0_i32_294 : BitVec 32 := 0#32
  let v966 : BitVec 1 := Scalar.cmpi .eq c32_i32_293 c0_i32_294
  let c1_i32_295 : BitVec 32 := 1#32
  let v967 : BitVec 32 := Scalar.select v966 c1_i32_295 c32_i32_293
  let v968 : BitVec 32 := Scalar.remsi arg0 v967
  let c0_i32_297 : BitVec 32 := 0#32
  let v970 : BitVec 1 := Scalar.cmpi .slt v968 c0_i32_297
  let c0_i32_298 : BitVec 32 := 0#32
  let v971 : BitVec 1 := Scalar.cmpi .slt v967 c0_i32_298
  let v972 : BitVec 1 := Scalar.xori v970 v971
  let c0_i32_296 : BitVec 32 := 0#32
  let v969 : BitVec 1 := Scalar.cmpi .ne v968 c0_i32_296
  let v973 : BitVec 1 := Scalar.andi v972 v969
  let v974 : BitVec 32 := Scalar.addi v968 v967
  let v975 : BitVec 32 := Scalar.select v973 v974 v968
  let c4_i32_299 : BitVec 32 := 4#32
  let v976 : BitVec 32 := Scalar.muli v975 c4_i32_299
  let c0_i32 : BitVec 32 := 0#32
  let c1_i32 : BitVec 32 := 1#32
  let arg9 : BitVec 32 := Scf.iv c0_i32 c1_i32 k0_t1
  let v977 : BitVec 32 := Scalar.addi v976 arg9
  let v978 : Index := Scalar.indexCast v977
  let c0_300 : Index := 0#32
  ![6, v978.toNat, 0]
def k0_off43 (k0_t1 : Fin k0_t1_loop.trips) : Fin 2 → Nat :=
  let c896_333 : Index := 896#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1071 : Index := Scalar.indexCast v18
  ![896, v1071.toNat]
def k0_off44 (i : grid0.Coords) (k0_t1 : Fin k0_t1_loop.trips) : Fin 3 → Nat :=
  let c7 : Index := 7#32
  let arg0 : BitVec 32 := BitVec.ofNat 32 (i 0).val
  let c32_i32_334 : BitVec 32 := 32#32
  let c0_i32_335 : BitVec 32 := 0#32
  let v1078 : BitVec 1 := Scalar.cmpi .eq c32_i32_334 c0_i32_335
  let c1_i32_336 : BitVec 32 := 1#32
  let v1079 : BitVec 32 := Scalar.select v1078 c1_i32_336 c32_i32_334
  let v1080 : BitVec 32 := Scalar.remsi arg0 v1079
  let c0_i32_338 : BitVec 32 := 0#32
  let v1082 : BitVec 1 := Scalar.cmpi .slt v1080 c0_i32_338
  let c0_i32_339 : BitVec 32 := 0#32
  let v1083 : BitVec 1 := Scalar.cmpi .slt v1079 c0_i32_339
  let v1084 : BitVec 1 := Scalar.xori v1082 v1083
  let c0_i32_337 : BitVec 32 := 0#32
  let v1081 : BitVec 1 := Scalar.cmpi .ne v1080 c0_i32_337
  let v1085 : BitVec 1 := Scalar.andi v1084 v1081
  let v1086 : BitVec 32 := Scalar.addi v1080 v1079
  let v1087 : BitVec 32 := Scalar.select v1085 v1086 v1080
  let c4_i32_340 : BitVec 32 := 4#32
  let v1088 : BitVec 32 := Scalar.muli v1087 c4_i32_340
  let c0_i32 : BitVec 32 := 0#32
  let c1_i32 : BitVec 32 := 1#32
  let arg9 : BitVec 32 := Scf.iv c0_i32 c1_i32 k0_t1
  let v1089 : BitVec 32 := Scalar.addi v1088 arg9
  let v1090 : Index := Scalar.indexCast v1089
  let c0_341 : Index := 0#32
  ![7, v1090.toNat, 0]
def k0_off45 (k0_t1 : Fin k0_t1_loop.trips) : Fin 2 → Nat :=
  let c1024_374 : Index := 1024#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1183 : Index := Scalar.indexCast v18
  ![1024, v1183.toNat]
def k0_off46 (i : grid0.Coords) (k0_t1 : Fin k0_t1_loop.trips) : Fin 3 → Nat :=
  let c8 : Index := 8#32
  let arg0 : BitVec 32 := BitVec.ofNat 32 (i 0).val
  let c32_i32_375 : BitVec 32 := 32#32
  let c0_i32_376 : BitVec 32 := 0#32
  let v1190 : BitVec 1 := Scalar.cmpi .eq c32_i32_375 c0_i32_376
  let c1_i32_377 : BitVec 32 := 1#32
  let v1191 : BitVec 32 := Scalar.select v1190 c1_i32_377 c32_i32_375
  let v1192 : BitVec 32 := Scalar.remsi arg0 v1191
  let c0_i32_379 : BitVec 32 := 0#32
  let v1194 : BitVec 1 := Scalar.cmpi .slt v1192 c0_i32_379
  let c0_i32_380 : BitVec 32 := 0#32
  let v1195 : BitVec 1 := Scalar.cmpi .slt v1191 c0_i32_380
  let v1196 : BitVec 1 := Scalar.xori v1194 v1195
  let c0_i32_378 : BitVec 32 := 0#32
  let v1193 : BitVec 1 := Scalar.cmpi .ne v1192 c0_i32_378
  let v1197 : BitVec 1 := Scalar.andi v1196 v1193
  let v1198 : BitVec 32 := Scalar.addi v1192 v1191
  let v1199 : BitVec 32 := Scalar.select v1197 v1198 v1192
  let c4_i32_381 : BitVec 32 := 4#32
  let v1200 : BitVec 32 := Scalar.muli v1199 c4_i32_381
  let c0_i32 : BitVec 32 := 0#32
  let c1_i32 : BitVec 32 := 1#32
  let arg9 : BitVec 32 := Scf.iv c0_i32 c1_i32 k0_t1
  let v1201 : BitVec 32 := Scalar.addi v1200 arg9
  let v1202 : Index := Scalar.indexCast v1201
  let c0_382 : Index := 0#32
  ![8, v1202.toNat, 0]
def k0_off47 (k0_t1 : Fin k0_t1_loop.trips) : Fin 2 → Nat :=
  let c1152_415 : Index := 1152#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1295 : Index := Scalar.indexCast v18
  ![1152, v1295.toNat]
def k0_off48 (i : grid0.Coords) (k0_t1 : Fin k0_t1_loop.trips) : Fin 3 → Nat :=
  let c9 : Index := 9#32
  let arg0 : BitVec 32 := BitVec.ofNat 32 (i 0).val
  let c32_i32_416 : BitVec 32 := 32#32
  let c0_i32_417 : BitVec 32 := 0#32
  let v1302 : BitVec 1 := Scalar.cmpi .eq c32_i32_416 c0_i32_417
  let c1_i32_418 : BitVec 32 := 1#32
  let v1303 : BitVec 32 := Scalar.select v1302 c1_i32_418 c32_i32_416
  let v1304 : BitVec 32 := Scalar.remsi arg0 v1303
  let c0_i32_420 : BitVec 32 := 0#32
  let v1306 : BitVec 1 := Scalar.cmpi .slt v1304 c0_i32_420
  let c0_i32_421 : BitVec 32 := 0#32
  let v1307 : BitVec 1 := Scalar.cmpi .slt v1303 c0_i32_421
  let v1308 : BitVec 1 := Scalar.xori v1306 v1307
  let c0_i32_419 : BitVec 32 := 0#32
  let v1305 : BitVec 1 := Scalar.cmpi .ne v1304 c0_i32_419
  let v1309 : BitVec 1 := Scalar.andi v1308 v1305
  let v1310 : BitVec 32 := Scalar.addi v1304 v1303
  let v1311 : BitVec 32 := Scalar.select v1309 v1310 v1304
  let c4_i32_422 : BitVec 32 := 4#32
  let v1312 : BitVec 32 := Scalar.muli v1311 c4_i32_422
  let c0_i32 : BitVec 32 := 0#32
  let c1_i32 : BitVec 32 := 1#32
  let arg9 : BitVec 32 := Scf.iv c0_i32 c1_i32 k0_t1
  let v1313 : BitVec 32 := Scalar.addi v1312 arg9
  let v1314 : Index := Scalar.indexCast v1313
  let c0_423 : Index := 0#32
  ![9, v1314.toNat, 0]
def k0_off49 (k0_t1 : Fin k0_t1_loop.trips) : Fin 2 → Nat :=
  let c1280_456 : Index := 1280#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1407 : Index := Scalar.indexCast v18
  ![1280, v1407.toNat]
def k0_off50 (i : grid0.Coords) (k0_t1 : Fin k0_t1_loop.trips) : Fin 3 → Nat :=
  let c10 : Index := 10#32
  let arg0 : BitVec 32 := BitVec.ofNat 32 (i 0).val
  let c32_i32_457 : BitVec 32 := 32#32
  let c0_i32_458 : BitVec 32 := 0#32
  let v1414 : BitVec 1 := Scalar.cmpi .eq c32_i32_457 c0_i32_458
  let c1_i32_459 : BitVec 32 := 1#32
  let v1415 : BitVec 32 := Scalar.select v1414 c1_i32_459 c32_i32_457
  let v1416 : BitVec 32 := Scalar.remsi arg0 v1415
  let c0_i32_461 : BitVec 32 := 0#32
  let v1418 : BitVec 1 := Scalar.cmpi .slt v1416 c0_i32_461
  let c0_i32_462 : BitVec 32 := 0#32
  let v1419 : BitVec 1 := Scalar.cmpi .slt v1415 c0_i32_462
  let v1420 : BitVec 1 := Scalar.xori v1418 v1419
  let c0_i32_460 : BitVec 32 := 0#32
  let v1417 : BitVec 1 := Scalar.cmpi .ne v1416 c0_i32_460
  let v1421 : BitVec 1 := Scalar.andi v1420 v1417
  let v1422 : BitVec 32 := Scalar.addi v1416 v1415
  let v1423 : BitVec 32 := Scalar.select v1421 v1422 v1416
  let c4_i32_463 : BitVec 32 := 4#32
  let v1424 : BitVec 32 := Scalar.muli v1423 c4_i32_463
  let c0_i32 : BitVec 32 := 0#32
  let c1_i32 : BitVec 32 := 1#32
  let arg9 : BitVec 32 := Scf.iv c0_i32 c1_i32 k0_t1
  let v1425 : BitVec 32 := Scalar.addi v1424 arg9
  let v1426 : Index := Scalar.indexCast v1425
  let c0_464 : Index := 0#32
  ![10, v1426.toNat, 0]
def k0_off51 (k0_t1 : Fin k0_t1_loop.trips) : Fin 2 → Nat :=
  let c1408_497 : Index := 1408#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1519 : Index := Scalar.indexCast v18
  ![1408, v1519.toNat]
def k0_off52 (i : grid0.Coords) (k0_t1 : Fin k0_t1_loop.trips) : Fin 3 → Nat :=
  let c11 : Index := 11#32
  let arg0 : BitVec 32 := BitVec.ofNat 32 (i 0).val
  let c32_i32_498 : BitVec 32 := 32#32
  let c0_i32_499 : BitVec 32 := 0#32
  let v1526 : BitVec 1 := Scalar.cmpi .eq c32_i32_498 c0_i32_499
  let c1_i32_500 : BitVec 32 := 1#32
  let v1527 : BitVec 32 := Scalar.select v1526 c1_i32_500 c32_i32_498
  let v1528 : BitVec 32 := Scalar.remsi arg0 v1527
  let c0_i32_502 : BitVec 32 := 0#32
  let v1530 : BitVec 1 := Scalar.cmpi .slt v1528 c0_i32_502
  let c0_i32_503 : BitVec 32 := 0#32
  let v1531 : BitVec 1 := Scalar.cmpi .slt v1527 c0_i32_503
  let v1532 : BitVec 1 := Scalar.xori v1530 v1531
  let c0_i32_501 : BitVec 32 := 0#32
  let v1529 : BitVec 1 := Scalar.cmpi .ne v1528 c0_i32_501
  let v1533 : BitVec 1 := Scalar.andi v1532 v1529
  let v1534 : BitVec 32 := Scalar.addi v1528 v1527
  let v1535 : BitVec 32 := Scalar.select v1533 v1534 v1528
  let c4_i32_504 : BitVec 32 := 4#32
  let v1536 : BitVec 32 := Scalar.muli v1535 c4_i32_504
  let c0_i32 : BitVec 32 := 0#32
  let c1_i32 : BitVec 32 := 1#32
  let arg9 : BitVec 32 := Scf.iv c0_i32 c1_i32 k0_t1
  let v1537 : BitVec 32 := Scalar.addi v1536 arg9
  let v1538 : Index := Scalar.indexCast v1537
  let c0_505 : Index := 0#32
  ![11, v1538.toNat, 0]
def k0_off53 (k0_t1 : Fin k0_t1_loop.trips) : Fin 2 → Nat :=
  let c1536_538 : Index := 1536#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1631 : Index := Scalar.indexCast v18
  ![1536, v1631.toNat]
def k0_off54 (i : grid0.Coords) (k0_t1 : Fin k0_t1_loop.trips) : Fin 3 → Nat :=
  let c12 : Index := 12#32
  let arg0 : BitVec 32 := BitVec.ofNat 32 (i 0).val
  let c32_i32_539 : BitVec 32 := 32#32
  let c0_i32_540 : BitVec 32 := 0#32
  let v1638 : BitVec 1 := Scalar.cmpi .eq c32_i32_539 c0_i32_540
  let c1_i32_541 : BitVec 32 := 1#32
  let v1639 : BitVec 32 := Scalar.select v1638 c1_i32_541 c32_i32_539
  let v1640 : BitVec 32 := Scalar.remsi arg0 v1639
  let c0_i32_543 : BitVec 32 := 0#32
  let v1642 : BitVec 1 := Scalar.cmpi .slt v1640 c0_i32_543
  let c0_i32_544 : BitVec 32 := 0#32
  let v1643 : BitVec 1 := Scalar.cmpi .slt v1639 c0_i32_544
  let v1644 : BitVec 1 := Scalar.xori v1642 v1643
  let c0_i32_542 : BitVec 32 := 0#32
  let v1641 : BitVec 1 := Scalar.cmpi .ne v1640 c0_i32_542
  let v1645 : BitVec 1 := Scalar.andi v1644 v1641
  let v1646 : BitVec 32 := Scalar.addi v1640 v1639
  let v1647 : BitVec 32 := Scalar.select v1645 v1646 v1640
  let c4_i32_545 : BitVec 32 := 4#32
  let v1648 : BitVec 32 := Scalar.muli v1647 c4_i32_545
  let c0_i32 : BitVec 32 := 0#32
  let c1_i32 : BitVec 32 := 1#32
  let arg9 : BitVec 32 := Scf.iv c0_i32 c1_i32 k0_t1
  let v1649 : BitVec 32 := Scalar.addi v1648 arg9
  let v1650 : Index := Scalar.indexCast v1649
  let c0_546 : Index := 0#32
  ![12, v1650.toNat, 0]
def k0_off55 (k0_t1 : Fin k0_t1_loop.trips) : Fin 2 → Nat :=
  let c1664_579 : Index := 1664#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1743 : Index := Scalar.indexCast v18
  ![1664, v1743.toNat]
def k0_off56 (i : grid0.Coords) (k0_t1 : Fin k0_t1_loop.trips) : Fin 3 → Nat :=
  let c13 : Index := 13#32
  let arg0 : BitVec 32 := BitVec.ofNat 32 (i 0).val
  let c32_i32_580 : BitVec 32 := 32#32
  let c0_i32_581 : BitVec 32 := 0#32
  let v1750 : BitVec 1 := Scalar.cmpi .eq c32_i32_580 c0_i32_581
  let c1_i32_582 : BitVec 32 := 1#32
  let v1751 : BitVec 32 := Scalar.select v1750 c1_i32_582 c32_i32_580
  let v1752 : BitVec 32 := Scalar.remsi arg0 v1751
  let c0_i32_584 : BitVec 32 := 0#32
  let v1754 : BitVec 1 := Scalar.cmpi .slt v1752 c0_i32_584
  let c0_i32_585 : BitVec 32 := 0#32
  let v1755 : BitVec 1 := Scalar.cmpi .slt v1751 c0_i32_585
  let v1756 : BitVec 1 := Scalar.xori v1754 v1755
  let c0_i32_583 : BitVec 32 := 0#32
  let v1753 : BitVec 1 := Scalar.cmpi .ne v1752 c0_i32_583
  let v1757 : BitVec 1 := Scalar.andi v1756 v1753
  let v1758 : BitVec 32 := Scalar.addi v1752 v1751
  let v1759 : BitVec 32 := Scalar.select v1757 v1758 v1752
  let c4_i32_586 : BitVec 32 := 4#32
  let v1760 : BitVec 32 := Scalar.muli v1759 c4_i32_586
  let c0_i32 : BitVec 32 := 0#32
  let c1_i32 : BitVec 32 := 1#32
  let arg9 : BitVec 32 := Scf.iv c0_i32 c1_i32 k0_t1
  let v1761 : BitVec 32 := Scalar.addi v1760 arg9
  let v1762 : Index := Scalar.indexCast v1761
  let c0_587 : Index := 0#32
  ![13, v1762.toNat, 0]
def k0_off57 (k0_t1 : Fin k0_t1_loop.trips) : Fin 2 → Nat :=
  let c1792_620 : Index := 1792#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1855 : Index := Scalar.indexCast v18
  ![1792, v1855.toNat]
def k0_off58 (i : grid0.Coords) (k0_t1 : Fin k0_t1_loop.trips) : Fin 3 → Nat :=
  let c14 : Index := 14#32
  let arg0 : BitVec 32 := BitVec.ofNat 32 (i 0).val
  let c32_i32_621 : BitVec 32 := 32#32
  let c0_i32_622 : BitVec 32 := 0#32
  let v1862 : BitVec 1 := Scalar.cmpi .eq c32_i32_621 c0_i32_622
  let c1_i32_623 : BitVec 32 := 1#32
  let v1863 : BitVec 32 := Scalar.select v1862 c1_i32_623 c32_i32_621
  let v1864 : BitVec 32 := Scalar.remsi arg0 v1863
  let c0_i32_625 : BitVec 32 := 0#32
  let v1866 : BitVec 1 := Scalar.cmpi .slt v1864 c0_i32_625
  let c0_i32_626 : BitVec 32 := 0#32
  let v1867 : BitVec 1 := Scalar.cmpi .slt v1863 c0_i32_626
  let v1868 : BitVec 1 := Scalar.xori v1866 v1867
  let c0_i32_624 : BitVec 32 := 0#32
  let v1865 : BitVec 1 := Scalar.cmpi .ne v1864 c0_i32_624
  let v1869 : BitVec 1 := Scalar.andi v1868 v1865
  let v1870 : BitVec 32 := Scalar.addi v1864 v1863
  let v1871 : BitVec 32 := Scalar.select v1869 v1870 v1864
  let c4_i32_627 : BitVec 32 := 4#32
  let v1872 : BitVec 32 := Scalar.muli v1871 c4_i32_627
  let c0_i32 : BitVec 32 := 0#32
  let c1_i32 : BitVec 32 := 1#32
  let arg9 : BitVec 32 := Scf.iv c0_i32 c1_i32 k0_t1
  let v1873 : BitVec 32 := Scalar.addi v1872 arg9
  let v1874 : Index := Scalar.indexCast v1873
  let c0_628 : Index := 0#32
  ![14, v1874.toNat, 0]
def k0_off59 (k0_t1 : Fin k0_t1_loop.trips) : Fin 2 → Nat :=
  let c1920_661 : Index := 1920#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v1967 : Index := Scalar.indexCast v18
  ![1920, v1967.toNat]
def k0_off60 (i : grid0.Coords) (k0_t1 : Fin k0_t1_loop.trips) : Fin 3 → Nat :=
  let c15 : Index := 15#32
  let arg0 : BitVec 32 := BitVec.ofNat 32 (i 0).val
  let c32_i32_662 : BitVec 32 := 32#32
  let c0_i32_663 : BitVec 32 := 0#32
  let v1974 : BitVec 1 := Scalar.cmpi .eq c32_i32_662 c0_i32_663
  let c1_i32_664 : BitVec 32 := 1#32
  let v1975 : BitVec 32 := Scalar.select v1974 c1_i32_664 c32_i32_662
  let v1976 : BitVec 32 := Scalar.remsi arg0 v1975
  let c0_i32_666 : BitVec 32 := 0#32
  let v1978 : BitVec 1 := Scalar.cmpi .slt v1976 c0_i32_666
  let c0_i32_667 : BitVec 32 := 0#32
  let v1979 : BitVec 1 := Scalar.cmpi .slt v1975 c0_i32_667
  let v1980 : BitVec 1 := Scalar.xori v1978 v1979
  let c0_i32_665 : BitVec 32 := 0#32
  let v1977 : BitVec 1 := Scalar.cmpi .ne v1976 c0_i32_665
  let v1981 : BitVec 1 := Scalar.andi v1980 v1977
  let v1982 : BitVec 32 := Scalar.addi v1976 v1975
  let v1983 : BitVec 32 := Scalar.select v1981 v1982 v1976
  let c4_i32_668 : BitVec 32 := 4#32
  let v1984 : BitVec 32 := Scalar.muli v1983 c4_i32_668
  let c0_i32 : BitVec 32 := 0#32
  let c1_i32 : BitVec 32 := 1#32
  let arg9 : BitVec 32 := Scf.iv c0_i32 c1_i32 k0_t1
  let v1985 : BitVec 32 := Scalar.addi v1984 arg9
  let v1986 : Index := Scalar.indexCast v1985
  let c0_669 : Index := 0#32
  ![15, v1986.toNat, 0]
def k0_off61 (k0_t1 : Fin k0_t1_loop.trips) : Fin 2 → Nat :=
  let c2048_702 : Index := 2048#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2079 : Index := Scalar.indexCast v18
  ![2048, v2079.toNat]
def k0_off62 (i : grid0.Coords) (k0_t1 : Fin k0_t1_loop.trips) : Fin 3 → Nat :=
  let c16 : Index := 16#32
  let arg0 : BitVec 32 := BitVec.ofNat 32 (i 0).val
  let c32_i32_703 : BitVec 32 := 32#32
  let c0_i32_704 : BitVec 32 := 0#32
  let v2086 : BitVec 1 := Scalar.cmpi .eq c32_i32_703 c0_i32_704
  let c1_i32_705 : BitVec 32 := 1#32
  let v2087 : BitVec 32 := Scalar.select v2086 c1_i32_705 c32_i32_703
  let v2088 : BitVec 32 := Scalar.remsi arg0 v2087
  let c0_i32_707 : BitVec 32 := 0#32
  let v2090 : BitVec 1 := Scalar.cmpi .slt v2088 c0_i32_707
  let c0_i32_708 : BitVec 32 := 0#32
  let v2091 : BitVec 1 := Scalar.cmpi .slt v2087 c0_i32_708
  let v2092 : BitVec 1 := Scalar.xori v2090 v2091
  let c0_i32_706 : BitVec 32 := 0#32
  let v2089 : BitVec 1 := Scalar.cmpi .ne v2088 c0_i32_706
  let v2093 : BitVec 1 := Scalar.andi v2092 v2089
  let v2094 : BitVec 32 := Scalar.addi v2088 v2087
  let v2095 : BitVec 32 := Scalar.select v2093 v2094 v2088
  let c4_i32_709 : BitVec 32 := 4#32
  let v2096 : BitVec 32 := Scalar.muli v2095 c4_i32_709
  let c0_i32 : BitVec 32 := 0#32
  let c1_i32 : BitVec 32 := 1#32
  let arg9 : BitVec 32 := Scf.iv c0_i32 c1_i32 k0_t1
  let v2097 : BitVec 32 := Scalar.addi v2096 arg9
  let v2098 : Index := Scalar.indexCast v2097
  let c0_710 : Index := 0#32
  ![16, v2098.toNat, 0]
def k0_off63 (k0_t1 : Fin k0_t1_loop.trips) : Fin 2 → Nat :=
  let c2176_743 : Index := 2176#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2191 : Index := Scalar.indexCast v18
  ![2176, v2191.toNat]
def k0_off64 (i : grid0.Coords) (k0_t1 : Fin k0_t1_loop.trips) : Fin 3 → Nat :=
  let c17 : Index := 17#32
  let arg0 : BitVec 32 := BitVec.ofNat 32 (i 0).val
  let c32_i32_744 : BitVec 32 := 32#32
  let c0_i32_745 : BitVec 32 := 0#32
  let v2198 : BitVec 1 := Scalar.cmpi .eq c32_i32_744 c0_i32_745
  let c1_i32_746 : BitVec 32 := 1#32
  let v2199 : BitVec 32 := Scalar.select v2198 c1_i32_746 c32_i32_744
  let v2200 : BitVec 32 := Scalar.remsi arg0 v2199
  let c0_i32_748 : BitVec 32 := 0#32
  let v2202 : BitVec 1 := Scalar.cmpi .slt v2200 c0_i32_748
  let c0_i32_749 : BitVec 32 := 0#32
  let v2203 : BitVec 1 := Scalar.cmpi .slt v2199 c0_i32_749
  let v2204 : BitVec 1 := Scalar.xori v2202 v2203
  let c0_i32_747 : BitVec 32 := 0#32
  let v2201 : BitVec 1 := Scalar.cmpi .ne v2200 c0_i32_747
  let v2205 : BitVec 1 := Scalar.andi v2204 v2201
  let v2206 : BitVec 32 := Scalar.addi v2200 v2199
  let v2207 : BitVec 32 := Scalar.select v2205 v2206 v2200
  let c4_i32_750 : BitVec 32 := 4#32
  let v2208 : BitVec 32 := Scalar.muli v2207 c4_i32_750
  let c0_i32 : BitVec 32 := 0#32
  let c1_i32 : BitVec 32 := 1#32
  let arg9 : BitVec 32 := Scf.iv c0_i32 c1_i32 k0_t1
  let v2209 : BitVec 32 := Scalar.addi v2208 arg9
  let v2210 : Index := Scalar.indexCast v2209
  let c0_751 : Index := 0#32
  ![17, v2210.toNat, 0]
def k0_off65 (k0_t1 : Fin k0_t1_loop.trips) : Fin 2 → Nat :=
  let c2304_784 : Index := 2304#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2303 : Index := Scalar.indexCast v18
  ![2304, v2303.toNat]
def k0_off66 (i : grid0.Coords) (k0_t1 : Fin k0_t1_loop.trips) : Fin 3 → Nat :=
  let c18 : Index := 18#32
  let arg0 : BitVec 32 := BitVec.ofNat 32 (i 0).val
  let c32_i32_785 : BitVec 32 := 32#32
  let c0_i32_786 : BitVec 32 := 0#32
  let v2310 : BitVec 1 := Scalar.cmpi .eq c32_i32_785 c0_i32_786
  let c1_i32_787 : BitVec 32 := 1#32
  let v2311 : BitVec 32 := Scalar.select v2310 c1_i32_787 c32_i32_785
  let v2312 : BitVec 32 := Scalar.remsi arg0 v2311
  let c0_i32_789 : BitVec 32 := 0#32
  let v2314 : BitVec 1 := Scalar.cmpi .slt v2312 c0_i32_789
  let c0_i32_790 : BitVec 32 := 0#32
  let v2315 : BitVec 1 := Scalar.cmpi .slt v2311 c0_i32_790
  let v2316 : BitVec 1 := Scalar.xori v2314 v2315
  let c0_i32_788 : BitVec 32 := 0#32
  let v2313 : BitVec 1 := Scalar.cmpi .ne v2312 c0_i32_788
  let v2317 : BitVec 1 := Scalar.andi v2316 v2313
  let v2318 : BitVec 32 := Scalar.addi v2312 v2311
  let v2319 : BitVec 32 := Scalar.select v2317 v2318 v2312
  let c4_i32_791 : BitVec 32 := 4#32
  let v2320 : BitVec 32 := Scalar.muli v2319 c4_i32_791
  let c0_i32 : BitVec 32 := 0#32
  let c1_i32 : BitVec 32 := 1#32
  let arg9 : BitVec 32 := Scf.iv c0_i32 c1_i32 k0_t1
  let v2321 : BitVec 32 := Scalar.addi v2320 arg9
  let v2322 : Index := Scalar.indexCast v2321
  let c0_792 : Index := 0#32
  ![18, v2322.toNat, 0]
def k0_off67 (k0_t1 : Fin k0_t1_loop.trips) : Fin 2 → Nat :=
  let c2432_825 : Index := 2432#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2415 : Index := Scalar.indexCast v18
  ![2432, v2415.toNat]
def k0_off68 (i : grid0.Coords) (k0_t1 : Fin k0_t1_loop.trips) : Fin 3 → Nat :=
  let c19 : Index := 19#32
  let arg0 : BitVec 32 := BitVec.ofNat 32 (i 0).val
  let c32_i32_826 : BitVec 32 := 32#32
  let c0_i32_827 : BitVec 32 := 0#32
  let v2422 : BitVec 1 := Scalar.cmpi .eq c32_i32_826 c0_i32_827
  let c1_i32_828 : BitVec 32 := 1#32
  let v2423 : BitVec 32 := Scalar.select v2422 c1_i32_828 c32_i32_826
  let v2424 : BitVec 32 := Scalar.remsi arg0 v2423
  let c0_i32_830 : BitVec 32 := 0#32
  let v2426 : BitVec 1 := Scalar.cmpi .slt v2424 c0_i32_830
  let c0_i32_831 : BitVec 32 := 0#32
  let v2427 : BitVec 1 := Scalar.cmpi .slt v2423 c0_i32_831
  let v2428 : BitVec 1 := Scalar.xori v2426 v2427
  let c0_i32_829 : BitVec 32 := 0#32
  let v2425 : BitVec 1 := Scalar.cmpi .ne v2424 c0_i32_829
  let v2429 : BitVec 1 := Scalar.andi v2428 v2425
  let v2430 : BitVec 32 := Scalar.addi v2424 v2423
  let v2431 : BitVec 32 := Scalar.select v2429 v2430 v2424
  let c4_i32_832 : BitVec 32 := 4#32
  let v2432 : BitVec 32 := Scalar.muli v2431 c4_i32_832
  let c0_i32 : BitVec 32 := 0#32
  let c1_i32 : BitVec 32 := 1#32
  let arg9 : BitVec 32 := Scf.iv c0_i32 c1_i32 k0_t1
  let v2433 : BitVec 32 := Scalar.addi v2432 arg9
  let v2434 : Index := Scalar.indexCast v2433
  let c0_833 : Index := 0#32
  ![19, v2434.toNat, 0]
def k0_off69 (k0_t1 : Fin k0_t1_loop.trips) : Fin 2 → Nat :=
  let c2560_866 : Index := 2560#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2527 : Index := Scalar.indexCast v18
  ![2560, v2527.toNat]
def k0_off70 (i : grid0.Coords) (k0_t1 : Fin k0_t1_loop.trips) : Fin 3 → Nat :=
  let c20 : Index := 20#32
  let arg0 : BitVec 32 := BitVec.ofNat 32 (i 0).val
  let c32_i32_867 : BitVec 32 := 32#32
  let c0_i32_868 : BitVec 32 := 0#32
  let v2534 : BitVec 1 := Scalar.cmpi .eq c32_i32_867 c0_i32_868
  let c1_i32_869 : BitVec 32 := 1#32
  let v2535 : BitVec 32 := Scalar.select v2534 c1_i32_869 c32_i32_867
  let v2536 : BitVec 32 := Scalar.remsi arg0 v2535
  let c0_i32_871 : BitVec 32 := 0#32
  let v2538 : BitVec 1 := Scalar.cmpi .slt v2536 c0_i32_871
  let c0_i32_872 : BitVec 32 := 0#32
  let v2539 : BitVec 1 := Scalar.cmpi .slt v2535 c0_i32_872
  let v2540 : BitVec 1 := Scalar.xori v2538 v2539
  let c0_i32_870 : BitVec 32 := 0#32
  let v2537 : BitVec 1 := Scalar.cmpi .ne v2536 c0_i32_870
  let v2541 : BitVec 1 := Scalar.andi v2540 v2537
  let v2542 : BitVec 32 := Scalar.addi v2536 v2535
  let v2543 : BitVec 32 := Scalar.select v2541 v2542 v2536
  let c4_i32_873 : BitVec 32 := 4#32
  let v2544 : BitVec 32 := Scalar.muli v2543 c4_i32_873
  let c0_i32 : BitVec 32 := 0#32
  let c1_i32 : BitVec 32 := 1#32
  let arg9 : BitVec 32 := Scf.iv c0_i32 c1_i32 k0_t1
  let v2545 : BitVec 32 := Scalar.addi v2544 arg9
  let v2546 : Index := Scalar.indexCast v2545
  let c0_874 : Index := 0#32
  ![20, v2546.toNat, 0]
def k0_off71 (k0_t1 : Fin k0_t1_loop.trips) : Fin 2 → Nat :=
  let c2688_907 : Index := 2688#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2639 : Index := Scalar.indexCast v18
  ![2688, v2639.toNat]
def k0_off72 (i : grid0.Coords) (k0_t1 : Fin k0_t1_loop.trips) : Fin 3 → Nat :=
  let c21 : Index := 21#32
  let arg0 : BitVec 32 := BitVec.ofNat 32 (i 0).val
  let c32_i32_908 : BitVec 32 := 32#32
  let c0_i32_909 : BitVec 32 := 0#32
  let v2646 : BitVec 1 := Scalar.cmpi .eq c32_i32_908 c0_i32_909
  let c1_i32_910 : BitVec 32 := 1#32
  let v2647 : BitVec 32 := Scalar.select v2646 c1_i32_910 c32_i32_908
  let v2648 : BitVec 32 := Scalar.remsi arg0 v2647
  let c0_i32_912 : BitVec 32 := 0#32
  let v2650 : BitVec 1 := Scalar.cmpi .slt v2648 c0_i32_912
  let c0_i32_913 : BitVec 32 := 0#32
  let v2651 : BitVec 1 := Scalar.cmpi .slt v2647 c0_i32_913
  let v2652 : BitVec 1 := Scalar.xori v2650 v2651
  let c0_i32_911 : BitVec 32 := 0#32
  let v2649 : BitVec 1 := Scalar.cmpi .ne v2648 c0_i32_911
  let v2653 : BitVec 1 := Scalar.andi v2652 v2649
  let v2654 : BitVec 32 := Scalar.addi v2648 v2647
  let v2655 : BitVec 32 := Scalar.select v2653 v2654 v2648
  let c4_i32_914 : BitVec 32 := 4#32
  let v2656 : BitVec 32 := Scalar.muli v2655 c4_i32_914
  let c0_i32 : BitVec 32 := 0#32
  let c1_i32 : BitVec 32 := 1#32
  let arg9 : BitVec 32 := Scf.iv c0_i32 c1_i32 k0_t1
  let v2657 : BitVec 32 := Scalar.addi v2656 arg9
  let v2658 : Index := Scalar.indexCast v2657
  let c0_915 : Index := 0#32
  ![21, v2658.toNat, 0]
def k0_off73 (k0_t1 : Fin k0_t1_loop.trips) : Fin 2 → Nat :=
  let c2816_948 : Index := 2816#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2751 : Index := Scalar.indexCast v18
  ![2816, v2751.toNat]
def k0_off74 (i : grid0.Coords) (k0_t1 : Fin k0_t1_loop.trips) : Fin 3 → Nat :=
  let c22 : Index := 22#32
  let arg0 : BitVec 32 := BitVec.ofNat 32 (i 0).val
  let c32_i32_949 : BitVec 32 := 32#32
  let c0_i32_950 : BitVec 32 := 0#32
  let v2758 : BitVec 1 := Scalar.cmpi .eq c32_i32_949 c0_i32_950
  let c1_i32_951 : BitVec 32 := 1#32
  let v2759 : BitVec 32 := Scalar.select v2758 c1_i32_951 c32_i32_949
  let v2760 : BitVec 32 := Scalar.remsi arg0 v2759
  let c0_i32_953 : BitVec 32 := 0#32
  let v2762 : BitVec 1 := Scalar.cmpi .slt v2760 c0_i32_953
  let c0_i32_954 : BitVec 32 := 0#32
  let v2763 : BitVec 1 := Scalar.cmpi .slt v2759 c0_i32_954
  let v2764 : BitVec 1 := Scalar.xori v2762 v2763
  let c0_i32_952 : BitVec 32 := 0#32
  let v2761 : BitVec 1 := Scalar.cmpi .ne v2760 c0_i32_952
  let v2765 : BitVec 1 := Scalar.andi v2764 v2761
  let v2766 : BitVec 32 := Scalar.addi v2760 v2759
  let v2767 : BitVec 32 := Scalar.select v2765 v2766 v2760
  let c4_i32_955 : BitVec 32 := 4#32
  let v2768 : BitVec 32 := Scalar.muli v2767 c4_i32_955
  let c0_i32 : BitVec 32 := 0#32
  let c1_i32 : BitVec 32 := 1#32
  let arg9 : BitVec 32 := Scf.iv c0_i32 c1_i32 k0_t1
  let v2769 : BitVec 32 := Scalar.addi v2768 arg9
  let v2770 : Index := Scalar.indexCast v2769
  let c0_956 : Index := 0#32
  ![22, v2770.toNat, 0]
def k0_off75 (k0_t1 : Fin k0_t1_loop.trips) : Fin 2 → Nat :=
  let c2944_989 : Index := 2944#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2863 : Index := Scalar.indexCast v18
  ![2944, v2863.toNat]
def k0_off76 (i : grid0.Coords) (k0_t1 : Fin k0_t1_loop.trips) : Fin 3 → Nat :=
  let c23 : Index := 23#32
  let arg0 : BitVec 32 := BitVec.ofNat 32 (i 0).val
  let c32_i32_991 : BitVec 32 := 32#32
  let c0_i32_992 : BitVec 32 := 0#32
  let v2870 : BitVec 1 := Scalar.cmpi .eq c32_i32_991 c0_i32_992
  let c1_i32_993 : BitVec 32 := 1#32
  let v2871 : BitVec 32 := Scalar.select v2870 c1_i32_993 c32_i32_991
  let v2872 : BitVec 32 := Scalar.remsi arg0 v2871
  let c0_i32_995 : BitVec 32 := 0#32
  let v2874 : BitVec 1 := Scalar.cmpi .slt v2872 c0_i32_995
  let c0_i32_996 : BitVec 32 := 0#32
  let v2875 : BitVec 1 := Scalar.cmpi .slt v2871 c0_i32_996
  let v2876 : BitVec 1 := Scalar.xori v2874 v2875
  let c0_i32_994 : BitVec 32 := 0#32
  let v2873 : BitVec 1 := Scalar.cmpi .ne v2872 c0_i32_994
  let v2877 : BitVec 1 := Scalar.andi v2876 v2873
  let v2878 : BitVec 32 := Scalar.addi v2872 v2871
  let v2879 : BitVec 32 := Scalar.select v2877 v2878 v2872
  let c4_i32_997 : BitVec 32 := 4#32
  let v2880 : BitVec 32 := Scalar.muli v2879 c4_i32_997
  let c0_i32 : BitVec 32 := 0#32
  let c1_i32 : BitVec 32 := 1#32
  let arg9 : BitVec 32 := Scf.iv c0_i32 c1_i32 k0_t1
  let v2881 : BitVec 32 := Scalar.addi v2880 arg9
  let v2882 : Index := Scalar.indexCast v2881
  let c0_998 : Index := 0#32
  ![23, v2882.toNat, 0]
def k0_off77 (k0_t1 : Fin k0_t1_loop.trips) : Fin 2 → Nat :=
  let c3072_1031 : Index := 3072#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v2975 : Index := Scalar.indexCast v18
  ![3072, v2975.toNat]
def k0_off78 (i : grid0.Coords) (k0_t1 : Fin k0_t1_loop.trips) : Fin 3 → Nat :=
  let c24 : Index := 24#32
  let arg0 : BitVec 32 := BitVec.ofNat 32 (i 0).val
  let c32_i32_1032 : BitVec 32 := 32#32
  let c0_i32_1033 : BitVec 32 := 0#32
  let v2982 : BitVec 1 := Scalar.cmpi .eq c32_i32_1032 c0_i32_1033
  let c1_i32_1034 : BitVec 32 := 1#32
  let v2983 : BitVec 32 := Scalar.select v2982 c1_i32_1034 c32_i32_1032
  let v2984 : BitVec 32 := Scalar.remsi arg0 v2983
  let c0_i32_1036 : BitVec 32 := 0#32
  let v2986 : BitVec 1 := Scalar.cmpi .slt v2984 c0_i32_1036
  let c0_i32_1037 : BitVec 32 := 0#32
  let v2987 : BitVec 1 := Scalar.cmpi .slt v2983 c0_i32_1037
  let v2988 : BitVec 1 := Scalar.xori v2986 v2987
  let c0_i32_1035 : BitVec 32 := 0#32
  let v2985 : BitVec 1 := Scalar.cmpi .ne v2984 c0_i32_1035
  let v2989 : BitVec 1 := Scalar.andi v2988 v2985
  let v2990 : BitVec 32 := Scalar.addi v2984 v2983
  let v2991 : BitVec 32 := Scalar.select v2989 v2990 v2984
  let c4_i32_1038 : BitVec 32 := 4#32
  let v2992 : BitVec 32 := Scalar.muli v2991 c4_i32_1038
  let c0_i32 : BitVec 32 := 0#32
  let c1_i32 : BitVec 32 := 1#32
  let arg9 : BitVec 32 := Scf.iv c0_i32 c1_i32 k0_t1
  let v2993 : BitVec 32 := Scalar.addi v2992 arg9
  let v2994 : Index := Scalar.indexCast v2993
  let c0_1039 : Index := 0#32
  ![24, v2994.toNat, 0]
def k0_off79 (k0_t1 : Fin k0_t1_loop.trips) : Fin 2 → Nat :=
  let c3200_1072 : Index := 3200#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v3087 : Index := Scalar.indexCast v18
  ![3200, v3087.toNat]
def k0_off80 (i : grid0.Coords) (k0_t1 : Fin k0_t1_loop.trips) : Fin 3 → Nat :=
  let c25 : Index := 25#32
  let arg0 : BitVec 32 := BitVec.ofNat 32 (i 0).val
  let c32_i32_1073 : BitVec 32 := 32#32
  let c0_i32_1074 : BitVec 32 := 0#32
  let v3094 : BitVec 1 := Scalar.cmpi .eq c32_i32_1073 c0_i32_1074
  let c1_i32_1075 : BitVec 32 := 1#32
  let v3095 : BitVec 32 := Scalar.select v3094 c1_i32_1075 c32_i32_1073
  let v3096 : BitVec 32 := Scalar.remsi arg0 v3095
  let c0_i32_1077 : BitVec 32 := 0#32
  let v3098 : BitVec 1 := Scalar.cmpi .slt v3096 c0_i32_1077
  let c0_i32_1078 : BitVec 32 := 0#32
  let v3099 : BitVec 1 := Scalar.cmpi .slt v3095 c0_i32_1078
  let v3100 : BitVec 1 := Scalar.xori v3098 v3099
  let c0_i32_1076 : BitVec 32 := 0#32
  let v3097 : BitVec 1 := Scalar.cmpi .ne v3096 c0_i32_1076
  let v3101 : BitVec 1 := Scalar.andi v3100 v3097
  let v3102 : BitVec 32 := Scalar.addi v3096 v3095
  let v3103 : BitVec 32 := Scalar.select v3101 v3102 v3096
  let c4_i32_1079 : BitVec 32 := 4#32
  let v3104 : BitVec 32 := Scalar.muli v3103 c4_i32_1079
  let c0_i32 : BitVec 32 := 0#32
  let c1_i32 : BitVec 32 := 1#32
  let arg9 : BitVec 32 := Scf.iv c0_i32 c1_i32 k0_t1
  let v3105 : BitVec 32 := Scalar.addi v3104 arg9
  let v3106 : Index := Scalar.indexCast v3105
  let c0_1080 : Index := 0#32
  ![25, v3106.toNat, 0]
def k0_off81 (k0_t1 : Fin k0_t1_loop.trips) : Fin 2 → Nat :=
  let c3328_1113 : Index := 3328#32
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v3199 : Index := Scalar.indexCast v18
  ![3328, v3199.toNat]
def k0_off82 (i : grid0.Coords) (k0_t1 : Fin k0_t1_loop.trips) : Fin 3 → Nat :=
  let c26 : Index := 26#32
  let arg0 : BitVec 32 := BitVec.ofNat 32 (i 0).val
  let c32_i32_1114 : BitVec 32 := 32#32
  let c0_i32_1115 : BitVec 32 := 0#32
  let v3206 : BitVec 1 := Scalar.cmpi .eq c32_i32_1114 c0_i32_1115
  let c1_i32_1116 : BitVec 32 := 1#32
  let v3207 : BitVec 32 := Scalar.select v3206 c1_i32_1116 c32_i32_1114
  let v3208 : BitVec 32 := Scalar.remsi arg0 v3207
  let c0_i32_1118 : BitVec 32 := 0#32
  let v3210 : BitVec 1 := Scalar.cmpi .slt v3208 c0_i32_1118
  let c0_i32_1119 : BitVec 32 := 0#32
  let v3211 : BitVec 1 := Scalar.cmpi .slt v3207 c0_i32_1119
  let v3212 : BitVec 1 := Scalar.xori v3210 v3211
  let c0_i32_1117 : BitVec 32 := 0#32
  let v3209 : BitVec 1 := Scalar.cmpi .ne v3208 c0_i32_1117
  let v3213 : BitVec 1 := Scalar.andi v3212 v3209
  let v3214 : BitVec 32 := Scalar.addi v3208 v3207
  let v3215 : BitVec 32 := Scalar.select v3213 v3214 v3208
  let c4_i32_1120 : BitVec 32 := 4#32
  let v3216 : BitVec 32 := Scalar.muli v3215 c4_i32_1120
  let c0_i32 : BitVec 32 := 0#32
  let c1_i32 : BitVec 32 := 1#32
  let arg9 : BitVec 32 := Scf.iv c0_i32 c1_i32 k0_t1
  let v3217 : BitVec 32 := Scalar.addi v3216 arg9
  let v3218 : Index := Scalar.indexCast v3217
  let c0_1121 : Index := 0#32
  ![26, v3218.toNat, 0]
def k0_off83 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v17 : BitVec 32 := Scalar.muli arg9 c128_i32
  let v18 : BitVec 32 := v17
  let v3223 : Index := Scalar.indexCast v18
  let c0_1122 : Index := 0#32
  ![v3223.toNat, 0]
def k0_cond1 (i : grid0.Coords) : BitVec 1 :=
  let arg0 : BitVec 32 := BitVec.ofNat 32 (i 0).val
  let c32_i32 : BitVec 32 := 32#32
  let c0_i32_1 : BitVec 32 := 0#32
  let v2 : BitVec 1 := Scalar.cmpi .eq c32_i32 c0_i32_1
  let c1_i32_2 : BitVec 32 := 1#32
  let v3 : BitVec 32 := Scalar.select v2 c1_i32_2 c32_i32
  let v4 : BitVec 32 := Scalar.remsi arg0 v3
  let c0_i32_4 : BitVec 32 := 0#32
  let v6 : BitVec 1 := Scalar.cmpi .slt v4 c0_i32_4
  let c0_i32_5 : BitVec 32 := 0#32
  let v7 : BitVec 1 := Scalar.cmpi .slt v3 c0_i32_5
  let v8 : BitVec 1 := Scalar.xori v6 v7
  let c0_i32_3 : BitVec 32 := 0#32
  let v5 : BitVec 1 := Scalar.cmpi .ne v4 c0_i32_3
  let v9 : BitVec 1 := Scalar.andi v8 v5
  let v10 : BitVec 32 := Scalar.addi v4 v3
  let v11 : BitVec 32 := Scalar.select v9 v10 v4
  let c31_i32 : BitVec 32 := 31#32
  let v12 : BitVec 1 := Scalar.cmpi .eq v11 c31_i32
  let c103_i32 : BitVec 32 := 103#32
  let v13 : BitVec 1 := Scalar.cmpi .eq arg0 c103_i32
  let v14 : BitVec 1 := Scalar.ori v12 v13
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3456 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3456 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x27 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3456x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3456x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_d" => some ((1 / 3456 : ℝ) : EReal)
  | _ => none
-- ==== ReferenceIdeal.lean ====
abbrev S13x4096x3456 : Shape := ⟨3, ![13, 4096, 3456]⟩
abbrev S3456 : Shape := ⟨1, ![3456]⟩
abbrev S53248x3456 : Shape := ⟨2, ![53248, 3456]⟩
abbrev S1x3456 : Shape := ⟨2, ![1, 3456]⟩
abbrev S53248x27 : Shape := ⟨2, ![53248, 27]⟩
abbrev S3456x53248 : Shape := ⟨2, ![3456, 53248]⟩
abbrev S3456x416 : Shape := ⟨2, ![3456, 416]⟩
abbrev S416x128 : Shape := ⟨2, ![416, 128]⟩
abbrev S53248 : Shape := ⟨1, ![53248]⟩
abbrev S53248x1 : Shape := ⟨2, ![53248, 1]⟩
abbrev S53248x27x128 : Shape := ⟨3, ![53248, 27, 128]⟩
abbrev S53248x27x1 : Shape := ⟨3, ![53248, 27, 1]⟩
abbrev S416x128x3456 : Shape := ⟨3, ![416, 128, 3456]⟩
abbrev S416x3456 : Shape := ⟨2, ![416, 3456]⟩
abbrev S416x1x3456 : Shape := ⟨3, ![416, 1, 3456]⟩

abbrev nBuf : Space → Nat
  | .hbm => 9
  | .vmem => 7
  | .smem => 0
  | _ => 0

abbrev bufTy : (tb : Table) → Fin (tcTables nBuf tb) → BufTy
  | .hbm, ⟨0, _⟩ => ⟨S13x4096x3456, .bf16⟩
  | .hbm, ⟨1, _⟩ => ⟨S3456, .bf16⟩
  | .hbm, ⟨2, _⟩ => ⟨S53248x3456, .bf16⟩
  | .hbm, ⟨3, _⟩ => ⟨S1x3456, .bf16⟩
  | .hbm, ⟨4, _⟩ => ⟨S53248x3456, .fp8e4m3⟩
  | .hbm, ⟨5, _⟩ => ⟨S53248x27, .f32⟩
  | .hbm, ⟨6, _⟩ => ⟨S3456x53248, .fp8e4m3⟩
  | .hbm, ⟨7, _⟩ => ⟨S3456x416, .f32⟩
  | .hbm, ⟨8, _⟩ => ⟨S416x128, .f32⟩
  | .local _ .vmem, ⟨0, _⟩ => ⟨S53248x3456, .bf16⟩
  | .local _ .vmem, ⟨1, _⟩ => ⟨S1x3456, .bf16⟩
  | .local _ .vmem, ⟨2, _⟩ => ⟨S53248x3456, .fp8e4m3⟩
  | .local _ .vmem, ⟨3, _⟩ => ⟨S53248x27, .f32⟩
  | .local _ .vmem, ⟨4, _⟩ => ⟨S3456x53248, .fp8e4m3⟩
  | .local _ .vmem, ⟨5, _⟩ => ⟨S3456x416, .f32⟩
  | .local _ .vmem, ⟨6, _⟩ => ⟨S416x128, .f32⟩
  | _, _ => ⟨S13x4096x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S53248x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S53248x3456 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S53248x27 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3456x53248 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3456x416 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Offsets.lean ====
/- The rows of the carried column scales (the scratch operand `arg8`, one 128-row plane per 128-column group) that one trip of the
   row-block loop reads and writes: row `4·(i mod 32) + k` of plane `g`, at grid point `i` and trip `k`. -/
module

public import proofs.«01_k».proof.Proof.Gen.KernelIdeal.Frame

@[expose] public section

set_option maxRecDepth 16384

namespace Cert.KernelIdeal.Hand

open Idealize.ShloMosaic Idealize.ShloMosaic.TcCoe Idealize.ShloMosaic.Tactic
open Cert.KernelIdeal Cert.KernelIdeal.Gen

theorem k0_off30_eq : ∀ i k, k0_off30 i k = ![0, 4 * ((i 0).val % 32) + k.val, 0] := by decide +kernel
instance (i k) : ClosedOff (k0_off30 i k) := ⟨_, k0_off30_eq i k⟩
theorem k0_off32_eq : ∀ i k, k0_off32 i k = ![1, 4 * ((i 0).val % 32) + k.val, 0] := by decide +kernel
instance (i k) : ClosedOff (k0_off32 i k) := ⟨_, k0_off32_eq i k⟩
theorem k0_off34_eq : ∀ i k, k0_off34 i k = ![2, 4 * ((i 0).val % 32) + k.val, 0] := by decide +kernel
instance (i k) : ClosedOff (k0_off34 i k) := ⟨_, k0_off34_eq i k⟩
theorem k0_off36_eq : ∀ i k, k0_off36 i k = ![3, 4 * ((i 0).val % 32) + k.val, 0] := by decide +kernel
instance (i k) : ClosedOff (k0_off36 i k) := ⟨_, k0_off36_eq i k⟩
theorem k0_off38_eq : ∀ i k, k0_off38 i k = ![4, 4 * ((i 0).val % 32) + k.val, 0] := by decide +kernel
instance (i k) : ClosedOff (k0_off38 i k) := ⟨_, k0_off38_eq i k⟩
theorem k0_off40_eq : ∀ i k, k0_off40 i k = ![5, 4 * ((i 0).val % 32) + k.val, 0] := by decide +kernel
instance (i k) : ClosedOff (k0_off40 i k) := ⟨_, k0_off40_eq i k⟩
theorem k0_off42_eq : ∀ i k, k0_off42 i k = ![6, 4 * ((i 0).val % 32) + k.val, 0] := by decide +kernel
instance (i k) : ClosedOff (k0_off42 i k) := ⟨_, k0_off42_eq i k⟩
theorem k0_off44_eq : ∀ i k, k0_off44 i k = ![7, 4 * ((i 0).val % 32) + k.val, 0] := by decide +kernel
instance (i k) : ClosedOff (k0_off44 i k) := ⟨_, k0_off44_eq i k⟩
theorem k0_off46_eq : ∀ i k, k0_off46 i k = ![8, 4 * ((i 0).val % 32) + k.val, 0] := by decide +kernel
instance (i k) : ClosedOff (k0_off46 i k) := ⟨_, k0_off46_eq i k⟩
theorem k0_off48_eq : ∀ i k, k0_off48 i k = ![9, 4 * ((i 0).val % 32) + k.val, 0] := by decide +kernel
instance (i k) : ClosedOff (k0_off48 i k) := ⟨_, k0_off48_eq i k⟩
theorem k0_off50_eq : ∀ i k, k0_off50 i k = ![10, 4 * ((i 0).val % 32) + k.val, 0] := by decide +kernel
instance (i k) : ClosedOff (k0_off50 i k) := ⟨_, k0_off50_eq i k⟩
theorem k0_off52_eq : ∀ i k, k0_off52 i k = ![11, 4 * ((i 0).val % 32) + k.val, 0] := by decide +kernel
instance (i k) : ClosedOff (k0_off52 i k) := ⟨_, k0_off52_eq i k⟩
theorem k0_off54_eq : ∀ i k, k0_off54 i k = ![12, 4 * ((i 0).val % 32) + k.val, 0] := by decide +kernel
instance (i k) : ClosedOff (k0_off54 i k) := ⟨_, k0_off54_eq i k⟩
theorem k0_off56_eq : ∀ i k, k0_off56 i k = ![13, 4 * ((i 0).val % 32) + k.val, 0] := by decide +kernel
instance (i k) : ClosedOff (k0_off56 i k) := ⟨_, k0_off56_eq i k⟩
theorem k0_off58_eq : ∀ i k, k0_off58 i k = ![14, 4 * ((i 0).val % 32) + k.val, 0] := by decide +kernel
instance (i k) : ClosedOff (k0_off58 i k) := ⟨_, k0_off58_eq i k⟩
theorem k0_off60_eq : ∀ i k, k0_off60 i k = ![15, 4 * ((i 0).val % 32) + k.val, 0] := by decide +kernel
instance (i k) : ClosedOff (k0_off60 i k) := ⟨_, k0_off60_eq i k⟩
theorem k0_off62_eq : ∀ i k, k0_off62 i k = ![16, 4 * ((i 0).val % 32) + k.val, 0] := by decide +kernel
instance (i k) : ClosedOff (k0_off62 i k) := ⟨_, k0_off62_eq i k⟩
theorem k0_off64_eq : ∀ i k, k0_off64 i k = ![17, 4 * ((i 0).val % 32) + k.val, 0] := by decide +kernel
instance (i k) : ClosedOff (k0_off64 i k) := ⟨_, k0_off64_eq i k⟩
theorem k0_off66_eq : ∀ i k, k0_off66 i k = ![18, 4 * ((i 0).val % 32) + k.val, 0] := by decide +kernel
instance (i k) : ClosedOff (k0_off66 i k) := ⟨_, k0_off66_eq i k⟩
theorem k0_off68_eq : ∀ i k, k0_off68 i k = ![19, 4 * ((i 0).val % 32) + k.val, 0] := by decide +kernel
instance (i k) : ClosedOff (k0_off68 i k) := ⟨_, k0_off68_eq i k⟩
theorem k0_off70_eq : ∀ i k, k0_off70 i k = ![20, 4 * ((i 0).val % 32) + k.val, 0] := by decide +kernel
instance (i k) : ClosedOff (k0_off70 i k) := ⟨_, k0_off70_eq i k⟩
theorem k0_off72_eq : ∀ i k, k0_off72 i k = ![21, 4 * ((i 0).val % 32) + k.val, 0] := by decide +kernel
instance (i k) : ClosedOff (k0_off72 i k) := ⟨_, k0_off72_eq i k⟩
theorem k0_off74_eq : ∀ i k, k0_off74 i k = ![22, 4 * ((i 0).val % 32) + k.val, 0] := by decide +kernel
instance (i k) : ClosedOff (k0_off74 i k) := ⟨_, k0_off74_eq i k⟩
theorem k0_off76_eq : ∀ i k, k0_off76 i k = ![23, 4 * ((i 0).val % 32) + k.val, 0] := by decide +kernel
instance (i k) : ClosedOff (k0_off76 i k) := ⟨_, k0_off76_eq i k⟩
theorem k0_off78_eq : ∀ i k, k0_off78 i k = ![24, 4 * ((i 0).val % 32) + k.val, 0] := by decide +kernel
instance (i k) : ClosedOff (k0_off78 i k) := ⟨_, k0_off78_eq i k⟩
theorem k0_off80_eq : ∀ i k, k0_off80 i k = ![25, 4 * ((i 0).val % 32) + k.val, 0] := by decide +kernel
instance (i k) : ClosedOff (k0_off80 i k) := ⟨_, k0_off80_eq i k⟩
theorem k0_off82_eq : ∀ i k, k0_off82 i k = ![26, 4 * ((i 0).val % 32) + k.val, 0] := by decide +kernel
instance (i k) : ClosedOff (k0_off82 i k) := ⟨_, k0_off82_eq i k⟩

end Cert.KernelIdeal.Hand

end
-- ==== Proof.Machine.lean ====
/- The kernel as printed for machine floats: at every grid point it runs and gives its buffers back, so that the whole grid runs, leaves
   the arguments as they were and every semaphore at zero. What the results hold is stated of the idealized kernel only. -/
module

public import proofs.«01_k».proof.Proof.Offsets
public import proofs.«01_k».proof.Proof.Gen.Kernel.Frame
public import proofs.«01_k».proof.Proof.Gen.Kernel.Loops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel Cert.Kernel.Gen

/-! ## The rows of the carried column scales, as for the idealized kernel -/

theorem k0_off30_eq : ∀ i k, k0_off30 i k = ![0, 4 * ((i 0).val % 32) + k.val, 0] := fun i k => Cert.KernelIdeal.Hand.k0_off30_eq i k
instance (i k) : ClosedOff (k0_off30 i k) := ⟨_, k0_off30_eq i k⟩
theorem k0_off32_eq : ∀ i k, k0_off32 i k = ![1, 4 * ((i 0).val % 32) + k.val, 0] := fun i k => Cert.KernelIdeal.Hand.k0_off32_eq i k
instance (i k) : ClosedOff (k0_off32 i k) := ⟨_, k0_off32_eq i k⟩
theorem k0_off34_eq : ∀ i k, k0_off34 i k = ![2, 4 * ((i 0).val % 32) + k.val, 0] := fun i k => Cert.KernelIdeal.Hand.k0_off34_eq i k
instance (i k) : ClosedOff (k0_off34 i k) := ⟨_, k0_off34_eq i k⟩
theorem k0_off36_eq : ∀ i k, k0_off36 i k = ![3, 4 * ((i 0).val % 32) + k.val, 0] := fun i k => Cert.KernelIdeal.Hand.k0_off36_eq i k
instance (i k) : ClosedOff (k0_off36 i k) := ⟨_, k0_off36_eq i k⟩
theorem k0_off38_eq : ∀ i k, k0_off38 i k = ![4, 4 * ((i 0).val % 32) + k.val, 0] := fun i k => Cert.KernelIdeal.Hand.k0_off38_eq i k
instance (i k) : ClosedOff (k0_off38 i k) := ⟨_, k0_off38_eq i k⟩
theorem k0_off40_eq : ∀ i k, k0_off40 i k = ![5, 4 * ((i 0).val % 32) + k.val, 0] := fun i k => Cert.KernelIdeal.Hand.k0_off40_eq i k
instance (i k) : ClosedOff (k0_off40 i k) := ⟨_, k0_off40_eq i k⟩
theorem k0_off42_eq : ∀ i k, k0_off42 i k = ![6, 4 * ((i 0).val % 32) + k.val, 0] := fun i k => Cert.KernelIdeal.Hand.k0_off42_eq i k
instance (i k) : ClosedOff (k0_off42 i k) := ⟨_, k0_off42_eq i k⟩
theorem k0_off44_eq : ∀ i k, k0_off44 i k = ![7, 4 * ((i 0).val % 32) + k.val, 0] := fun i k => Cert.KernelIdeal.Hand.k0_off44_eq i k
instance (i k) : ClosedOff (k0_off44 i k) := ⟨_, k0_off44_eq i k⟩
theorem k0_off46_eq : ∀ i k, k0_off46 i k = ![8, 4 * ((i 0).val % 32) + k.val, 0] := fun i k => Cert.KernelIdeal.Hand.k0_off46_eq i k
instance (i k) : ClosedOff (k0_off46 i k) := ⟨_, k0_off46_eq i k⟩
theorem k0_off48_eq : ∀ i k, k0_off48 i k = ![9, 4 * ((i 0).val % 32) + k.val, 0] := fun i k => Cert.KernelIdeal.Hand.k0_off48_eq i k
instance (i k) : ClosedOff (k0_off48 i k) := ⟨_, k0_off48_eq i k⟩
theorem k0_off50_eq : ∀ i k, k0_off50 i k = ![10, 4 * ((i 0).val % 32) + k.val, 0] := fun i k => Cert.KernelIdeal.Hand.k0_off50_eq i k
instance (i k) : ClosedOff (k0_off50 i k) := ⟨_, k0_off50_eq i k⟩
theorem k0_off52_eq : ∀ i k, k0_off52 i k = ![11, 4 * ((i 0).val % 32) + k.val, 0] := fun i k => Cert.KernelIdeal.Hand.k0_off52_eq i k
instance (i k) : ClosedOff (k0_off52 i k) := ⟨_, k0_off52_eq i k⟩
theorem k0_off54_eq : ∀ i k, k0_off54 i k = ![12, 4 * ((i 0).val % 32) + k.val, 0] := fun i k => Cert.KernelIdeal.Hand.k0_off54_eq i k
instance (i k) : ClosedOff (k0_off54 i k) := ⟨_, k0_off54_eq i k⟩
theorem k0_off56_eq : ∀ i k, k0_off56 i k = ![13, 4 * ((i 0).val % 32) + k.val, 0] := fun i k => Cert.KernelIdeal.Hand.k0_off56_eq i k
instance (i k) : ClosedOff (k0_off56 i k) := ⟨_, k0_off56_eq i k⟩
theorem k0_off58_eq : ∀ i k, k0_off58 i k = ![14, 4 * ((i 0).val % 32) + k.val, 0] := fun i k => Cert.KernelIdeal.Hand.k0_off58_eq i k
instance (i k) : ClosedOff (k0_off58 i k) := ⟨_, k0_off58_eq i k⟩
theorem k0_off60_eq : ∀ i k, k0_off60 i k = ![15, 4 * ((i 0).val % 32) + k.val, 0] := fun i k => Cert.KernelIdeal.Hand.k0_off60_eq i k
instance (i k) : ClosedOff (k0_off60 i k) := ⟨_, k0_off60_eq i k⟩
theorem k0_off62_eq : ∀ i k, k0_off62 i k = ![16, 4 * ((i 0).val % 32) + k.val, 0] := fun i k => Cert.KernelIdeal.Hand.k0_off62_eq i k
instance (i k) : ClosedOff (k0_off62 i k) := ⟨_, k0_off62_eq i k⟩
theorem k0_off64_eq : ∀ i k, k0_off64 i k = ![17, 4 * ((i 0).val % 32) + k.val, 0] := fun i k => Cert.KernelIdeal.Hand.k0_off64_eq i k
instance (i k) : ClosedOff (k0_off64 i k) := ⟨_, k0_off64_eq i k⟩
theorem k0_off66_eq : ∀ i k, k0_off66 i k = ![18, 4 * ((i 0).val % 32) + k.val, 0] := fun i k => Cert.KernelIdeal.Hand.k0_off66_eq i k
instance (i k) : ClosedOff (k0_off66 i k) := ⟨_, k0_off66_eq i k⟩
theorem k0_off68_eq : ∀ i k, k0_off68 i k = ![19, 4 * ((i 0).val % 32) + k.val, 0] := fun i k => Cert.KernelIdeal.Hand.k0_off68_eq i k
instance (i k) : ClosedOff (k0_off68 i k) := ⟨_, k0_off68_eq i k⟩
theorem k0_off70_eq : ∀ i k, k0_off70 i k = ![20, 4 * ((i 0).val % 32) + k.val, 0] := fun i k => Cert.KernelIdeal.Hand.k0_off70_eq i k
instance (i k) : ClosedOff (k0_off70 i k) := ⟨_, k0_off70_eq i k⟩
theorem k0_off72_eq : ∀ i k, k0_off72 i k = ![21, 4 * ((i 0).val % 32) + k.val, 0] := fun i k => Cert.KernelIdeal.Hand.k0_off72_eq i k
instance (i k) : ClosedOff (k0_off72 i k) := ⟨_, k0_off72_eq i k⟩
theorem k0_off74_eq : ∀ i k, k0_off74 i k = ![22, 4 * ((i 0).val % 32) + k.val, 0] := fun i k => Cert.KernelIdeal.Hand.k0_off74_eq i k
instance (i k) : ClosedOff (k0_off74 i k) := ⟨_, k0_off74_eq i k⟩
theorem k0_off76_eq : ∀ i k, k0_off76 i k = ![23, 4 * ((i 0).val % 32) + k.val, 0] := fun i k => Cert.KernelIdeal.Hand.k0_off76_eq i k
instance (i k) : ClosedOff (k0_off76 i k) := ⟨_, k0_off76_eq i k⟩
theorem k0_off78_eq : ∀ i k, k0_off78 i k = ![24, 4 * ((i 0).val % 32) + k.val, 0] := fun i k => Cert.KernelIdeal.Hand.k0_off78_eq i k
instance (i k) : ClosedOff (k0_off78 i k) := ⟨_, k0_off78_eq i k⟩
theorem k0_off80_eq : ∀ i k, k0_off80 i k = ![25, 4 * ((i 0).val % 32) + k.val, 0] := fun i k => Cert.KernelIdeal.Hand.k0_off80_eq i k
instance (i k) : ClosedOff (k0_off80 i k) := ⟨_, k0_off80_eq i k⟩
theorem k0_off82_eq : ∀ i k, k0_off82 i k = ![26, 4 * ((i 0).val % 32) + k.val, 0] := fun i k => Cert.KernelIdeal.Hand.k0_off82_eq i k
instance (i k) : ClosedOff (k0_off82 i k) := ⟨_, k0_off82_eq i k⟩

variable {F : FTy → Type} [FloatOps F]

local notation "𝕄" => MT nD τ sig Unit (Elt F) ℕ (UR sig nD τ) ℕ

/-- The memory one trip touches: the two staged inputs, the four staged results it stores into, and the carried column
    scales. -/
abbrev Trip (c : Dev nD)
    (arg1 : Memref sig .tc .vmem S512x3456 .bf16) (arg2 : Memref sig .tc .vmem S1x3456 .f32)
    (arg3 : Memref sig .tc .vmem S512x3456 .fp8e4m3) (arg4 : Memref sig .tc .vmem S512x27 .f32)
    (arg5 : Memref sig .tc .vmem S3456x512 .fp8e4m3) (arg7 : Memref sig .tc .vmem S416x128 .f32)
    (arg8 : Memref sig .tc .vmem S27x128x128 .f32)
    (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f7 : BufTy.Contents (Elt F) arg7.view.ty)
    (f8 : BufTy.Contents (Elt F) arg8.view.ty) : sProp 𝕄 :=
  iprop((arg1.view.loc (c : Thread nD τ) ↦{fullShare} f1) ∗ (arg2.view.loc (c : Thread nD τ) ↦{fullShare} f2)
    ∗ (arg3.view.loc (c : Thread nD τ) ↦{fullShare} f3) ∗ (arg4.view.loc (c : Thread nD τ) ↦{fullShare} f4)
    ∗ (arg5.view.loc (c : Thread nD τ) ↦{fullShare} f5) ∗ (arg7.view.loc (c : Thread nD τ) ↦{fullShare} f7)
    ∗ (arg8.view.loc (c : Thread nD τ) ↦{fullShare} f8))

set_option maxHeartbeats 0 in
@[irreducible] def trip (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (arg0 : BitVec 32) (v0 : IVec S128x128 32) (k : Fin k0_t1_loop.trips)
    (f1 : BufTy.Contents (Elt F) arg1.view.ty) (f2 : BufTy.Contents (Elt F) arg2.view.ty) :
    Σ' (L3 : List (View.Piece (Elt F) S512x3456 .fp8e4m3)) (L4 : List (View.Piece (Elt F) S512x27 .f32))
      (L5 : List (View.Piece (Elt F) S3456x512 .fp8e4m3)) (L7 : List (View.Piece (Elt F) S416x128 .f32)),
      { L8 : List (View.Piece (Elt F) S27x128x128 .f32) // ∀ (f3 : BufTy.Contents (Elt F) arg3.view.ty)
        (f4 : BufTy.Contents (Elt F) arg4.view.ty) (f5 : BufTy.Contents (Elt F) arg5.view.ty)
        (f7 : BufTy.Contents (Elt F) arg7.view.ty) (f8 : BufTy.Contents (Elt F) arg8.view.ty),
        Trip c arg1 arg2 arg3 arg4 arg5 arg7 arg8 f1 f2 f3 f4 f5 f7 f8 ⊢
          wp frame (wpE defs₀ Variants.none (c : Thread nD τ) none) Set.univ
            (k0_t1_body i arg1 harg1 arg2 harg2 arg3 harg3 arg4 harg4 arg5 harg5 arg6 harg6 arg7 harg7 arg8 harg8 arg0 v0 k ())
            fun _ => Trip c arg1 arg2 arg3 arg4 arg5 arg7 arg8 f1 f2 (arg3.view.writes (Elt F) f3 L3) (arg4.view.writes (Elt F) f4 L4)
              (arg5.view.writes (Elt F) f5 L5) (arg7.view.writes (Elt F) f7 L7) (arg8.view.writes (Elt F) f8 L8) } := by
  refine ⟨?_, ?_, ?_, ?_, ?_, fun f3 f4 f5 f7 f8 => ?run⟩
  case run =>
    unfold k0_t1_body
    iintro ⟨H1, H2, H3, H4, H5, H7, H8⟩
    sl_exec_parts
    sl_step
    sl_close

/-! ## Lists by trips -/

/-- The entries of the first `k` members of a family of lists, the newest first. -/
def upto {α : Type} {n : ℕ} (L : Fin n → List α) : ℕ → List α
  | 0 => []
  | k + 1 => (if h : k < n then L ⟨k, h⟩ else []) ++ upto L k

theorem upto_zero {α : Type} {n : ℕ} (L : Fin n → List α) : upto L 0 = [] := rfl

theorem upto_succ {α : Type} {n : ℕ} (L : Fin n → List α) (k : Fin n) : upto L (k.val + 1) = L k ++ upto L k.val := by
  rw [upto, dif_pos k.isLt]

section loop

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (arg0 : BitVec 32) (v0 : IVec S128x128 32)
    (f1 : BufTy.Contents (Elt F) arg1.view.ty) (f2 : BufTy.Contents (Elt F) arg2.view.ty)

/-- The stores of trip `k` into each buffer. -/
def L3 (k : Fin k0_t1_loop.trips) := (trip c i arg1 harg1 arg2 harg2 arg3 harg3 arg4 harg4 arg5 harg5 arg6 harg6 arg7 harg7 arg8 harg8 arg0 v0 k f1 f2).1
def L4 (k : Fin k0_t1_loop.trips) := (trip c i arg1 harg1 arg2 harg2 arg3 harg3 arg4 harg4 arg5 harg5 arg6 harg6 arg7 harg7 arg8 harg8 arg0 v0 k f1 f2).2.1
def L5 (k : Fin k0_t1_loop.trips) := (trip c i arg1 harg1 arg2 harg2 arg3 harg3 arg4 harg4 arg5 harg5 arg6 harg6 arg7 harg7 arg8 harg8 arg0 v0 k f1 f2).2.2.1
def L7 (k : Fin k0_t1_loop.trips) := (trip c i arg1 harg1 arg2 harg2 arg3 harg3 arg4 harg4 arg5 harg5 arg6 harg6 arg7 harg7 arg8 harg8 arg0 v0 k f1 f2).2.2.2.1
def L8 (k : Fin k0_t1_loop.trips) := (trip c i arg1 harg1 arg2 harg2 arg3 harg3 arg4 harg4 arg5 harg5 arg6 harg6 arg7 harg7 arg8 harg8 arg0 v0 k f1 f2).2.2.2.2.1

/-- Before trip `k`: the inputs as staged, every other buffer at its contents at entry with the stores of the trips before `k`. -/
abbrev inv (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty) (k : ℕ) : sProp 𝕄 :=
  iprop((arg1.view.loc (c : Thread nD τ) ↦{fullShare} f1) ∗ (arg2.view.loc (c : Thread nD τ) ↦{fullShare} f2)
    ∗ (∃ f, (arg3.view.loc (c : Thread nD τ) ↦{fullShare} f) ∗ ⌜f = arg3.view.writes (Elt F) f3 (upto (L3 c i arg1 harg1 arg2 harg2 arg3 harg3 arg4 harg4 arg5 harg5 arg6 harg6 arg7 harg7 arg8 harg8 arg0 v0 f1 f2) k)⌝)
    ∗ (∃ f, (arg4.view.loc (c : Thread nD τ) ↦{fullShare} f) ∗ ⌜f = arg4.view.writes (Elt F) f4 (upto (L4 c i arg1 harg1 arg2 harg2 arg3 harg3 arg4 harg4 arg5 harg5 arg6 harg6 arg7 harg7 arg8 harg8 arg0 v0 f1 f2) k)⌝)
    ∗ (∃ f, (arg5.view.loc (c : Thread nD τ) ↦{fullShare} f) ∗ ⌜f = arg5.view.writes (Elt F) f5 (upto (L5 c i arg1 harg1 arg2 harg2 arg3 harg3 arg4 harg4 arg5 harg5 arg6 harg6 arg7 harg7 arg8 harg8 arg0 v0 f1 f2) k)⌝)
    ∗ (∃ f, (arg7.view.loc (c : Thread nD τ) ↦{fullShare} f) ∗ ⌜f = arg7.view.writes (Elt F) f7 (upto (L7 c i arg1 harg1 arg2 harg2 arg3 harg3 arg4 harg4 arg5 harg5 arg6 harg6 arg7 harg7 arg8 harg8 arg0 v0 f1 f2) k)⌝)
    ∗ (∃ f, (arg8.view.loc (c : Thread nD τ) ↦{fullShare} f) ∗ ⌜f = arg8.view.writes (Elt F) f8 (upto (L8 c i arg1 harg1 arg2 harg2 arg3 harg3 arg4 harg4 arg5 harg5 arg6 harg6 arg7 harg7 arg8 harg8 arg0 v0 f1 f2) k)⌝))

set_option warn.classDefReducibility false in
@[sl_loop] def loopInv (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty) :
    Gen.LoopInvTy_k0_t1 (F := F) Unit ℕ (UR sig nD τ) ℕ Variants.none c none Set.univ i arg1 harg1 arg2 harg2 arg3 harg3 arg4 harg4 arg5 harg5 arg6 harg6
      arg7 harg7 arg8 harg8 arg0 v0 where
  inv k _ := inv c i arg1 harg1 arg2 harg2 arg3 harg3 arg4 harg4 arg5 harg5 arg6 harg6 arg7 harg7 arg8 harg8 arg0 v0 f1 f2 f3 f4 f5 f7 f8 k
  step k _ := by
    unfold inv
    iintro ⟨H1, H2, ⟨%g3, H3, %e3⟩, ⟨%g4, H4, %e4⟩, ⟨%g5, H5, %e5⟩, ⟨%g7, H7, %e7⟩, ⟨%g8, H8, %e8⟩⟩
    subst e3 e4 e5 e7 e8
    iapply (wp_wand_r Idealize.ShloMosaic.frame (wpE (defs₀ (F := F)) Variants.none (c : Thread nD τ) none) Set.univ)
    isplitl [H1 H2 H3 H4 H5 H7 H8]
    · iapply (trip c i arg1 harg1 arg2 harg2 arg3 harg3 arg4 harg4 arg5 harg5 arg6 harg6 arg7 harg7 arg8 harg8 arg0 v0 k f1 f2).2.2.2.2.2
      unfold Trip
      isplitl [H1]; · iexact H1
      isplitl [H2]; · iexact H2
      isplitl [H3]; · iexact H3
      isplitl [H4]; · iexact H4
      isplitl [H5]; · iexact H5
      isplitl [H7]; · iexact H7
      iexact H8
    · iintro %_ ⟨H1, H2, H3, H4, H5, H7, H8⟩
      isplitl [H1]; · iexact H1
      isplitl [H2]; · iexact H2
      isplitl [H3]
      · iexists _; isplitl [H3]; · iexact H3
        ipureintro; rw [upto_succ, View.writes_append]; rfl
      isplitl [H4]
      · iexists _; isplitl [H4]; · iexact H4
        ipureintro; rw [upto_succ, View.writes_append]; rfl
      isplitl [H5]
      · iexists _; isplitl [H5]; · iexact H5
        ipureintro; rw [upto_succ, View.writes_append]; rfl
      isplitl [H7]
      · iexists _; isplitl [H7]; · iexact H7
        ipureintro; rw [upto_succ, View.writes_append]; rfl
      iexists _; isplitl [H8]; · iexact H8
      ipureintro; rw [upto_succ, View.writes_append]; rfl

end loop

section body

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (f1 : BufTy.Contents (Elt F) arg1.view.ty) (f2 : BufTy.Contents (Elt F) arg2.view.ty)

/-- At a point where no block of row blocks ends. -/
theorem body_mid (hc : ¬ k0_cond1 i = 1#1) (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty) (f8 : BufTy.Contents (Elt F) arg8.view.ty) :
    iprop(Trip c arg1 arg2 arg3 arg4 arg5 arg7 arg8 f1 f2 f3 f4 f5 f7 f8 ∗ (arg6.view.loc (c : Thread nD τ) ↦{fullShare} f6)) ⊢
      wp frame (wpE defs₀ Variants.none (c : Thread nD τ) none) Set.univ (cc0_rmsnorm_quant i arg1 harg1 arg2 harg2 arg3 harg3 arg4 harg4 arg5 harg5 arg6 harg6 arg7 harg7 arg8 harg8)
        fun _ => iprop(Trip c arg1 arg2 arg3 arg4 arg5 arg7 arg8 f1 f2 (arg3.view.writes (Elt F) f3 (upto (L3 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg4.view.writes (Elt F) f4 (upto (L4 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg5.view.writes (Elt F) f5 (upto (L5 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg7.view.writes (Elt F) f7 (upto (L7 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
          ∗ (arg6.view.loc (c : Thread nD τ) ↦{fullShare} f6)) := by
  unfold Trip
  iintro ⟨⟨H1, H2, H3, H4, H5, H7, H8⟩, H6⟩
  sl_unfold [cc0_rmsnorm_quant]
  sl_exec (disch := sl_exact hc)
  sl_step
  sl_close

/-- At the last point of a block of row blocks. -/
@[irreducible] def bodyEnd (hc : k0_cond1 i = 1#1) (f8 : BufTy.Contents (Elt F) arg8.view.ty) :
    { L6 : List (View.Piece (Elt F) S3456x128 .f32) // ∀ (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty),
    iprop(Trip c arg1 arg2 arg3 arg4 arg5 arg7 arg8 f1 f2 f3 f4 f5 f7 f8 ∗ (arg6.view.loc (c : Thread nD τ) ↦{fullShare} f6)) ⊢
      wp frame (wpE defs₀ Variants.none (c : Thread nD τ) none) Set.univ (cc0_rmsnorm_quant i arg1 harg1 arg2 harg2 arg3 harg3 arg4 harg4 arg5 harg5 arg6 harg6 arg7 harg7 arg8 harg8)
        fun _ => iprop(Trip c arg1 arg2 arg3 arg4 arg5 arg7 arg8 f1 f2 (arg3.view.writes (Elt F) f3 (upto (L3 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg4.view.writes (Elt F) f4 (upto (L4 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg5.view.writes (Elt F) f5 (upto (L5 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg7.view.writes (Elt F) f7 (upto (L7 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
          ∗ (arg6.view.loc (c : Thread nD τ) ↦{fullShare} arg6.view.writes (Elt F) f6 L6)) } := by
  refine ⟨?_, fun f3 f4 f5 f6 f7 => ?run⟩
  case run =>
    unfold Trip
    iintro ⟨⟨H1, H2, H3, H4, H5, H7, H8⟩, H6⟩
    sl_unfold [cc0_rmsnorm_quant]
    sl_exec_parts (disch := sl_exact hc)
    sl_step
    sl_close

end body

/-! ## Whole buffers -/

theorem set_of_whole {sp : Space} {s : Shape} {e : EltTy} {m : Memref sig .tc sp s e} (h : m.IsWhole) : m.view.set = Finset.univ := by
  obtain ⟨b, hsp, hsh, he, h⟩ := h
  subst hsp hsh he
  cases h
  exact View.set_whole b

/-- A whole memref is owned as its buffer is. -/
theorem owns_pt (c : Dev nD) {sp : Space} {s : Shape} {e : EltTy} {m : Memref sig .tc sp s e} (h : m.IsWhole) (X : s.Idx → Elt F e) :
    (owns (c : Thread nD τ) m fullShare X : sProp 𝕄) ⊢ iprop(∃ f, ⌜m.view.read (Elt F) f = X⌝ ∗ (m.view.loc (c : Thread nD τ) ↦{fullShare} f)) := by
  unfold owns; rw [set_of_whole h]

theorem pt_owns (c : Dev nD) {sp : Space} {s : Shape} {e : EltTy} {m : Memref sig .tc sp s e} (h : m.IsWhole) (f : BufTy.Contents (Elt F) m.view.ty) :
    (m.view.loc (c : Thread nD τ) ↦{fullShare} f : sProp 𝕄) ⊢ owns (c : Thread nD τ) m fullShare (m.view.read (Elt F) f) := by
  refine BIBase.Entails.trans ?_ (owns_intro _ _ _ _)
  rw [set_of_whole h]

section point

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)

/-- What the body holds on entry, the inputs and the eight blocks at given contents. -/
abbrev Held (X1 : Vec F S512x3456 .bf16) (X2 : Vec F S1x3456 .f32)
    (X3 : Vec F S512x3456 .fp8e4m3) (X4 : Vec F S512x27 .f32) (X5 : Vec F S3456x512 .fp8e4m3) (X6 : Vec F S3456x128 .f32)
    (X7 : Vec F S416x128 .f32) (X8 : Vec F S27x128x128 .f32) : sProp 𝕄 :=
  iprop(owns (c : Thread nD τ) arg1 fullShare X1 ∗ owns (c : Thread nD τ) arg2 fullShare X2 ∗ owns (c : Thread nD τ) arg3 fullShare X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8)

include harg1 harg2 harg3 harg4 harg5 harg6 harg7 harg8 in
/-- The buffers held whole, at contents that read as they must. -/
theorem held_of (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty) :
    iprop(Trip c arg1 arg2 arg3 arg4 arg5 arg7 arg8 f1 f2 f3 f4 f5 f7 f8 ∗ (arg6.view.loc (c : Thread nD τ) ↦{fullShare} f6))
      ⊢ (Held c arg1 arg2 arg3 arg4 arg5 arg6 arg7 arg8 (arg1.view.read (Elt F) f1) (arg2.view.read (Elt F) f2) (arg3.view.read (Elt F) f3)
          (arg4.view.read (Elt F) f4) (arg5.view.read (Elt F) f5) (arg6.view.read (Elt F) f6) (arg7.view.read (Elt F) f7) (arg8.view.read (Elt F) f8) : sProp 𝕄) := by
  unfold Trip Held
  iintro ⟨⟨H1, H2, H3, H4, H5, H7, H8⟩, H6⟩
  isplitl [H1]; · iapply (pt_owns c harg1 f1) $$ H1
  isplitl [H2]; · iapply (pt_owns c harg2 f2) $$ H2
  isplitl [H3]; · iapply (pt_owns c harg3 f3) $$ H3
  isplitl [H4]; · iapply (pt_owns c harg4 f4) $$ H4
  isplitl [H5]; · iapply (pt_owns c harg5 f5) $$ H5
  isplitl [H6]; · iapply (pt_owns c harg6 f6) $$ H6
  isplitl [H7]; · iapply (pt_owns c harg7 f7) $$ H7
  iapply (pt_owns c harg8 f8) $$ H8

theorem point (X1 : Vec F S512x3456 .bf16) (Γ : Vec F S1x3456 .f32)
    (X3 : Vec F S512x3456 .fp8e4m3) (X4 : Vec F S512x27 .f32) (X5 : Vec F S3456x512 .fp8e4m3) (X6 : Vec F S3456x128 .f32)
    (X7 : Vec F S416x128 .f32) (X8 : Vec F S27x128x128 .f32) :
    (Held c arg1 arg2 arg3 arg4 arg5 arg6 arg7 arg8 X1 Γ X3 X4 X5 X6 X7 X8 : sProp 𝕄) ⊢
      wp frame (wpE defs₀ Variants.none (c : Thread nD τ) none) Set.univ (cc0_rmsnorm_quant i arg1 harg1 arg2 harg2 arg3 harg3 arg4 harg4 arg5 harg5 arg6 harg6 arg7 harg7 arg8 harg8)
        fun _ => iprop(∃ X3' X4' X5' X6' X7' X8', Held c arg1 arg2 arg3 arg4 arg5 arg6 arg7 arg8 X1 Γ X3' X4' X5' X6' X7' X8') := by
  unfold Held
  iintro ⟨H1, H2, H3, H4, H5, H6, H7, H8⟩
  ihave G1 := (owns_pt c harg1 X1) $$ H1
  ihave G2 := (owns_pt c harg2 Γ) $$ H2
  ihave G3 := (owns_pt c harg3 X3) $$ H3
  ihave G4 := (owns_pt c harg4 X4) $$ H4
  ihave G5 := (owns_pt c harg5 X5) $$ H5
  ihave G6 := (owns_pt c harg6 X6) $$ H6
  ihave G7 := (owns_pt c harg7 X7) $$ H7
  ihave G8 := (owns_pt c harg8 X8) $$ H8
  icases G1 with ⟨%f1, %e1, H1⟩
  icases G2 with ⟨%f2, %e2, H2⟩
  icases G3 with ⟨%f3, %e3, H3⟩
  icases G4 with ⟨%f4, %e4, H4⟩
  icases G5 with ⟨%f5, %e5, H5⟩
  icases G6 with ⟨%f6, %e6, H6⟩
  icases G7 with ⟨%f7, %e7, H7⟩
  icases G8 with ⟨%f8, %e8, H8⟩
  subst e1 e2 e3 e4 e5 e6 e7 e8
  by_cases hc : k0_cond1 i = 1#1
  · iapply (wp_wand_r Idealize.ShloMosaic.frame (wpE (defs₀ (F := F)) Variants.none (c : Thread nD τ) none) Set.univ)
    isplitl [H1 H2 H3 H4 H5 H6 H7 H8]
    · iapply ((bodyEnd c i arg1 harg1 arg2 harg2 arg3 harg3 arg4 harg4 arg5 harg5 arg6 harg6 arg7 harg7 arg8 harg8 f1 f2 hc f8).2 f3 f4 f5 f6 f7)
      unfold Trip
      isplitr [H6]; swap; · iexact H6
      isplitl [H1]; · iexact H1
      isplitl [H2]; · iexact H2
      isplitl [H3]; · iexact H3
      isplitl [H4]; · iexact H4
      isplitl [H5]; · iexact H5
      isplitl [H7]; · iexact H7
      iexact H8
    · iintro %_ H
      iexists _, _, _, _, _, _
      iapply (held_of c arg1 harg1 arg2 harg2 arg3 harg3 arg4 harg4 arg5 harg5 arg6 harg6 arg7 harg7 arg8 harg8 f1 f2) $$ H
  · iapply (wp_wand_r Idealize.ShloMosaic.frame (wpE (defs₀ (F := F)) Variants.none (c : Thread nD τ) none) Set.univ)
    isplitl [H1 H2 H3 H4 H5 H6 H7 H8]
    · iapply (body_mid c i arg1 harg1 arg2 harg2 arg3 harg3 arg4 harg4 arg5 harg5 arg6 harg6 arg7 harg7 arg8 harg8 f1 f2 hc f3 f4 f5 f6 f7 f8)
      unfold Trip
      isplitr [H6]; swap; · iexact H6
      isplitl [H1]; · iexact H1
      isplitl [H2]; · iexact H2
      isplitl [H3]; · iexact H3
      isplitl [H4]; · iexact H4
      isplitl [H5]; · iexact H5
      isplitl [H7]; · iexact H7
      iexact H8
    · iintro %_ H
      iexists _, _, _, _, _, _
      iapply (held_of c arg1 harg1 arg2 harg2 arg3 harg3 arg4 harg4 arg5 harg5 arg6 harg6 arg7 harg7 arg8 harg8 f1 f2) $$ H

end point

/-! ## The whole grid -/

variable (m : (ℓ : Loc nD τ sig) → Buf (Elt F) ℓ) (ρ : Dev nD → PrngReg) (c : Dev nD)

/-- The proof data: nothing is stated of what the body leaves. -/
def rdat : RDat τ (Elt F) Unit ℕ (UR sig nD τ) ℕ cfg0 c where
  A w := V m c (Pipeline.arrRef spec0 w)
  after _ _ _ _ := True
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem body : (rdat m c).BodyObligation defs₀ Variants.none () Set.univ := by
  intro t Y hY
  rw [Gen.bigSep_W0, Gen.bigSep_W0, defs₀_row]
  unfold Gen.bodyAt0
  rw [show (rdat m c).Φ t.castSucc = Pipeline.ΦA spec0 c from rfl, show (rdat m c).Φ t.succ = Pipeline.ΦA spec0 c from rfl, Pipeline.ΦA, scopedRest0_eq, show (rdat m c).owesAt () t.succ = (rdat m c).owesAt () t.castSucc from rfl]
  iintro ⟨⟨⟨%Y8, H8⟩, Hp⟩, HO, H0, H1, H2, H3, H4, H5, H6⟩
  iapply (wp_wand_r Idealize.ShloMosaic.frame (wpE (defs₀ (F := F)) Variants.none (c : Thread nD τ) none) Set.univ)
  isplitl [H0 H1 H2 H3 H4 H5 H6 H8]
  · iapply (point c (grid0.coords t) (win0_0.stage (cfg0.slots t 0)) _ (win0_1.stage (cfg0.slots t 1)) _ (win0_2.stage (cfg0.slots t 2)) _
      (win0_3.stage (cfg0.slots t 3)) _ (win0_4.stage (cfg0.slots t 4)) _ (win0_5.stage (cfg0.slots t 5)) _ (win0_6.stage (cfg0.slots t 6)) _
      (Memref.whole cc0_scratch0) _ (Y 0) (Y 1) (Y 2) (Y 3) (Y 4) (Y 5) (Y 6) Y8)
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (Entails.of_eq (owns_whole (c : Thread nD τ) cc0_scratch0 fullShare Y8).symm) $$ H8
  · unfold Held
    iintro %_ ⟨%X3, %X4, %X5, %X6, %X7, %X8, H0, H1, H2, H3, H4, H5, H6, H8⟩
    isplitl [H8 Hp]
    · isplitl [H8]
      · iexists X8; iapply (Entails.of_eq (owns_whole (c : Thread nD τ) cc0_scratch0 fullShare X8)) $$ H8
      · iexact Hp
    isplitl [HO]; · iexact HO
    isplitl [H0]
    · iexists Y 0; isplitr; · ipureintro; exact trivial
      iexact H0
    isplitl [H1]
    · iexists Y 1; isplitr; · ipureintro; exact trivial
      iexact H1
    isplitl [H2]
    · iexists X3; isplitr; · ipureintro; exact trivial
      iexact H2
    isplitl [H3]
    · iexists X4; isplitr; · ipureintro; exact trivial
      iexact H3
    isplitl [H4]
    · iexists X5; isplitr; · ipureintro; exact trivial
      iexact H4
    isplitl [H5]
    · iexists X6; isplitr; · ipureintro; exact trivial
      iexact H5
    iexists X7; isplitr
    · ipureintro; exact trivial
    iexact H6

/-- The run: every buffer kept, every semaphore at zero. -/
theorem run : θ_run defs (onTc (τ := τ) (main (F := F))) (s₀ m ρ) fun r => RDat.FramePost cfg0 (rdat m) (V m) r ∧ r.2.sem = fun _ => 0 :=
  RDat.θ_run_frame_track cfgs 0 launch0 defs₀ Variants.none (rdat m) m ρ main (body m) (fun c w => by unfold RDat.share; split <;> rfl) (fun _ _ => rfl)
    (V m) (hmain m Variants.none) (fun _ _ => rfl) (fun _ => .rfl) (fun _ => .rfl) _ fun _ h => h

/-- The arguments end as they began. -/
theorem args {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

end Cert.Kernel.Hand

end
-- ==== Proof.Trip.lean ====
/- One trip of the row-block loop. -/
module

public import proofs.«01_k».proof.Proof.Offsets
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The memory one trip touches: the two staged inputs, the four staged results it stores into, and the carried column
    scales. -/
abbrev Trip (c : Dev nD)
    (arg1 : Memref sig .tc .vmem S512x3456 .bf16) (arg2 : Memref sig .tc .vmem S1x3456 .f32)
    (arg3 : Memref sig .tc .vmem S512x3456 .fp8e4m3) (arg4 : Memref sig .tc .vmem S512x27 .f32)
    (arg5 : Memref sig .tc .vmem S3456x512 .fp8e4m3) (arg7 : Memref sig .tc .vmem S416x128 .f32)
    (arg8 : Memref sig .tc .vmem S27x128x128 .f32)
    (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f7 : BufTy.Contents (Elt F) arg7.view.ty)
    (f8 : BufTy.Contents (Elt F) arg8.view.ty) : sProp 𝕄 :=
  iprop((arg1.view.loc (c : Thread nD τ) ↦{fullShare} f1) ∗ (arg2.view.loc (c : Thread nD τ) ↦{fullShare} f2)
    ∗ (arg3.view.loc (c : Thread nD τ) ↦{fullShare} f3) ∗ (arg4.view.loc (c : Thread nD τ) ↦{fullShare} f4)
    ∗ (arg5.view.loc (c : Thread nD τ) ↦{fullShare} f5) ∗ (arg7.view.loc (c : Thread nD τ) ↦{fullShare} f7)
    ∗ (arg8.view.loc (c : Thread nD τ) ↦{fullShare} f8))

set_option maxHeartbeats 0 in
@[irreducible] def trip (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (arg0 : BitVec 32) (v0 : IVec S128x128 32) (k : Fin k0_t1_loop.trips)
    (f1 : BufTy.Contents (Elt F) arg1.view.ty) (f2 : BufTy.Contents (Elt F) arg2.view.ty) :
    Σ' (L3 : List (View.Piece (Elt F) S512x3456 .fp8e4m3)) (L4 : List (View.Piece (Elt F) S512x27 .f32))
      (L5 : List (View.Piece (Elt F) S3456x512 .fp8e4m3)) (L7 : List (View.Piece (Elt F) S416x128 .f32)),
      { L8 : List (View.Piece (Elt F) S27x128x128 .f32) // ∀ (f3 : BufTy.Contents (Elt F) arg3.view.ty)
        (f4 : BufTy.Contents (Elt F) arg4.view.ty) (f5 : BufTy.Contents (Elt F) arg5.view.ty)
        (f7 : BufTy.Contents (Elt F) arg7.view.ty) (f8 : BufTy.Contents (Elt F) arg8.view.ty),
        Trip c arg1 arg2 arg3 arg4 arg5 arg7 arg8 f1 f2 f3 f4 f5 f7 f8 ⊢
          wp frame (wpE defs₀ Variants.none (c : Thread nD τ) none) Set.univ
            (k0_t1_body i arg1 harg1 arg2 harg2 arg3 harg3 arg4 harg4 arg5 harg5 arg6 harg6 arg7 harg7 arg8 harg8 arg0 v0 k ())
            fun _ => Trip c arg1 arg2 arg3 arg4 arg5 arg7 arg8 f1 f2 (arg3.view.writes (Elt F) f3 L3) (arg4.view.writes (Elt F) f4 L4)
              (arg5.view.writes (Elt F) f5 L5) (arg7.view.writes (Elt F) f7 L7) (arg8.view.writes (Elt F) f8 L8) } := by
  refine ⟨?_, ?_, ?_, ?_, ?_, fun f3 f4 f5 f7 f8 => ?run⟩
  case run =>
    unfold k0_t1_body
    iintro ⟨H1, H2, H3, H4, H5, H7, H8⟩
    sl_exec_parts
    sl_step
    sl_close

end Cert.KernelIdeal.Hand

end
-- ==== Proof.Tile.lean ====
/-
  What one trip of the row-block loop computes, tile by tile. A trip takes 128 rows of the staged block, in 27 tiles of 128 columns:
  the rows' norms (`sigTile`), each tile normalised (`yTile`), and of a normalised tile the codes and scales by rows (`rowCode`,
  `rowScale`) and by columns (`colCode`, `colScale`). The operations are the kernel's, in its order; `trip_rc` … `trip_cs` say that
  the stores a trip makes are of these.
-/
module

public import proofs.«01_k».proof.Proof.Trip

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F] [Named F]

/-! ## The tile operations -/

def ext (x : Vec F S128x128 .bf16) : FVec F S128x128 .f32 :=
  extf .f32 (shapeCast S128x128 x shapeCasts_S128x128_S128x128 : FVec F S128x128 .bf16) bitsLt_bf16_f32

/-- The running sum of squares, lane by lane, over a list of tiles. -/
def sqSum (a : FVec F S128x128 .f32) (x : Vec F S128x128 .bf16) : FVec F S128x128 .f32 := addf a (mulf (ext x) (ext x))

def zeroTile : FVec F S128x128 .f32 := broadcast S128x128 (Scalar.ofBits .f32 0x00000000#32)

/-- The reciprocal norms of the rows, from the lane-by-lane sums of squares. -/
def sigOf (a : FVec F S128x128 .f32) : FVec F S128x1 .f32 :=
  rsqrt (addf (mulf (shapeCast S128x1 (multiReduction .add [1] S128 a 0x00000000#32 reduces_S128x128_S128 (.inl rfl) rfl) shapeCasts_S128_S128x1 : FVec F S128x1 .f32)
    (broadcast S128x1 (Named.named κ "inv_d" 0x3997B426#32))) (broadcast S128x1 (Scalar.ofBits .f32 0x3727C5AC#32)))

def sigTile (xs : List (Vec F S128x128 .bf16)) : FVec F S128x128 .f32 :=
  broadcastTo S128x128 (shapeCast S128x1 (sigOf (xs.foldl sqSum zeroTile)) shapeCasts_S128x1_S128x1 : FVec F S128x1 .f32) broadcasts_S128x1_S128x128

def sigRow (s : FVec F S128x128 .f32) : FVec F S1x128 .f32 :=
  extractStridedSlice S1x128 ![0, 0] (transpose S128x128 [1, 0] s transposes_S128x128_p1_0_S128x128 : FVec F S128x128 .f32) slices_S128x128_o0_0_S1x128

def yTile (s : FVec F S128x128 .f32) (x : Vec F S128x128 .bf16) (g : Vec F S1x128 .f32) : FVec F S128x128 .f32 :=
  mulf (mulf (ext x) s) (broadcastTo S128x128 (shapeCast S1x128 g shapeCasts_S1x128_S1x128 : FVec F S1x128 .f32) broadcasts_S1x128_S128x128)

/-- A row's greatest magnitude over 448. -/
def rowP (y : FVec F S128x128 .f32) : FVec F S128x1 .f32 :=
  mulf (shapeCast S128x1 (multiReduction .maximumf [1] S128 (absf y) 0xFF800000#32 reduces_S128x128_S128 (.inl rfl) rfl) shapeCasts_S128_S128x1 : FVec F S128x1 .f32)
    (broadcast S128x1 (Scalar.ofBits .f32 0x3B124925#32))

/-- The number of powers of two at most `p`. -/
def rowCount (p : FVec F S128x1 .f32) : IVec S128x1 32 :=
  shapeCast S128x1 (multiReductionI .add [1] S128
    (extui 32 (cmpf .oge (broadcastTo S128x256 p broadcasts_S128x1_S128x256 : FVec F S128x256 .f32)
      (bitcastToFloat .f32 (shli (iota .tc S128x256 32 [1] iota_S128x256_d1_w32) (broadcast S128x256 23#32)))) natLt_1_32)
    0#32 reduces_S128x256_S128 rfl) shapeCasts_S128_S128x1

def rowExp (p : FVec F S128x1 .f32) : IVec S128x1 32 :=
  select (cmpi .eq (subi (rowCount p) (broadcast S128x1 1#32)) (broadcast S128x1 0#32)) (broadcast S128x1 0#32)
    (subi (subi (rowCount p) (broadcast S128x1 1#32)) (broadcast S128x1 126#32))

def rowScale (y : FVec F S128x128 .f32) : FVec F S128x1 .f32 :=
  bitcastToFloat .f32 (shli (addi (rowExp (rowP y)) (broadcast S128x1 127#32)) (broadcast S128x1 23#32))

def rowInv (y : FVec F S128x128 .f32) : FVec F S128x1 .f32 :=
  bitcastToFloat .f32 (shli (subi (broadcast S128x1 127#32) (rowExp (rowP y))) (broadcast S128x1 23#32))

/-- A column's greatest magnitude over 448. -/
def colP (y : FVec F S128x128 .f32) : FVec F S1x128 .f32 :=
  mulf (shapeCast S1x128 (multiReduction .maximumf [0] S128 (absf y) 0xFF800000#32 reduces_S128x128_S128_2 (.inl rfl) rfl) shapeCasts_S128_S1x128 : FVec F S1x128 .f32)
    (broadcast S1x128 (Scalar.ofBits .f32 0x3B124925#32))

def colCount (p : FVec F S1x128 .f32) : IVec S1x128 32 :=
  shapeCast S1x128 (multiReductionI .add [0] S128
    (extui 32 (cmpf .oge (broadcastTo S256x128 p broadcasts_S1x128_S256x128 : FVec F S256x128 .f32)
      (bitcastToFloat .f32 (shli (iota .tc S256x128 32 [0] iota_S256x128_d0_w32) (broadcast S256x128 23#32)))) natLt_1_32)
    0#32 reduces_S256x128_S128 rfl) shapeCasts_S128_S1x128

def colExp (p : FVec F S1x128 .f32) : IVec S1x128 32 :=
  select (cmpi .eq (subi (colCount p) (broadcast S1x128 1#32)) (broadcast S1x128 0#32)) (broadcast S1x128 0#32)
    (subi (subi (colCount p) (broadcast S1x128 1#32)) (broadcast S1x128 126#32))

def colScale (y : FVec F S128x128 .f32) : FVec F S1x128 .f32 :=
  bitcastToFloat .f32 (shli (addi (colExp (colP y)) (broadcast S1x128 127#32)) (broadcast S1x128 23#32))

def colInv (y : FVec F S128x128 .f32) : FVec F S1x128 .f32 :=
  bitcastToFloat .f32 (shli (subi (broadcast S1x128 127#32) (colExp (colP y))) (broadcast S1x128 23#32))

/-- Scaled, clipped to ±448 and cast. -/
def code (y s : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) (mulf y s))) bitsLt_fp8e4m3_f32

def rowCode (y : FVec F S128x128 .f32) : FVec F S128x128 .fp8e4m3 :=
  code y (broadcastTo S128x128 (rowInv y) broadcasts_S128x1_S128x128)

def colCode (y : FVec F S128x128 .f32) : FVec F S128x128 .fp8e4m3 :=
  transpose S128x128 [1, 0] (code y (broadcastTo S128x128 (colInv y) broadcasts_S1x128_S128x128)) transposes_S128x128_p1_0_S128x128

/-- Lane `g` of a tile set to the row scales of `y`. -/
def setLane (v0 : IVec S128x128 32) (a : FVec F S128x128 .f32) (p : BitVec 32 × FVec F S128x128 .f32) : FVec F S128x128 .f32 :=
  select (cmpi .eq v0 (broadcast S128x128 p.1))
    (broadcastTo S128x128 (shapeCast S128x1 (rowScale p.2) shapeCasts_S128x1_S128x1 : FVec F S128x1 .f32) broadcasts_S128x1_S128x128) a

def rowScales (v0 : IVec S128x128 32) (ys : List (BitVec 32 × FVec F S128x128 .f32)) : FVec F S128x27 .f32 :=
  extractStridedSlice S128x27 ![0, 0] (ys.foldl (setLane v0) zeroTile) slices_S128x128_o0_0_S128x27

def scaleRow (y : FVec F S128x128 .f32) : FVec F S1x1x128 .f32 := shapeCast S1x1x128 (colScale y) shapeCasts_S1x128_S1x1x128

/-! ## The stores of one trip -/

section trip

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (arg0 : BitVec 32) (v0 : IVec S128x128 32) (k : Fin k0_t1_loop.trips)
    (f1 : BufTy.Contents (Elt F) arg1.view.ty) (f2 : BufTy.Contents (Elt F) arg2.view.ty)

/-- The tile of the staged block at the offsets `o`, and of the staged weights. -/
abbrev xAt (o : Fin 2 → ℕ) (h : ∀ a, o a + S128x128.size a ≤ S512x3456.size a) : Vec F S128x128 .bf16 := View.readAt (Elt F) arg1.view (Rect.unit (s := S512x3456) o S128x128.size h).toLoadRect f1
abbrev gAt (o : Fin 2 → ℕ) (h : ∀ a, o a + S1x128.size a ≤ S1x3456.size a) : Vec F S1x128 .f32 := View.readAt (Elt F) arg2.view (Rect.unit (s := S1x3456) o S1x128.size h).toLoadRect f2

def xs : List (Vec F S128x128 .bf16) :=
  [xAt arg1 f1 (k0_off1 k) (k0_off1_inb k),
   xAt arg1 f1 (k0_off2 k) (k0_off2_inb k),
   xAt arg1 f1 (k0_off3 k) (k0_off3_inb k),
   xAt arg1 f1 (k0_off4 k) (k0_off4_inb k),
   xAt arg1 f1 (k0_off5 k) (k0_off5_inb k),
   xAt arg1 f1 (k0_off6 k) (k0_off6_inb k),
   xAt arg1 f1 (k0_off7 k) (k0_off7_inb k),
   xAt arg1 f1 (k0_off8 k) (k0_off8_inb k),
   xAt arg1 f1 (k0_off9 k) (k0_off9_inb k),
   xAt arg1 f1 (k0_off10 k) (k0_off10_inb k),
   xAt arg1 f1 (k0_off11 k) (k0_off11_inb k),
   xAt arg1 f1 (k0_off12 k) (k0_off12_inb k),
   xAt arg1 f1 (k0_off13 k) (k0_off13_inb k),
   xAt arg1 f1 (k0_off14 k) (k0_off14_inb k),
   xAt arg1 f1 (k0_off15 k) (k0_off15_inb k),
   xAt arg1 f1 (k0_off16 k) (k0_off16_inb k),
   xAt arg1 f1 (k0_off17 k) (k0_off17_inb k),
   xAt arg1 f1 (k0_off18 k) (k0_off18_inb k),
   xAt arg1 f1 (k0_off19 k) (k0_off19_inb k),
   xAt arg1 f1 (k0_off20 k) (k0_off20_inb k),
   xAt arg1 f1 (k0_off21 k) (k0_off21_inb k),
   xAt arg1 f1 (k0_off22 k) (k0_off22_inb k),
   xAt arg1 f1 (k0_off23 k) (k0_off23_inb k),
   xAt arg1 f1 (k0_off24 k) (k0_off24_inb k),
   xAt arg1 f1 (k0_off25 k) (k0_off25_inb k),
   xAt arg1 f1 (k0_off26 k) (k0_off26_inb k),
   xAt arg1 f1 (k0_off27 k) (k0_off27_inb k)]

abbrev sT : FVec F S128x128 .f32 := sigTile (xs arg1 k f1)

def y0 : FVec F S128x128 .f32 := yTile (sT arg1 k f1) (xAt arg1 f1 (k0_off1 k) (k0_off1_inb k)) (gAt arg2 f2 ![0, 0] inb_S1x3456_S1x128_0_0)
def y1 : FVec F S128x128 .f32 := yTile (sT arg1 k f1) (xAt arg1 f1 (k0_off2 k) (k0_off2_inb k)) (gAt arg2 f2 ![0, 128] inb_S1x3456_S1x128_0_128)
def y2 : FVec F S128x128 .f32 := yTile (sT arg1 k f1) (xAt arg1 f1 (k0_off3 k) (k0_off3_inb k)) (gAt arg2 f2 ![0, 256] inb_S1x3456_S1x128_0_256)
def y3 : FVec F S128x128 .f32 := yTile (sT arg1 k f1) (xAt arg1 f1 (k0_off4 k) (k0_off4_inb k)) (gAt arg2 f2 ![0, 384] inb_S1x3456_S1x128_0_384)
def y4 : FVec F S128x128 .f32 := yTile (sT arg1 k f1) (xAt arg1 f1 (k0_off5 k) (k0_off5_inb k)) (gAt arg2 f2 ![0, 512] inb_S1x3456_S1x128_0_512)
def y5 : FVec F S128x128 .f32 := yTile (sT arg1 k f1) (xAt arg1 f1 (k0_off6 k) (k0_off6_inb k)) (gAt arg2 f2 ![0, 640] inb_S1x3456_S1x128_0_640)
def y6 : FVec F S128x128 .f32 := yTile (sT arg1 k f1) (xAt arg1 f1 (k0_off7 k) (k0_off7_inb k)) (gAt arg2 f2 ![0, 768] inb_S1x3456_S1x128_0_768)
def y7 : FVec F S128x128 .f32 := yTile (sT arg1 k f1) (xAt arg1 f1 (k0_off8 k) (k0_off8_inb k)) (gAt arg2 f2 ![0, 896] inb_S1x3456_S1x128_0_896)
def y8 : FVec F S128x128 .f32 := yTile (sT arg1 k f1) (xAt arg1 f1 (k0_off9 k) (k0_off9_inb k)) (gAt arg2 f2 ![0, 1024] inb_S1x3456_S1x128_0_1024)
def y9 : FVec F S128x128 .f32 := yTile (sT arg1 k f1) (xAt arg1 f1 (k0_off10 k) (k0_off10_inb k)) (gAt arg2 f2 ![0, 1152] inb_S1x3456_S1x128_0_1152)
def y10 : FVec F S128x128 .f32 := yTile (sT arg1 k f1) (xAt arg1 f1 (k0_off11 k) (k0_off11_inb k)) (gAt arg2 f2 ![0, 1280] inb_S1x3456_S1x128_0_1280)
def y11 : FVec F S128x128 .f32 := yTile (sT arg1 k f1) (xAt arg1 f1 (k0_off12 k) (k0_off12_inb k)) (gAt arg2 f2 ![0, 1408] inb_S1x3456_S1x128_0_1408)
def y12 : FVec F S128x128 .f32 := yTile (sT arg1 k f1) (xAt arg1 f1 (k0_off13 k) (k0_off13_inb k)) (gAt arg2 f2 ![0, 1536] inb_S1x3456_S1x128_0_1536)
def y13 : FVec F S128x128 .f32 := yTile (sT arg1 k f1) (xAt arg1 f1 (k0_off14 k) (k0_off14_inb k)) (gAt arg2 f2 ![0, 1664] inb_S1x3456_S1x128_0_1664)
def y14 : FVec F S128x128 .f32 := yTile (sT arg1 k f1) (xAt arg1 f1 (k0_off15 k) (k0_off15_inb k)) (gAt arg2 f2 ![0, 1792] inb_S1x3456_S1x128_0_1792)
def y15 : FVec F S128x128 .f32 := yTile (sT arg1 k f1) (xAt arg1 f1 (k0_off16 k) (k0_off16_inb k)) (gAt arg2 f2 ![0, 1920] inb_S1x3456_S1x128_0_1920)
def y16 : FVec F S128x128 .f32 := yTile (sT arg1 k f1) (xAt arg1 f1 (k0_off17 k) (k0_off17_inb k)) (gAt arg2 f2 ![0, 2048] inb_S1x3456_S1x128_0_2048)
def y17 : FVec F S128x128 .f32 := yTile (sT arg1 k f1) (xAt arg1 f1 (k0_off18 k) (k0_off18_inb k)) (gAt arg2 f2 ![0, 2176] inb_S1x3456_S1x128_0_2176)
def y18 : FVec F S128x128 .f32 := yTile (sT arg1 k f1) (xAt arg1 f1 (k0_off19 k) (k0_off19_inb k)) (gAt arg2 f2 ![0, 2304] inb_S1x3456_S1x128_0_2304)
def y19 : FVec F S128x128 .f32 := yTile (sT arg1 k f1) (xAt arg1 f1 (k0_off20 k) (k0_off20_inb k)) (gAt arg2 f2 ![0, 2432] inb_S1x3456_S1x128_0_2432)
def y20 : FVec F S128x128 .f32 := yTile (sT arg1 k f1) (xAt arg1 f1 (k0_off21 k) (k0_off21_inb k)) (gAt arg2 f2 ![0, 2560] inb_S1x3456_S1x128_0_2560)
def y21 : FVec F S128x128 .f32 := yTile (sT arg1 k f1) (xAt arg1 f1 (k0_off22 k) (k0_off22_inb k)) (gAt arg2 f2 ![0, 2688] inb_S1x3456_S1x128_0_2688)
def y22 : FVec F S128x128 .f32 := yTile (sT arg1 k f1) (xAt arg1 f1 (k0_off23 k) (k0_off23_inb k)) (gAt arg2 f2 ![0, 2816] inb_S1x3456_S1x128_0_2816)
def y23 : FVec F S128x128 .f32 := yTile (sT arg1 k f1) (xAt arg1 f1 (k0_off24 k) (k0_off24_inb k)) (gAt arg2 f2 ![0, 2944] inb_S1x3456_S1x128_0_2944)
def y24 : FVec F S128x128 .f32 := yTile (sT arg1 k f1) (xAt arg1 f1 (k0_off25 k) (k0_off25_inb k)) (gAt arg2 f2 ![0, 3072] inb_S1x3456_S1x128_0_3072)
def y25 : FVec F S128x128 .f32 := yTile (sT arg1 k f1) (xAt arg1 f1 (k0_off26 k) (k0_off26_inb k)) (gAt arg2 f2 ![0, 3200] inb_S1x3456_S1x128_0_3200)
def y26 : FVec F S128x128 .f32 := yTile (sT arg1 k f1) (xAt arg1 f1 (k0_off27 k) (k0_off27_inb k)) (gAt arg2 f2 ![0, 3328] inb_S1x3456_S1x128_0_3328)

theorem trip_rc : (trip c i arg1 harg1 arg2 harg2 arg3 harg3 arg4 harg4 arg5 harg5 arg6 harg6 arg7 harg7 arg8 harg8 arg0 v0 k f1 f2).1 =
    [⟨Rect.unit (s := S512x3456) (k0_off27 k) S128x128.size (k0_off27_inb k), rowCode (y26 arg1 arg2 k f1 f2)⟩,
     ⟨Rect.unit (s := S512x3456) (k0_off26 k) S128x128.size (k0_off26_inb k), rowCode (y25 arg1 arg2 k f1 f2)⟩,
     ⟨Rect.unit (s := S512x3456) (k0_off25 k) S128x128.size (k0_off25_inb k), rowCode (y24 arg1 arg2 k f1 f2)⟩,
     ⟨Rect.unit (s := S512x3456) (k0_off24 k) S128x128.size (k0_off24_inb k), rowCode (y23 arg1 arg2 k f1 f2)⟩,
     ⟨Rect.unit (s := S512x3456) (k0_off23 k) S128x128.size (k0_off23_inb k), rowCode (y22 arg1 arg2 k f1 f2)⟩,
     ⟨Rect.unit (s := S512x3456) (k0_off22 k) S128x128.size (k0_off22_inb k), rowCode (y21 arg1 arg2 k f1 f2)⟩,
     ⟨Rect.unit (s := S512x3456) (k0_off21 k) S128x128.size (k0_off21_inb k), rowCode (y20 arg1 arg2 k f1 f2)⟩,
     ⟨Rect.unit (s := S512x3456) (k0_off20 k) S128x128.size (k0_off20_inb k), rowCode (y19 arg1 arg2 k f1 f2)⟩,
     ⟨Rect.unit (s := S512x3456) (k0_off19 k) S128x128.size (k0_off19_inb k), rowCode (y18 arg1 arg2 k f1 f2)⟩,
     ⟨Rect.unit (s := S512x3456) (k0_off18 k) S128x128.size (k0_off18_inb k), rowCode (y17 arg1 arg2 k f1 f2)⟩,
     ⟨Rect.unit (s := S512x3456) (k0_off17 k) S128x128.size (k0_off17_inb k), rowCode (y16 arg1 arg2 k f1 f2)⟩,
     ⟨Rect.unit (s := S512x3456) (k0_off16 k) S128x128.size (k0_off16_inb k), rowCode (y15 arg1 arg2 k f1 f2)⟩,
     ⟨Rect.unit (s := S512x3456) (k0_off15 k) S128x128.size (k0_off15_inb k), rowCode (y14 arg1 arg2 k f1 f2)⟩,
     ⟨Rect.unit (s := S512x3456) (k0_off14 k) S128x128.size (k0_off14_inb k), rowCode (y13 arg1 arg2 k f1 f2)⟩,
     ⟨Rect.unit (s := S512x3456) (k0_off13 k) S128x128.size (k0_off13_inb k), rowCode (y12 arg1 arg2 k f1 f2)⟩,
     ⟨Rect.unit (s := S512x3456) (k0_off12 k) S128x128.size (k0_off12_inb k), rowCode (y11 arg1 arg2 k f1 f2)⟩,
     ⟨Rect.unit (s := S512x3456) (k0_off11 k) S128x128.size (k0_off11_inb k), rowCode (y10 arg1 arg2 k f1 f2)⟩,
     ⟨Rect.unit (s := S512x3456) (k0_off10 k) S128x128.size (k0_off10_inb k), rowCode (y9 arg1 arg2 k f1 f2)⟩,
     ⟨Rect.unit (s := S512x3456) (k0_off9 k) S128x128.size (k0_off9_inb k), rowCode (y8 arg1 arg2 k f1 f2)⟩,
     ⟨Rect.unit (s := S512x3456) (k0_off8 k) S128x128.size (k0_off8_inb k), rowCode (y7 arg1 arg2 k f1 f2)⟩,
     ⟨Rect.unit (s := S512x3456) (k0_off7 k) S128x128.size (k0_off7_inb k), rowCode (y6 arg1 arg2 k f1 f2)⟩,
     ⟨Rect.unit (s := S512x3456) (k0_off6 k) S128x128.size (k0_off6_inb k), rowCode (y5 arg1 arg2 k f1 f2)⟩,
     ⟨Rect.unit (s := S512x3456) (k0_off5 k) S128x128.size (k0_off5_inb k), rowCode (y4 arg1 arg2 k f1 f2)⟩,
     ⟨Rect.unit (s := S512x3456) (k0_off4 k) S128x128.size (k0_off4_inb k), rowCode (y3 arg1 arg2 k f1 f2)⟩,
     ⟨Rect.unit (s := S512x3456) (k0_off3 k) S128x128.size (k0_off3_inb k), rowCode (y2 arg1 arg2 k f1 f2)⟩,
     ⟨Rect.unit (s := S512x3456) (k0_off2 k) S128x128.size (k0_off2_inb k), rowCode (y1 arg1 arg2 k f1 f2)⟩,
     ⟨Rect.unit (s := S512x3456) (k0_off1 k) S128x128.size (k0_off1_inb k), rowCode (y0 arg1 arg2 k f1 f2)⟩]
    := by
  unfold trip; rfl

theorem trip_cc : (trip c i arg1 harg1 arg2 harg2 arg3 harg3 arg4 harg4 arg5 harg5 arg6 harg6 arg7 harg7 arg8 harg8 arg0 v0 k f1 f2).2.2.1 =
    [⟨Rect.unit (s := S3456x512) (k0_off81 k) S128x128.size (k0_off81_inb k), colCode (y26 arg1 arg2 k f1 f2)⟩,
     ⟨Rect.unit (s := S3456x512) (k0_off79 k) S128x128.size (k0_off79_inb k), colCode (y25 arg1 arg2 k f1 f2)⟩,
     ⟨Rect.unit (s := S3456x512) (k0_off77 k) S128x128.size (k0_off77_inb k), colCode (y24 arg1 arg2 k f1 f2)⟩,
     ⟨Rect.unit (s := S3456x512) (k0_off75 k) S128x128.size (k0_off75_inb k), colCode (y23 arg1 arg2 k f1 f2)⟩,
     ⟨Rect.unit (s := S3456x512) (k0_off73 k) S128x128.size (k0_off73_inb k), colCode (y22 arg1 arg2 k f1 f2)⟩,
     ⟨Rect.unit (s := S3456x512) (k0_off71 k) S128x128.size (k0_off71_inb k), colCode (y21 arg1 arg2 k f1 f2)⟩,
     ⟨Rect.unit (s := S3456x512) (k0_off69 k) S128x128.size (k0_off69_inb k), colCode (y20 arg1 arg2 k f1 f2)⟩,
     ⟨Rect.unit (s := S3456x512) (k0_off67 k) S128x128.size (k0_off67_inb k), colCode (y19 arg1 arg2 k f1 f2)⟩,
     ⟨Rect.unit (s := S3456x512) (k0_off65 k) S128x128.size (k0_off65_inb k), colCode (y18 arg1 arg2 k f1 f2)⟩,
     ⟨Rect.unit (s := S3456x512) (k0_off63 k) S128x128.size (k0_off63_inb k), colCode (y17 arg1 arg2 k f1 f2)⟩,
     ⟨Rect.unit (s := S3456x512) (k0_off61 k) S128x128.size (k0_off61_inb k), colCode (y16 arg1 arg2 k f1 f2)⟩,
     ⟨Rect.unit (s := S3456x512) (k0_off59 k) S128x128.size (k0_off59_inb k), colCode (y15 arg1 arg2 k f1 f2)⟩,
     ⟨Rect.unit (s := S3456x512) (k0_off57 k) S128x128.size (k0_off57_inb k), colCode (y14 arg1 arg2 k f1 f2)⟩,
     ⟨Rect.unit (s := S3456x512) (k0_off55 k) S128x128.size (k0_off55_inb k), colCode (y13 arg1 arg2 k f1 f2)⟩,
     ⟨Rect.unit (s := S3456x512) (k0_off53 k) S128x128.size (k0_off53_inb k), colCode (y12 arg1 arg2 k f1 f2)⟩,
     ⟨Rect.unit (s := S3456x512) (k0_off51 k) S128x128.size (k0_off51_inb k), colCode (y11 arg1 arg2 k f1 f2)⟩,
     ⟨Rect.unit (s := S3456x512) (k0_off49 k) S128x128.size (k0_off49_inb k), colCode (y10 arg1 arg2 k f1 f2)⟩,
     ⟨Rect.unit (s := S3456x512) (k0_off47 k) S128x128.size (k0_off47_inb k), colCode (y9 arg1 arg2 k f1 f2)⟩,
     ⟨Rect.unit (s := S3456x512) (k0_off45 k) S128x128.size (k0_off45_inb k), colCode (y8 arg1 arg2 k f1 f2)⟩,
     ⟨Rect.unit (s := S3456x512) (k0_off43 k) S128x128.size (k0_off43_inb k), colCode (y7 arg1 arg2 k f1 f2)⟩,
     ⟨Rect.unit (s := S3456x512) (k0_off41 k) S128x128.size (k0_off41_inb k), colCode (y6 arg1 arg2 k f1 f2)⟩,
     ⟨Rect.unit (s := S3456x512) (k0_off39 k) S128x128.size (k0_off39_inb k), colCode (y5 arg1 arg2 k f1 f2)⟩,
     ⟨Rect.unit (s := S3456x512) (k0_off37 k) S128x128.size (k0_off37_inb k), colCode (y4 arg1 arg2 k f1 f2)⟩,
     ⟨Rect.unit (s := S3456x512) (k0_off35 k) S128x128.size (k0_off35_inb k), colCode (y3 arg1 arg2 k f1 f2)⟩,
     ⟨Rect.unit (s := S3456x512) (k0_off33 k) S128x128.size (k0_off33_inb k), colCode (y2 arg1 arg2 k f1 f2)⟩,
     ⟨Rect.unit (s := S3456x512) (k0_off31 k) S128x128.size (k0_off31_inb k), colCode (y1 arg1 arg2 k f1 f2)⟩,
     ⟨Rect.unit (s := S3456x512) (k0_off29 k) S128x128.size (k0_off29_inb k), colCode (y0 arg1 arg2 k f1 f2)⟩]
    := by
  unfold trip; rfl

theorem trip_cs : (trip c i arg1 harg1 arg2 harg2 arg3 harg3 arg4 harg4 arg5 harg5 arg6 harg6 arg7 harg7 arg8 harg8 arg0 v0 k f1 f2).2.2.2.2.1 =
    [⟨Rect.unit (s := S27x128x128) (k0_off82 i k) S1x1x128.size (k0_off82_inb i k), scaleRow (y26 arg1 arg2 k f1 f2)⟩,
     ⟨Rect.unit (s := S27x128x128) (k0_off80 i k) S1x1x128.size (k0_off80_inb i k), scaleRow (y25 arg1 arg2 k f1 f2)⟩,
     ⟨Rect.unit (s := S27x128x128) (k0_off78 i k) S1x1x128.size (k0_off78_inb i k), scaleRow (y24 arg1 arg2 k f1 f2)⟩,
     ⟨Rect.unit (s := S27x128x128) (k0_off76 i k) S1x1x128.size (k0_off76_inb i k), scaleRow (y23 arg1 arg2 k f1 f2)⟩,
     ⟨Rect.unit (s := S27x128x128) (k0_off74 i k) S1x1x128.size (k0_off74_inb i k), scaleRow (y22 arg1 arg2 k f1 f2)⟩,
     ⟨Rect.unit (s := S27x128x128) (k0_off72 i k) S1x1x128.size (k0_off72_inb i k), scaleRow (y21 arg1 arg2 k f1 f2)⟩,
     ⟨Rect.unit (s := S27x128x128) (k0_off70 i k) S1x1x128.size (k0_off70_inb i k), scaleRow (y20 arg1 arg2 k f1 f2)⟩,
     ⟨Rect.unit (s := S27x128x128) (k0_off68 i k) S1x1x128.size (k0_off68_inb i k), scaleRow (y19 arg1 arg2 k f1 f2)⟩,
     ⟨Rect.unit (s := S27x128x128) (k0_off66 i k) S1x1x128.size (k0_off66_inb i k), scaleRow (y18 arg1 arg2 k f1 f2)⟩,
     ⟨Rect.unit (s := S27x128x128) (k0_off64 i k) S1x1x128.size (k0_off64_inb i k), scaleRow (y17 arg1 arg2 k f1 f2)⟩,
     ⟨Rect.unit (s := S27x128x128) (k0_off62 i k) S1x1x128.size (k0_off62_inb i k), scaleRow (y16 arg1 arg2 k f1 f2)⟩,
     ⟨Rect.unit (s := S27x128x128) (k0_off60 i k) S1x1x128.size (k0_off60_inb i k), scaleRow (y15 arg1 arg2 k f1 f2)⟩,
     ⟨Rect.unit (s := S27x128x128) (k0_off58 i k) S1x1x128.size (k0_off58_inb i k), scaleRow (y14 arg1 arg2 k f1 f2)⟩,
     ⟨Rect.unit (s := S27x128x128) (k0_off56 i k) S1x1x128.size (k0_off56_inb i k), scaleRow (y13 arg1 arg2 k f1 f2)⟩,
     ⟨Rect.unit (s := S27x128x128) (k0_off54 i k) S1x1x128.size (k0_off54_inb i k), scaleRow (y12 arg1 arg2 k f1 f2)⟩,
     ⟨Rect.unit (s := S27x128x128) (k0_off52 i k) S1x1x128.size (k0_off52_inb i k), scaleRow (y11 arg1 arg2 k f1 f2)⟩,
     ⟨Rect.unit (s := S27x128x128) (k0_off50 i k) S1x1x128.size (k0_off50_inb i k), scaleRow (y10 arg1 arg2 k f1 f2)⟩,
     ⟨Rect.unit (s := S27x128x128) (k0_off48 i k) S1x1x128.size (k0_off48_inb i k), scaleRow (y9 arg1 arg2 k f1 f2)⟩,
     ⟨Rect.unit (s := S27x128x128) (k0_off46 i k) S1x1x128.size (k0_off46_inb i k), scaleRow (y8 arg1 arg2 k f1 f2)⟩,
     ⟨Rect.unit (s := S27x128x128) (k0_off44 i k) S1x1x128.size (k0_off44_inb i k), scaleRow (y7 arg1 arg2 k f1 f2)⟩,
     ⟨Rect.unit (s := S27x128x128) (k0_off42 i k) S1x1x128.size (k0_off42_inb i k), scaleRow (y6 arg1 arg2 k f1 f2)⟩,
     ⟨Rect.unit (s := S27x128x128) (k0_off40 i k) S1x1x128.size (k0_off40_inb i k), scaleRow (y5 arg1 arg2 k f1 f2)⟩,
     ⟨Rect.unit (s := S27x128x128) (k0_off38 i k) S1x1x128.size (k0_off38_inb i k), scaleRow (y4 arg1 arg2 k f1 f2)⟩,
     ⟨Rect.unit (s := S27x128x128) (k0_off36 i k) S1x1x128.size (k0_off36_inb i k), scaleRow (y3 arg1 arg2 k f1 f2)⟩,
     ⟨Rect.unit (s := S27x128x128) (k0_off34 i k) S1x1x128.size (k0_off34_inb i k), scaleRow (y2 arg1 arg2 k f1 f2)⟩,
     ⟨Rect.unit (s := S27x128x128) (k0_off32 i k) S1x1x128.size (k0_off32_inb i k), scaleRow (y1 arg1 arg2 k f1 f2)⟩,
     ⟨Rect.unit (s := S27x128x128) (k0_off30 i k) S1x1x128.size (k0_off30_inb i k), scaleRow (y0 arg1 arg2 k f1 f2)⟩]
    := by
  unfold trip; rfl

theorem trip_sig : (trip c i arg1 harg1 arg2 harg2 arg3 harg3 arg4 harg4 arg5 harg5 arg6 harg6 arg7 harg7 arg8 harg8 arg0 v0 k f1 f2).2.2.2.1 =
    [⟨Rect.unit (s := S416x128) (k0_off28 i k) S1x128.size (k0_off28_inb i k), sigRow (sT arg1 k f1)⟩] := by
  unfold trip; rfl

theorem trip_rs : (trip c i arg1 harg1 arg2 harg2 arg3 harg3 arg4 harg4 arg5 harg5 arg6 harg6 arg7 harg7 arg8 harg8 arg0 v0 k f1 f2).2.1 =
    [⟨Rect.unit (s := S512x27) (k0_off83 k) S128x27.size (k0_off83_inb k), rowScales v0 [(0#32, y0 arg1 arg2 k f1 f2), (1#32, y1 arg1 arg2 k f1 f2), (2#32, y2 arg1 arg2 k f1 f2), (3#32, y3 arg1 arg2 k f1 f2), (4#32, y4 arg1 arg2 k f1 f2), (5#32, y5 arg1 arg2 k f1 f2), (6#32, y6 arg1 arg2 k f1 f2), (7#32, y7 arg1 arg2 k f1 f2), (8#32, y8 arg1 arg2 k f1 f2), (9#32, y9 arg1 arg2 k f1 f2), (10#32, y10 arg1 arg2 k f1 f2), (11#32, y11 arg1 arg2 k f1 f2), (12#32, y12 arg1 arg2 k f1 f2), (13#32, y13 arg1 arg2 k f1 f2), (14#32, y14 arg1 arg2 k f1 f2), (15#32, y15 arg1 arg2 k f1 f2), (16#32, y16 arg1 arg2 k f1 f2), (17#32, y17 arg1 arg2 k f1 f2), (18#32, y18 arg1 arg2 k f1 f2), (19#32, y19 arg1 arg2 k f1 f2), (20#32, y20 arg1 arg2 k f1 f2), (21#32, y21 arg1 arg2 k f1 f2), (22#32, y22 arg1 arg2 k f1 f2), (23#32, y23 arg1 arg2 k f1 f2), (24#32, y24 arg1 arg2 k f1 f2), (25#32, y25 arg1 arg2 k f1 f2), (26#32, y26 arg1 arg2 k f1 f2)]⟩] := by
  unfold trip; rfl

end trip

end Cert.KernelIdeal.Hand

end
-- ==== Proof.Lists.lean ====
/-
  The five results as functions of the whole operands, and the loop's stores as blocks of them. Rows are numbered by 416 blocks of 128,
  columns by 27 groups of 128. `rcode`, `rscale`, `ccode`, `cscale` and `sigs` put the tile operations of Tile.lean together; the
  `_agree` theorems say that each store of a trip holds a piece of one of them, and the `_cover` theorems where a trip's stores lie.
-/
module

public import proofs.«01_k».proof.Proof.Tile
public import Idealize.ShloMosaic.Lib.ValueLayout

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F] [Named F]

/-! ## The results, of the whole operands -/

section results

variable (A : Vec F S53248x3456 .bf16) (Γ : Vec F S1x3456 .f32)

def xG (b : Fin 416) (g : Fin 27) : Vec F S128x128 .bf16 := fun j =>
  A (ix2 ⟨128 * b.val + (j 0).val, by have : (j 0).val < 128 := (j 0).isLt; omega⟩ ⟨128 * g.val + (j 1).val, by have : (j 1).val < 128 := (j 1).isLt; omega⟩)

def gG (g : Fin 27) : Vec F S1x128 .f32 := fun j =>
  Γ (ix2 (0 : Fin 1) ⟨128 * g.val + (j 1).val, by have : (j 1).val < 128 := (j 1).isLt; omega⟩)

def sG (b : Fin 416) : FVec F S128x128 .f32 := sigTile ((List.finRange 27).map (xG A b))

def yG (b : Fin 416) (g : Fin 27) : FVec F S128x128 .f32 := yTile (sG A b) (xG A b g) (gG Γ g)

def rcode : Vec F S53248x3456 .fp8e4m3 := fun j =>
  rowCode (yG A Γ ⟨(j 0).val / 128, by have : (j 0).val < 53248 := (j 0).isLt; omega⟩ ⟨(j 1).val / 128, by have : (j 1).val < 3456 := (j 1).isLt; omega⟩)
    (ix2 ⟨(j 0).val % 128, Nat.mod_lt _ (by decide)⟩ ⟨(j 1).val % 128, Nat.mod_lt _ (by decide)⟩)

def rscale : Vec F S53248x27 .f32 := fun j =>
  rowScales (iota .tc S128x128 32 [1] iota_S128x128_d1_w32)
    ((List.finRange 27).map fun g => (BitVec.ofNat 32 g.val, yG A Γ ⟨(j 0).val / 128, by have : (j 0).val < 53248 := (j 0).isLt; omega⟩ g))
    (ix2 ⟨(j 0).val % 128, Nat.mod_lt _ (by decide)⟩ (j 1))

def ccode : Vec F S3456x53248 .fp8e4m3 := fun j =>
  colCode (yG A Γ ⟨(j 1).val / 128, by have : (j 1).val < 53248 := (j 1).isLt; omega⟩ ⟨(j 0).val / 128, by have : (j 0).val < 3456 := (j 0).isLt; omega⟩)
    (ix2 ⟨(j 0).val % 128, Nat.mod_lt _ (by decide)⟩ ⟨(j 1).val % 128, Nat.mod_lt _ (by decide)⟩)

def cscale : Vec F S3456x416 .f32 := fun j =>
  colScale (yG A Γ (j 1) ⟨(j 0).val / 128, by have : (j 0).val < 3456 := (j 0).isLt; omega⟩)
    (ix2 (0 : Fin 1) ⟨(j 0).val % 128, Nat.mod_lt _ (by decide)⟩)

def sigs : Vec F S416x128 .f32 := fun j => sigRow (sG A (j 0)) (ix2 (0 : Fin 1) (j 1))

theorem rcode_at (b : Fin 416) (g : Fin 27) (j : S53248x3456.Idx) (x : S128x128.Idx) (h0 : (j 0).val = 128 * b.val + (x 0).val)
    (h1 : (j 1).val = 128 * g.val + (x 1).val) : rcode A Γ j = rowCode (yG A Γ b g) x := by
  have hx0 : (x 0).val < 128 := (x 0).isLt
  have hx1 : (x 1).val < 128 := (x 1).isLt
  have e0 : (⟨(j 0).val / 128, by have : (j 0).val < 53248 := (j 0).isLt; omega⟩ : Fin 416) = b := Fin.ext (by simp only []; omega)
  have e1 : (⟨(j 1).val / 128, by have : (j 1).val < 3456 := (j 1).isLt; omega⟩ : Fin 27) = g := Fin.ext (by simp only []; omega)
  have ex : (ix2 ⟨(j 0).val % 128, Nat.mod_lt _ (by decide)⟩ ⟨(j 1).val % 128, Nat.mod_lt _ (by decide)⟩ : S128x128.Idx) = x := by
    funext a; match a with | ⟨0, _⟩ => exact Fin.ext (by show (j 0).val % 128 = (x 0).val; omega) | ⟨1, _⟩ => exact Fin.ext (by show (j 1).val % 128 = (x 1).val; omega)
  unfold rcode
  rw [e0, e1, ex]

theorem ccode_at (b : Fin 416) (g : Fin 27) (j : S3456x53248.Idx) (x : S128x128.Idx) (h0 : (j 0).val = 128 * g.val + (x 0).val)
    (h1 : (j 1).val = 128 * b.val + (x 1).val) : ccode A Γ j = colCode (yG A Γ b g) x := by
  have hx0 : (x 0).val < 128 := (x 0).isLt
  have hx1 : (x 1).val < 128 := (x 1).isLt
  have e0 : (⟨(j 1).val / 128, by have : (j 1).val < 53248 := (j 1).isLt; omega⟩ : Fin 416) = b := Fin.ext (by simp only []; omega)
  have e1 : (⟨(j 0).val / 128, by have : (j 0).val < 3456 := (j 0).isLt; omega⟩ : Fin 27) = g := Fin.ext (by simp only []; omega)
  have ex : (ix2 ⟨(j 0).val % 128, Nat.mod_lt _ (by decide)⟩ ⟨(j 1).val % 128, Nat.mod_lt _ (by decide)⟩ : S128x128.Idx) = x := by
    funext a; match a with | ⟨0, _⟩ => exact Fin.ext (by show (j 0).val % 128 = (x 0).val; omega) | ⟨1, _⟩ => exact Fin.ext (by show (j 1).val % 128 = (x 1).val; omega)
  unfold ccode
  rw [e0, e1, ex]

theorem rscale_at (b : Fin 416) (j : S53248x27.Idx) (x : S128x27.Idx) (h0 : (j 0).val = 128 * b.val + (x 0).val)
    (h1 : (j 1).val = (x 1).val) : rscale A Γ j = rowScales (iota .tc S128x128 32 [1] iota_S128x128_d1_w32)
      ((List.finRange 27).map fun g => (BitVec.ofNat 32 g.val, yG A Γ b g)) x := by
  have hx0 : (x 0).val < 128 := (x 0).isLt
  have e0 : (⟨(j 0).val / 128, by have : (j 0).val < 53248 := (j 0).isLt; omega⟩ : Fin 416) = b := Fin.ext (by simp only []; omega)
  have ex : (ix2 ⟨(j 0).val % 128, Nat.mod_lt _ (by decide)⟩ (j 1) : S128x27.Idx) = x := by
    funext a; match a with | ⟨0, _⟩ => exact Fin.ext (by show (j 0).val % 128 = (x 0).val; omega) | ⟨1, _⟩ => exact Fin.ext h1
  unfold rscale
  rw [e0, ex]

theorem cscale_at (b : Fin 416) (g : Fin 27) (j : S3456x416.Idx) (x : S1x1x128.Idx) (h0 : (j 0).val = 128 * g.val + (x 2).val)
    (h1 : (j 1).val = b.val) : cscale A Γ j = scaleRow (yG A Γ b g) x := by
  have hx2 : (x 2).val < 128 := (x 2).isLt
  have hx0 : (x 0).val < 1 := (x 0).isLt
  have hx1 : (x 1).val < 1 := (x 1).isLt
  have e0 : j 1 = b := Fin.ext h1
  have e1 : (⟨(j 0).val / 128, by have : (j 0).val < 3456 := (j 0).isLt; omega⟩ : Fin 27) = g := Fin.ext (by simp only []; omega)
  unfold cscale scaleRow
  rw [e0, e1]
  refine (shapeCast_apply _ shapeCasts_S1x128_S1x1x128 _ _ ?_).symm
  rw [Shape.rowMajor_val_three, Shape.rowMajor_val_two]
  show 0 * 128 + (j 0).val % 128 = ((x 0).val * 1 + (x 1).val) * 128 + (x 2).val
  omega

theorem sigs_at (b : Fin 416) (j : S416x128.Idx) (x : S1x128.Idx) (h0 : (j 0).val = b.val) (h1 : (j 1).val = (x 1).val) :
    sigs A j = sigRow (sG A b) x := by
  have hx0 : (x 0).val < 1 := (x 0).isLt
  have e0 : j 0 = b := Fin.ext h0
  have ex : (ix2 (0 : Fin 1) (j 1) : S1x128.Idx) = x := by
    funext a; match a with | ⟨0, _⟩ => exact Fin.ext (by show 0 = (x 0).val; omega) | ⟨1, _⟩ => exact Fin.ext h1
  unfold sigs
  rw [e0, ex]

end results

/-! ## The stores of one trip -/

theorem trips_eq : k0_t1_loop.trips = 4 := by decide +kernel

/-- The block of 128 rows that trip `k` of grid point `i` handles. -/
def blk (i : grid0.Coords) (k : Fin k0_t1_loop.trips) : Fin 416 :=
  ⟨4 * (i 0).val + k.val, by have h0 : (i 0).val < 104 := (i 0).isLt; have hk := lt_of_lt_of_eq k.isLt trips_eq; omega⟩

theorem blk_val (i : grid0.Coords) (k : Fin k0_t1_loop.trips) : (blk i k).val = 4 * (i 0).val + k.val := rfl

section trip

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (arg0 : BitVec 32) (v0 : IVec S128x128 32) (k : Fin k0_t1_loop.trips)
    (f1 : BufTy.Contents (Elt F) arg1.view.ty) (f2 : BufTy.Contents (Elt F) arg2.view.ty)
    (A : Vec F S53248x3456 .bf16) (Γ : Vec F S1x3456 .f32)

/-- Row `r` of grid point `i`'s block of 512. -/
def row (r : Fin 512) : Fin 53248 := ⟨512 * (i 0).val + r.val, by have h0 : (i 0).val < 104 := (i 0).isLt; omega⟩

/-- Column `r` of the block of 128 row blocks that grid point `i` belongs to. -/
def seg (r : ℕ) (h : 128 * ((i 0).val / 32) + r < 416) : Fin 416 := ⟨128 * ((i 0).val / 32) + r, h⟩

/-- The staged block is the operand's. -/
abbrev Staged : Prop := ∀ y : S512x3456.Idx, arg1.view.read (Elt F) f1 y = A (ix2 (row i (y 0)) (y 1))

variable (hX : Staged i arg1 f1 A) (hG : arg2.view.read (Elt F) f2 = Γ)

include hX in
theorem xAt_eq (g : Fin 27) (o : Fin 2 → ℕ) (h : ∀ a, o a + S128x128.size a ≤ S512x3456.size a) (ho : o = ![128 * k.val, 128 * g.val]) :
    xAt arg1 f1 o h = xG A (blk i k) g := by
  subst ho
  funext j
  refine (hX _).trans ?_
  unfold xG
  congr 1
  funext a
  match a with
  | ⟨0, _⟩ => exact Fin.ext (by show 512 * (i 0).val + (128 * k.val + 1 * (j 0).val) = 128 * (4 * (i 0).val + k.val) + (j 0).val; omega)
  | ⟨1, _⟩ => exact Fin.ext (by show 128 * g.val + 1 * (j 1).val = 128 * g.val + (j 1).val; omega)

include hG in
theorem gAt_eq (g : Fin 27) (o : Fin 2 → ℕ) (h : ∀ a, o a + S1x128.size a ≤ S1x3456.size a) (ho : o = ![0, 128 * g.val]) :
    gAt arg2 f2 o h = gG Γ g := by
  subst ho hG
  funext j
  have hj : (j 0).val < 1 := (j 0).isLt
  show arg2.view.read (Elt F) f2 _ = arg2.view.read (Elt F) f2 _
  congr 1
  funext a
  match a with
  | ⟨0, _⟩ => exact Fin.ext (by show 0 + 1 * (j 0).val = 0; omega)
  | ⟨1, _⟩ => exact Fin.ext (by show 128 * g.val + 1 * (j 1).val = 128 * g.val + (j 1).val; omega)

include hX in
theorem xs_eq : xs arg1 k f1 = (List.finRange 27).map (xG A (blk i k)) := by
  unfold xs
  rw [xAt_eq i arg1 k f1 A hX 0 (k0_off1 k) (k0_off1_inb k) (k0_off1_eq k),
    xAt_eq i arg1 k f1 A hX 1 (k0_off2 k) (k0_off2_inb k) (k0_off2_eq k),
    xAt_eq i arg1 k f1 A hX 2 (k0_off3 k) (k0_off3_inb k) (k0_off3_eq k),
    xAt_eq i arg1 k f1 A hX 3 (k0_off4 k) (k0_off4_inb k) (k0_off4_eq k),
    xAt_eq i arg1 k f1 A hX 4 (k0_off5 k) (k0_off5_inb k) (k0_off5_eq k),
    xAt_eq i arg1 k f1 A hX 5 (k0_off6 k) (k0_off6_inb k) (k0_off6_eq k),
    xAt_eq i arg1 k f1 A hX 6 (k0_off7 k) (k0_off7_inb k) (k0_off7_eq k),
    xAt_eq i arg1 k f1 A hX 7 (k0_off8 k) (k0_off8_inb k) (k0_off8_eq k),
    xAt_eq i arg1 k f1 A hX 8 (k0_off9 k) (k0_off9_inb k) (k0_off9_eq k),
    xAt_eq i arg1 k f1 A hX 9 (k0_off10 k) (k0_off10_inb k) (k0_off10_eq k),
    xAt_eq i arg1 k f1 A hX 10 (k0_off11 k) (k0_off11_inb k) (k0_off11_eq k),
    xAt_eq i arg1 k f1 A hX 11 (k0_off12 k) (k0_off12_inb k) (k0_off12_eq k),
    xAt_eq i arg1 k f1 A hX 12 (k0_off13 k) (k0_off13_inb k) (k0_off13_eq k),
    xAt_eq i arg1 k f1 A hX 13 (k0_off14 k) (k0_off14_inb k) (k0_off14_eq k),
    xAt_eq i arg1 k f1 A hX 14 (k0_off15 k) (k0_off15_inb k) (k0_off15_eq k),
    xAt_eq i arg1 k f1 A hX 15 (k0_off16 k) (k0_off16_inb k) (k0_off16_eq k),
    xAt_eq i arg1 k f1 A hX 16 (k0_off17 k) (k0_off17_inb k) (k0_off17_eq k),
    xAt_eq i arg1 k f1 A hX 17 (k0_off18 k) (k0_off18_inb k) (k0_off18_eq k),
    xAt_eq i arg1 k f1 A hX 18 (k0_off19 k) (k0_off19_inb k) (k0_off19_eq k),
    xAt_eq i arg1 k f1 A hX 19 (k0_off20 k) (k0_off20_inb k) (k0_off20_eq k),
    xAt_eq i arg1 k f1 A hX 20 (k0_off21 k) (k0_off21_inb k) (k0_off21_eq k),
    xAt_eq i arg1 k f1 A hX 21 (k0_off22 k) (k0_off22_inb k) (k0_off22_eq k),
    xAt_eq i arg1 k f1 A hX 22 (k0_off23 k) (k0_off23_inb k) (k0_off23_eq k),
    xAt_eq i arg1 k f1 A hX 23 (k0_off24 k) (k0_off24_inb k) (k0_off24_eq k),
    xAt_eq i arg1 k f1 A hX 24 (k0_off25 k) (k0_off25_inb k) (k0_off25_eq k),
    xAt_eq i arg1 k f1 A hX 25 (k0_off26 k) (k0_off26_inb k) (k0_off26_eq k),
    xAt_eq i arg1 k f1 A hX 26 (k0_off27 k) (k0_off27_inb k) (k0_off27_eq k)]
  rfl

include hX in
theorem sT_eq : sT arg1 k f1 = sG A (blk i k) := by
  unfold sG
  rw [← xs_eq i arg1 k f1 A hX]

include hX hG in
theorem y0_eq : y0 arg1 arg2 k f1 f2 = yG A Γ (blk i k) 0 := by
  unfold y0 yG
  rw [sT_eq i arg1 k f1 A hX, xAt_eq i arg1 k f1 A hX 0 _ _ (k0_off1_eq k), gAt_eq arg2 f2 Γ hG 0 ![0, 0] inb_S1x3456_S1x128_0_0 rfl]

include hX hG in
theorem y1_eq : y1 arg1 arg2 k f1 f2 = yG A Γ (blk i k) 1 := by
  unfold y1 yG
  rw [sT_eq i arg1 k f1 A hX, xAt_eq i arg1 k f1 A hX 1 _ _ (k0_off2_eq k), gAt_eq arg2 f2 Γ hG 1 ![0, 128] inb_S1x3456_S1x128_0_128 rfl]

include hX hG in
theorem y2_eq : y2 arg1 arg2 k f1 f2 = yG A Γ (blk i k) 2 := by
  unfold y2 yG
  rw [sT_eq i arg1 k f1 A hX, xAt_eq i arg1 k f1 A hX 2 _ _ (k0_off3_eq k), gAt_eq arg2 f2 Γ hG 2 ![0, 256] inb_S1x3456_S1x128_0_256 rfl]

include hX hG in
theorem y3_eq : y3 arg1 arg2 k f1 f2 = yG A Γ (blk i k) 3 := by
  unfold y3 yG
  rw [sT_eq i arg1 k f1 A hX, xAt_eq i arg1 k f1 A hX 3 _ _ (k0_off4_eq k), gAt_eq arg2 f2 Γ hG 3 ![0, 384] inb_S1x3456_S1x128_0_384 rfl]

include hX hG in
theorem y4_eq : y4 arg1 arg2 k f1 f2 = yG A Γ (blk i k) 4 := by
  unfold y4 yG
  rw [sT_eq i arg1 k f1 A hX, xAt_eq i arg1 k f1 A hX 4 _ _ (k0_off5_eq k), gAt_eq arg2 f2 Γ hG 4 ![0, 512] inb_S1x3456_S1x128_0_512 rfl]

include hX hG in
theorem y5_eq : y5 arg1 arg2 k f1 f2 = yG A Γ (blk i k) 5 := by
  unfold y5 yG
  rw [sT_eq i arg1 k f1 A hX, xAt_eq i arg1 k f1 A hX 5 _ _ (k0_off6_eq k), gAt_eq arg2 f2 Γ hG 5 ![0, 640] inb_S1x3456_S1x128_0_640 rfl]

include hX hG in
theorem y6_eq : y6 arg1 arg2 k f1 f2 = yG A Γ (blk i k) 6 := by
  unfold y6 yG
  rw [sT_eq i arg1 k f1 A hX, xAt_eq i arg1 k f1 A hX 6 _ _ (k0_off7_eq k), gAt_eq arg2 f2 Γ hG 6 ![0, 768] inb_S1x3456_S1x128_0_768 rfl]

include hX hG in
theorem y7_eq : y7 arg1 arg2 k f1 f2 = yG A Γ (blk i k) 7 := by
  unfold y7 yG
  rw [sT_eq i arg1 k f1 A hX, xAt_eq i arg1 k f1 A hX 7 _ _ (k0_off8_eq k), gAt_eq arg2 f2 Γ hG 7 ![0, 896] inb_S1x3456_S1x128_0_896 rfl]

include hX hG in
theorem y8_eq : y8 arg1 arg2 k f1 f2 = yG A Γ (blk i k) 8 := by
  unfold y8 yG
  rw [sT_eq i arg1 k f1 A hX, xAt_eq i arg1 k f1 A hX 8 _ _ (k0_off9_eq k), gAt_eq arg2 f2 Γ hG 8 ![0, 1024] inb_S1x3456_S1x128_0_1024 rfl]

include hX hG in
theorem y9_eq : y9 arg1 arg2 k f1 f2 = yG A Γ (blk i k) 9 := by
  unfold y9 yG
  rw [sT_eq i arg1 k f1 A hX, xAt_eq i arg1 k f1 A hX 9 _ _ (k0_off10_eq k), gAt_eq arg2 f2 Γ hG 9 ![0, 1152] inb_S1x3456_S1x128_0_1152 rfl]

include hX hG in
theorem y10_eq : y10 arg1 arg2 k f1 f2 = yG A Γ (blk i k) 10 := by
  unfold y10 yG
  rw [sT_eq i arg1 k f1 A hX, xAt_eq i arg1 k f1 A hX 10 _ _ (k0_off11_eq k), gAt_eq arg2 f2 Γ hG 10 ![0, 1280] inb_S1x3456_S1x128_0_1280 rfl]

include hX hG in
theorem y11_eq : y11 arg1 arg2 k f1 f2 = yG A Γ (blk i k) 11 := by
  unfold y11 yG
  rw [sT_eq i arg1 k f1 A hX, xAt_eq i arg1 k f1 A hX 11 _ _ (k0_off12_eq k), gAt_eq arg2 f2 Γ hG 11 ![0, 1408] inb_S1x3456_S1x128_0_1408 rfl]

include hX hG in
theorem y12_eq : y12 arg1 arg2 k f1 f2 = yG A Γ (blk i k) 12 := by
  unfold y12 yG
  rw [sT_eq i arg1 k f1 A hX, xAt_eq i arg1 k f1 A hX 12 _ _ (k0_off13_eq k), gAt_eq arg2 f2 Γ hG 12 ![0, 1536] inb_S1x3456_S1x128_0_1536 rfl]

include hX hG in
theorem y13_eq : y13 arg1 arg2 k f1 f2 = yG A Γ (blk i k) 13 := by
  unfold y13 yG
  rw [sT_eq i arg1 k f1 A hX, xAt_eq i arg1 k f1 A hX 13 _ _ (k0_off14_eq k), gAt_eq arg2 f2 Γ hG 13 ![0, 1664] inb_S1x3456_S1x128_0_1664 rfl]

include hX hG in
theorem y14_eq : y14 arg1 arg2 k f1 f2 = yG A Γ (blk i k) 14 := by
  unfold y14 yG
  rw [sT_eq i arg1 k f1 A hX, xAt_eq i arg1 k f1 A hX 14 _ _ (k0_off15_eq k), gAt_eq arg2 f2 Γ hG 14 ![0, 1792] inb_S1x3456_S1x128_0_1792 rfl]

include hX hG in
theorem y15_eq : y15 arg1 arg2 k f1 f2 = yG A Γ (blk i k) 15 := by
  unfold y15 yG
  rw [sT_eq i arg1 k f1 A hX, xAt_eq i arg1 k f1 A hX 15 _ _ (k0_off16_eq k), gAt_eq arg2 f2 Γ hG 15 ![0, 1920] inb_S1x3456_S1x128_0_1920 rfl]

include hX hG in
theorem y16_eq : y16 arg1 arg2 k f1 f2 = yG A Γ (blk i k) 16 := by
  unfold y16 yG
  rw [sT_eq i arg1 k f1 A hX, xAt_eq i arg1 k f1 A hX 16 _ _ (k0_off17_eq k), gAt_eq arg2 f2 Γ hG 16 ![0, 2048] inb_S1x3456_S1x128_0_2048 rfl]

include hX hG in
theorem y17_eq : y17 arg1 arg2 k f1 f2 = yG A Γ (blk i k) 17 := by
  unfold y17 yG
  rw [sT_eq i arg1 k f1 A hX, xAt_eq i arg1 k f1 A hX 17 _ _ (k0_off18_eq k), gAt_eq arg2 f2 Γ hG 17 ![0, 2176] inb_S1x3456_S1x128_0_2176 rfl]

include hX hG in
theorem y18_eq : y18 arg1 arg2 k f1 f2 = yG A Γ (blk i k) 18 := by
  unfold y18 yG
  rw [sT_eq i arg1 k f1 A hX, xAt_eq i arg1 k f1 A hX 18 _ _ (k0_off19_eq k), gAt_eq arg2 f2 Γ hG 18 ![0, 2304] inb_S1x3456_S1x128_0_2304 rfl]

include hX hG in
theorem y19_eq : y19 arg1 arg2 k f1 f2 = yG A Γ (blk i k) 19 := by
  unfold y19 yG
  rw [sT_eq i arg1 k f1 A hX, xAt_eq i arg1 k f1 A hX 19 _ _ (k0_off20_eq k), gAt_eq arg2 f2 Γ hG 19 ![0, 2432] inb_S1x3456_S1x128_0_2432 rfl]

include hX hG in
theorem y20_eq : y20 arg1 arg2 k f1 f2 = yG A Γ (blk i k) 20 := by
  unfold y20 yG
  rw [sT_eq i arg1 k f1 A hX, xAt_eq i arg1 k f1 A hX 20 _ _ (k0_off21_eq k), gAt_eq arg2 f2 Γ hG 20 ![0, 2560] inb_S1x3456_S1x128_0_2560 rfl]

include hX hG in
theorem y21_eq : y21 arg1 arg2 k f1 f2 = yG A Γ (blk i k) 21 := by
  unfold y21 yG
  rw [sT_eq i arg1 k f1 A hX, xAt_eq i arg1 k f1 A hX 21 _ _ (k0_off22_eq k), gAt_eq arg2 f2 Γ hG 21 ![0, 2688] inb_S1x3456_S1x128_0_2688 rfl]

include hX hG in
theorem y22_eq : y22 arg1 arg2 k f1 f2 = yG A Γ (blk i k) 22 := by
  unfold y22 yG
  rw [sT_eq i arg1 k f1 A hX, xAt_eq i arg1 k f1 A hX 22 _ _ (k0_off23_eq k), gAt_eq arg2 f2 Γ hG 22 ![0, 2816] inb_S1x3456_S1x128_0_2816 rfl]

include hX hG in
theorem y23_eq : y23 arg1 arg2 k f1 f2 = yG A Γ (blk i k) 23 := by
  unfold y23 yG
  rw [sT_eq i arg1 k f1 A hX, xAt_eq i arg1 k f1 A hX 23 _ _ (k0_off24_eq k), gAt_eq arg2 f2 Γ hG 23 ![0, 2944] inb_S1x3456_S1x128_0_2944 rfl]

include hX hG in
theorem y24_eq : y24 arg1 arg2 k f1 f2 = yG A Γ (blk i k) 24 := by
  unfold y24 yG
  rw [sT_eq i arg1 k f1 A hX, xAt_eq i arg1 k f1 A hX 24 _ _ (k0_off25_eq k), gAt_eq arg2 f2 Γ hG 24 ![0, 3072] inb_S1x3456_S1x128_0_3072 rfl]

include hX hG in
theorem y25_eq : y25 arg1 arg2 k f1 f2 = yG A Γ (blk i k) 25 := by
  unfold y25 yG
  rw [sT_eq i arg1 k f1 A hX, xAt_eq i arg1 k f1 A hX 25 _ _ (k0_off26_eq k), gAt_eq arg2 f2 Γ hG 25 ![0, 3200] inb_S1x3456_S1x128_0_3200 rfl]

include hX hG in
theorem y26_eq : y26 arg1 arg2 k f1 f2 = yG A Γ (blk i k) 26 := by
  unfold y26 yG
  rw [sT_eq i arg1 k f1 A hX, xAt_eq i arg1 k f1 A hX 26 _ _ (k0_off27_eq k), gAt_eq arg2 f2 Γ hG 26 ![0, 3328] inb_S1x3456_S1x128_0_3328 rfl]

theorem rc_piece (g : Fin 27) (o : Fin 2 → ℕ) (h : ∀ a, o a + S128x128.size a ≤ S512x3456.size a) (ho : o = ![128 * k.val, 128 * g.val])
    (y : FVec F S128x128 .f32) (hy : y = yG A Γ (blk i k) g) (x : S128x128.Idx) :
    rowCode y x = (fun z : S512x3456.Idx => rcode A Γ (ix2 (row i (z 0)) (z 1))) ((Rect.unit (s := S512x3456) o S128x128.size h).emb x) := by
  subst ho hy
  refine (rcode_at A Γ (blk i k) g _ x ?_ ?_).symm
  · show 512 * (i 0).val + (128 * k.val + 1 * (x 0).val) = 128 * (4 * (i 0).val + k.val) + (x 0).val; omega
  · show 128 * g.val + 1 * (x 1).val = 128 * g.val + (x 1).val; omega

include hX hG in
theorem rc_agree : ∀ p ∈ (trip c i arg1 harg1 arg2 harg2 arg3 harg3 arg4 harg4 arg5 harg5 arg6 harg6 arg7 harg7 arg8 harg8 arg0 v0 k f1 f2).1, ∀ x : p.1.shape.Idx, p.2 x = (fun z : S512x3456.Idx => rcode A Γ (ix2 (row i (z 0)) (z 1))) (p.1.emb x) := by
  rw [trip_rc]
  simp only [List.forall_mem_cons, List.not_mem_nil, false_imp_iff, implies_true, and_true]
  exact ⟨rc_piece i k A Γ 26 _ _ (k0_off27_eq k) _ (y26_eq i arg1 arg2 k f1 f2 A Γ hX hG),
    rc_piece i k A Γ 25 _ _ (k0_off26_eq k) _ (y25_eq i arg1 arg2 k f1 f2 A Γ hX hG),
    rc_piece i k A Γ 24 _ _ (k0_off25_eq k) _ (y24_eq i arg1 arg2 k f1 f2 A Γ hX hG),
    rc_piece i k A Γ 23 _ _ (k0_off24_eq k) _ (y23_eq i arg1 arg2 k f1 f2 A Γ hX hG),
    rc_piece i k A Γ 22 _ _ (k0_off23_eq k) _ (y22_eq i arg1 arg2 k f1 f2 A Γ hX hG),
    rc_piece i k A Γ 21 _ _ (k0_off22_eq k) _ (y21_eq i arg1 arg2 k f1 f2 A Γ hX hG),
    rc_piece i k A Γ 20 _ _ (k0_off21_eq k) _ (y20_eq i arg1 arg2 k f1 f2 A Γ hX hG),
    rc_piece i k A Γ 19 _ _ (k0_off20_eq k) _ (y19_eq i arg1 arg2 k f1 f2 A Γ hX hG),
    rc_piece i k A Γ 18 _ _ (k0_off19_eq k) _ (y18_eq i arg1 arg2 k f1 f2 A Γ hX hG),
    rc_piece i k A Γ 17 _ _ (k0_off18_eq k) _ (y17_eq i arg1 arg2 k f1 f2 A Γ hX hG),
    rc_piece i k A Γ 16 _ _ (k0_off17_eq k) _ (y16_eq i arg1 arg2 k f1 f2 A Γ hX hG),
    rc_piece i k A Γ 15 _ _ (k0_off16_eq k) _ (y15_eq i arg1 arg2 k f1 f2 A Γ hX hG),
    rc_piece i k A Γ 14 _ _ (k0_off15_eq k) _ (y14_eq i arg1 arg2 k f1 f2 A Γ hX hG),
    rc_piece i k A Γ 13 _ _ (k0_off14_eq k) _ (y13_eq i arg1 arg2 k f1 f2 A Γ hX hG),
    rc_piece i k A Γ 12 _ _ (k0_off13_eq k) _ (y12_eq i arg1 arg2 k f1 f2 A Γ hX hG),
    rc_piece i k A Γ 11 _ _ (k0_off12_eq k) _ (y11_eq i arg1 arg2 k f1 f2 A Γ hX hG),
    rc_piece i k A Γ 10 _ _ (k0_off11_eq k) _ (y10_eq i arg1 arg2 k f1 f2 A Γ hX hG),
    rc_piece i k A Γ 9 _ _ (k0_off10_eq k) _ (y9_eq i arg1 arg2 k f1 f2 A Γ hX hG),
    rc_piece i k A Γ 8 _ _ (k0_off9_eq k) _ (y8_eq i arg1 arg2 k f1 f2 A Γ hX hG),
    rc_piece i k A Γ 7 _ _ (k0_off8_eq k) _ (y7_eq i arg1 arg2 k f1 f2 A Γ hX hG),
    rc_piece i k A Γ 6 _ _ (k0_off7_eq k) _ (y6_eq i arg1 arg2 k f1 f2 A Γ hX hG),
    rc_piece i k A Γ 5 _ _ (k0_off6_eq k) _ (y5_eq i arg1 arg2 k f1 f2 A Γ hX hG),
    rc_piece i k A Γ 4 _ _ (k0_off5_eq k) _ (y4_eq i arg1 arg2 k f1 f2 A Γ hX hG),
    rc_piece i k A Γ 3 _ _ (k0_off4_eq k) _ (y3_eq i arg1 arg2 k f1 f2 A Γ hX hG),
    rc_piece i k A Γ 2 _ _ (k0_off3_eq k) _ (y2_eq i arg1 arg2 k f1 f2 A Γ hX hG),
    rc_piece i k A Γ 1 _ _ (k0_off2_eq k) _ (y1_eq i arg1 arg2 k f1 f2 A Γ hX hG),
    rc_piece i k A Γ 0 _ _ (k0_off1_eq k) _ (y0_eq i arg1 arg2 k f1 f2 A Γ hX hG)⟩

theorem rc_cover (y : S512x3456.Idx) (hk : (y 0).val / 128 = k.val) : ∃ p ∈ (trip c i arg1 harg1 arg2 harg2 arg3 harg3 arg4 harg4 arg5 harg5 arg6 harg6 arg7 harg7 arg8 harg8 arg0 v0 k f1 f2).1, y ∈ p.1.set := by
  rw [trip_rc]
  have h1 : (y 1).val < 3456 := (y 1).isLt
  have key : ∀ (g : Fin 27) (o : Fin 2 → ℕ) (h : ∀ a, o a + S128x128.size a ≤ S512x3456.size a), o = ![128 * k.val, 128 * g.val] →
      (y 1).val / 128 = g.val → y ∈ (Rect.unit (s := S512x3456) o S128x128.size h).set := by
    intro g o h ho hg
    subst ho
    refine Rect.mem_set_unit.mpr fun a => ?_
    match a with
    | ⟨0, _⟩ => show 128 * k.val ≤ (y 0).val ∧ (y 0).val < 128 * k.val + 128; omega
    | ⟨1, _⟩ => show 128 * g.val ≤ (y 1).val ∧ (y 1).val < 128 * g.val + 128; omega
  obtain ⟨g, hg⟩ : ∃ g : Fin 27, (y 1).val / 128 = g.val := ⟨⟨(y 1).val / 128, by omega⟩, rfl⟩
  match g, hg with
  | 0, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 0 (k0_off1 k) (k0_off1_inb k) (k0_off1_eq k) hg⟩
  | 1, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 1 (k0_off2 k) (k0_off2_inb k) (k0_off2_eq k) hg⟩
  | 2, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 2 (k0_off3 k) (k0_off3_inb k) (k0_off3_eq k) hg⟩
  | 3, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 3 (k0_off4 k) (k0_off4_inb k) (k0_off4_eq k) hg⟩
  | 4, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 4 (k0_off5 k) (k0_off5_inb k) (k0_off5_eq k) hg⟩
  | 5, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 5 (k0_off6 k) (k0_off6_inb k) (k0_off6_eq k) hg⟩
  | 6, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 6 (k0_off7 k) (k0_off7_inb k) (k0_off7_eq k) hg⟩
  | 7, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 7 (k0_off8 k) (k0_off8_inb k) (k0_off8_eq k) hg⟩
  | 8, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 8 (k0_off9 k) (k0_off9_inb k) (k0_off9_eq k) hg⟩
  | 9, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 9 (k0_off10 k) (k0_off10_inb k) (k0_off10_eq k) hg⟩
  | 10, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 10 (k0_off11 k) (k0_off11_inb k) (k0_off11_eq k) hg⟩
  | 11, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 11 (k0_off12 k) (k0_off12_inb k) (k0_off12_eq k) hg⟩
  | 12, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 12 (k0_off13 k) (k0_off13_inb k) (k0_off13_eq k) hg⟩
  | 13, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 13 (k0_off14 k) (k0_off14_inb k) (k0_off14_eq k) hg⟩
  | 14, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 14 (k0_off15 k) (k0_off15_inb k) (k0_off15_eq k) hg⟩
  | 15, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 15 (k0_off16 k) (k0_off16_inb k) (k0_off16_eq k) hg⟩
  | 16, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 16 (k0_off17 k) (k0_off17_inb k) (k0_off17_eq k) hg⟩
  | 17, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 17 (k0_off18 k) (k0_off18_inb k) (k0_off18_eq k) hg⟩
  | 18, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 18 (k0_off19 k) (k0_off19_inb k) (k0_off19_eq k) hg⟩
  | 19, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_self), key 19 (k0_off20 k) (k0_off20_inb k) (k0_off20_eq k) hg⟩
  | 20, hg => exact ⟨_, (List.mem_cons_of_mem _ <| List.mem_cons_of_mem _ <| List.mem_cons_of_mem _ <| List.mem_cons_of_mem _ <| List.mem_cons_of_mem _ <| List.mem_cons_of_mem _ <| List.mem_cons_self), key 20 (k0_off21 k) (k0_off21_inb k) (k0_off21_eq k) hg⟩
  | 21, hg => exact ⟨_, (List.mem_cons_of_mem _ <| List.mem_cons_of_mem _ <| List.mem_cons_of_mem _ <| List.mem_cons_of_mem _ <| List.mem_cons_of_mem _ <| List.mem_cons_self), key 21 (k0_off22 k) (k0_off22_inb k) (k0_off22_eq k) hg⟩
  | 22, hg => exact ⟨_, (List.mem_cons_of_mem _ <| List.mem_cons_of_mem _ <| List.mem_cons_of_mem _ <| List.mem_cons_of_mem _ <| List.mem_cons_self), key 22 (k0_off23 k) (k0_off23_inb k) (k0_off23_eq k) hg⟩
  | 23, hg => exact ⟨_, (List.mem_cons_of_mem _ <| List.mem_cons_of_mem _ <| List.mem_cons_of_mem _ <| List.mem_cons_self), key 23 (k0_off24 k) (k0_off24_inb k) (k0_off24_eq k) hg⟩
  | 24, hg => exact ⟨_, (List.mem_cons_of_mem _ <| List.mem_cons_of_mem _ <| List.mem_cons_self), key 24 (k0_off25 k) (k0_off25_inb k) (k0_off25_eq k) hg⟩
  | 25, hg => exact ⟨_, (List.mem_cons_of_mem _ <| List.mem_cons_self), key 25 (k0_off26 k) (k0_off26_inb k) (k0_off26_eq k) hg⟩
  | 26, hg => exact ⟨_, (List.mem_cons_self), key 26 (k0_off27 k) (k0_off27_inb k) (k0_off27_eq k) hg⟩
  | ⟨n + 27, h⟩, _ => exact absurd h (by omega)

theorem cc_piece (g : Fin 27) (o : Fin 2 → ℕ) (h : ∀ a, o a + S128x128.size a ≤ S3456x512.size a) (ho : o = ![128 * g.val, 128 * k.val])
    (y : FVec F S128x128 .f32) (hy : y = yG A Γ (blk i k) g) (x : S128x128.Idx) :
    colCode y x = (fun z : S3456x512.Idx => ccode A Γ (ix2 (z 0) (row i (z 1)))) ((Rect.unit (s := S3456x512) o S128x128.size h).emb x) := by
  subst ho hy
  refine (ccode_at A Γ (blk i k) g _ x ?_ ?_).symm
  · show 128 * g.val + 1 * (x 0).val = 128 * g.val + (x 0).val; omega
  · show 512 * (i 0).val + (128 * k.val + 1 * (x 1).val) = 128 * (4 * (i 0).val + k.val) + (x 1).val; omega

include hX hG in
theorem cc_agree : ∀ p ∈ (trip c i arg1 harg1 arg2 harg2 arg3 harg3 arg4 harg4 arg5 harg5 arg6 harg6 arg7 harg7 arg8 harg8 arg0 v0 k f1 f2).2.2.1, ∀ x : p.1.shape.Idx, p.2 x = (fun z : S3456x512.Idx => ccode A Γ (ix2 (z 0) (row i (z 1)))) (p.1.emb x) := by
  rw [trip_cc]
  simp only [List.forall_mem_cons, List.not_mem_nil, false_imp_iff, implies_true, and_true]
  exact ⟨cc_piece i k A Γ 26 _ _ (k0_off81_eq k) _ (y26_eq i arg1 arg2 k f1 f2 A Γ hX hG),
    cc_piece i k A Γ 25 _ _ (k0_off79_eq k) _ (y25_eq i arg1 arg2 k f1 f2 A Γ hX hG),
    cc_piece i k A Γ 24 _ _ (k0_off77_eq k) _ (y24_eq i arg1 arg2 k f1 f2 A Γ hX hG),
    cc_piece i k A Γ 23 _ _ (k0_off75_eq k) _ (y23_eq i arg1 arg2 k f1 f2 A Γ hX hG),
    cc_piece i k A Γ 22 _ _ (k0_off73_eq k) _ (y22_eq i arg1 arg2 k f1 f2 A Γ hX hG),
    cc_piece i k A Γ 21 _ _ (k0_off71_eq k) _ (y21_eq i arg1 arg2 k f1 f2 A Γ hX hG),
    cc_piece i k A Γ 20 _ _ (k0_off69_eq k) _ (y20_eq i arg1 arg2 k f1 f2 A Γ hX hG),
    cc_piece i k A Γ 19 _ _ (k0_off67_eq k) _ (y19_eq i arg1 arg2 k f1 f2 A Γ hX hG),
    cc_piece i k A Γ 18 _ _ (k0_off65_eq k) _ (y18_eq i arg1 arg2 k f1 f2 A Γ hX hG),
    cc_piece i k A Γ 17 _ _ (k0_off63_eq k) _ (y17_eq i arg1 arg2 k f1 f2 A Γ hX hG),
    cc_piece i k A Γ 16 _ _ (k0_off61_eq k) _ (y16_eq i arg1 arg2 k f1 f2 A Γ hX hG),
    cc_piece i k A Γ 15 _ _ (k0_off59_eq k) _ (y15_eq i arg1 arg2 k f1 f2 A Γ hX hG),
    cc_piece i k A Γ 14 _ _ (k0_off57_eq k) _ (y14_eq i arg1 arg2 k f1 f2 A Γ hX hG),
    cc_piece i k A Γ 13 _ _ (k0_off55_eq k) _ (y13_eq i arg1 arg2 k f1 f2 A Γ hX hG),
    cc_piece i k A Γ 12 _ _ (k0_off53_eq k) _ (y12_eq i arg1 arg2 k f1 f2 A Γ hX hG),
    cc_piece i k A Γ 11 _ _ (k0_off51_eq k) _ (y11_eq i arg1 arg2 k f1 f2 A Γ hX hG),
    cc_piece i k A Γ 10 _ _ (k0_off49_eq k) _ (y10_eq i arg1 arg2 k f1 f2 A Γ hX hG),
    cc_piece i k A Γ 9 _ _ (k0_off47_eq k) _ (y9_eq i arg1 arg2 k f1 f2 A Γ hX hG),
    cc_piece i k A Γ 8 _ _ (k0_off45_eq k) _ (y8_eq i arg1 arg2 k f1 f2 A Γ hX hG),
    cc_piece i k A Γ 7 _ _ (k0_off43_eq k) _ (y7_eq i arg1 arg2 k f1 f2 A Γ hX hG),
    cc_piece i k A Γ 6 _ _ (k0_off41_eq k) _ (y6_eq i arg1 arg2 k f1 f2 A Γ hX hG),
    cc_piece i k A Γ 5 _ _ (k0_off39_eq k) _ (y5_eq i arg1 arg2 k f1 f2 A Γ hX hG),
    cc_piece i k A Γ 4 _ _ (k0_off37_eq k) _ (y4_eq i arg1 arg2 k f1 f2 A Γ hX hG),
    cc_piece i k A Γ 3 _ _ (k0_off35_eq k) _ (y3_eq i arg1 arg2 k f1 f2 A Γ hX hG),
    cc_piece i k A Γ 2 _ _ (k0_off33_eq k) _ (y2_eq i arg1 arg2 k f1 f2 A Γ hX hG),
    cc_piece i k A Γ 1 _ _ (k0_off31_eq k) _ (y1_eq i arg1 arg2 k f1 f2 A Γ hX hG),
    cc_piece i k A Γ 0 _ _ (k0_off29_eq k) _ (y0_eq i arg1 arg2 k f1 f2 A Γ hX hG)⟩

theorem cc_cover (y : S3456x512.Idx) (hk : (y 1).val / 128 = k.val) : ∃ p ∈ (trip c i arg1 harg1 arg2 harg2 arg3 harg3 arg4 harg4 arg5 harg5 arg6 harg6 arg7 harg7 arg8 harg8 arg0 v0 k f1 f2).2.2.1, y ∈ p.1.set := by
  rw [trip_cc]
  have h1 : (y 0).val < 3456 := (y 0).isLt
  have key : ∀ (g : Fin 27) (o : Fin 2 → ℕ) (h : ∀ a, o a + S128x128.size a ≤ S3456x512.size a), o = ![128 * g.val, 128 * k.val] →
      (y 0).val / 128 = g.val → y ∈ (Rect.unit (s := S3456x512) o S128x128.size h).set := by
    intro g o h ho hg
    subst ho
    refine Rect.mem_set_unit.mpr fun a => ?_
    match a with
    | ⟨0, _⟩ => show 128 * g.val ≤ (y 0).val ∧ (y 0).val < 128 * g.val + 128; omega
    | ⟨1, _⟩ => show 128 * k.val ≤ (y 1).val ∧ (y 1).val < 128 * k.val + 128; omega
  obtain ⟨g, hg⟩ : ∃ g : Fin 27, (y 0).val / 128 = g.val := ⟨⟨(y 0).val / 128, by omega⟩, rfl⟩
  match g, hg with
  | 0, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 0 (k0_off29 k) (k0_off29_inb k) (k0_off29_eq k) hg⟩
  | 1, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 1 (k0_off31 k) (k0_off31_inb k) (k0_off31_eq k) hg⟩
  | 2, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 2 (k0_off33 k) (k0_off33_inb k) (k0_off33_eq k) hg⟩
  | 3, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 3 (k0_off35 k) (k0_off35_inb k) (k0_off35_eq k) hg⟩
  | 4, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 4 (k0_off37 k) (k0_off37_inb k) (k0_off37_eq k) hg⟩
  | 5, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 5 (k0_off39 k) (k0_off39_inb k) (k0_off39_eq k) hg⟩
  | 6, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 6 (k0_off41 k) (k0_off41_inb k) (k0_off41_eq k) hg⟩
  | 7, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 7 (k0_off43 k) (k0_off43_inb k) (k0_off43_eq k) hg⟩
  | 8, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 8 (k0_off45 k) (k0_off45_inb k) (k0_off45_eq k) hg⟩
  | 9, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 9 (k0_off47 k) (k0_off47_inb k) (k0_off47_eq k) hg⟩
  | 10, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 10 (k0_off49 k) (k0_off49_inb k) (k0_off49_eq k) hg⟩
  | 11, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 11 (k0_off51 k) (k0_off51_inb k) (k0_off51_eq k) hg⟩
  | 12, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 12 (k0_off53 k) (k0_off53_inb k) (k0_off53_eq k) hg⟩
  | 13, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 13 (k0_off55 k) (k0_off55_inb k) (k0_off55_eq k) hg⟩
  | 14, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 14 (k0_off57 k) (k0_off57_inb k) (k0_off57_eq k) hg⟩
  | 15, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 15 (k0_off59 k) (k0_off59_inb k) (k0_off59_eq k) hg⟩
  | 16, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 16 (k0_off61 k) (k0_off61_inb k) (k0_off61_eq k) hg⟩
  | 17, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 17 (k0_off63 k) (k0_off63_inb k) (k0_off63_eq k) hg⟩
  | 18, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 18 (k0_off65 k) (k0_off65_inb k) (k0_off65_eq k) hg⟩
  | 19, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_self), key 19 (k0_off67 k) (k0_off67_inb k) (k0_off67_eq k) hg⟩
  | 20, hg => exact ⟨_, (List.mem_cons_of_mem _ <| List.mem_cons_of_mem _ <| List.mem_cons_of_mem _ <| List.mem_cons_of_mem _ <| List.mem_cons_of_mem _ <| List.mem_cons_of_mem _ <| List.mem_cons_self), key 20 (k0_off69 k) (k0_off69_inb k) (k0_off69_eq k) hg⟩
  | 21, hg => exact ⟨_, (List.mem_cons_of_mem _ <| List.mem_cons_of_mem _ <| List.mem_cons_of_mem _ <| List.mem_cons_of_mem _ <| List.mem_cons_of_mem _ <| List.mem_cons_self), key 21 (k0_off71 k) (k0_off71_inb k) (k0_off71_eq k) hg⟩
  | 22, hg => exact ⟨_, (List.mem_cons_of_mem _ <| List.mem_cons_of_mem _ <| List.mem_cons_of_mem _ <| List.mem_cons_of_mem _ <| List.mem_cons_self), key 22 (k0_off73 k) (k0_off73_inb k) (k0_off73_eq k) hg⟩
  | 23, hg => exact ⟨_, (List.mem_cons_of_mem _ <| List.mem_cons_of_mem _ <| List.mem_cons_of_mem _ <| List.mem_cons_self), key 23 (k0_off75 k) (k0_off75_inb k) (k0_off75_eq k) hg⟩
  | 24, hg => exact ⟨_, (List.mem_cons_of_mem _ <| List.mem_cons_of_mem _ <| List.mem_cons_self), key 24 (k0_off77 k) (k0_off77_inb k) (k0_off77_eq k) hg⟩
  | 25, hg => exact ⟨_, (List.mem_cons_of_mem _ <| List.mem_cons_self), key 25 (k0_off79 k) (k0_off79_inb k) (k0_off79_eq k) hg⟩
  | 26, hg => exact ⟨_, (List.mem_cons_self), key 26 (k0_off81 k) (k0_off81_inb k) (k0_off81_eq k) hg⟩
  | ⟨n + 27, h⟩, _ => exact absurd h (by omega)

theorem cs_piece (z' : S27x128x128.Idx → Elt F .f32)
    (hz : ∀ (z : S27x128x128.Idx) (j : S3456x416.Idx), (j 0).val = 128 * (z 0).val + (z 2).val → (j 1).val = 128 * ((i 0).val / 32) + (z 1).val → z' z = cscale A Γ j)
    (g : Fin 27) (o : Fin 3 → ℕ) (h : ∀ a, o a + S1x1x128.size a ≤ S27x128x128.size a) (ho : o = ![g.val, 4 * ((i 0).val % 32) + k.val, 0])
    (y : FVec F S128x128 .f32) (hy : y = yG A Γ (blk i k) g) (x : S1x1x128.Idx) :
    scaleRow y x = z' ((Rect.unit (s := S27x128x128) o S1x1x128.size h).emb x) := by
  subst ho hy
  have hx0 : (x 0).val < 1 := (x 0).isLt
  have hx1 : (x 1).val < 1 := (x 1).isLt
  have hx2 : (x 2).val < 128 := (x 2).isLt
  have hj : 128 * g.val + (x 2).val < 3456 := by omega
  have e := hz ((Rect.unit (s := S27x128x128) ![g.val, 4 * ((i 0).val % 32) + k.val, 0] S1x1x128.size h).emb x) (ix2 ⟨128 * g.val + (x 2).val, hj⟩ (blk i k))
    (by show 128 * g.val + (x 2).val = 128 * (g.val + 1 * (x 0).val) + (0 + 1 * (x 2).val); omega)
    (by show 4 * (i 0).val + k.val = 128 * ((i 0).val / 32) + (4 * ((i 0).val % 32) + k.val + 1 * (x 1).val); omega)
  exact (cscale_at A Γ (blk i k) g _ x rfl rfl).symm.trans e.symm

include hX hG in
theorem cs_agree (z' : S27x128x128.Idx → Elt F .f32)
    (hz : ∀ (z : S27x128x128.Idx) (j : S3456x416.Idx), (j 0).val = 128 * (z 0).val + (z 2).val → (j 1).val = 128 * ((i 0).val / 32) + (z 1).val → z' z = cscale A Γ j) :
    ∀ p ∈ (trip c i arg1 harg1 arg2 harg2 arg3 harg3 arg4 harg4 arg5 harg5 arg6 harg6 arg7 harg7 arg8 harg8 arg0 v0 k f1 f2).2.2.2.2.1, ∀ x : p.1.shape.Idx, p.2 x = z' (p.1.emb x) := by
  rw [trip_cs]
  simp only [List.forall_mem_cons, List.not_mem_nil, false_imp_iff, implies_true, and_true]
  exact ⟨cs_piece i k A Γ z' hz 26 _ _ (k0_off82_eq i k) _ (y26_eq i arg1 arg2 k f1 f2 A Γ hX hG),
    cs_piece i k A Γ z' hz 25 _ _ (k0_off80_eq i k) _ (y25_eq i arg1 arg2 k f1 f2 A Γ hX hG),
    cs_piece i k A Γ z' hz 24 _ _ (k0_off78_eq i k) _ (y24_eq i arg1 arg2 k f1 f2 A Γ hX hG),
    cs_piece i k A Γ z' hz 23 _ _ (k0_off76_eq i k) _ (y23_eq i arg1 arg2 k f1 f2 A Γ hX hG),
    cs_piece i k A Γ z' hz 22 _ _ (k0_off74_eq i k) _ (y22_eq i arg1 arg2 k f1 f2 A Γ hX hG),
    cs_piece i k A Γ z' hz 21 _ _ (k0_off72_eq i k) _ (y21_eq i arg1 arg2 k f1 f2 A Γ hX hG),
    cs_piece i k A Γ z' hz 20 _ _ (k0_off70_eq i k) _ (y20_eq i arg1 arg2 k f1 f2 A Γ hX hG),
    cs_piece i k A Γ z' hz 19 _ _ (k0_off68_eq i k) _ (y19_eq i arg1 arg2 k f1 f2 A Γ hX hG),
    cs_piece i k A Γ z' hz 18 _ _ (k0_off66_eq i k) _ (y18_eq i arg1 arg2 k f1 f2 A Γ hX hG),
    cs_piece i k A Γ z' hz 17 _ _ (k0_off64_eq i k) _ (y17_eq i arg1 arg2 k f1 f2 A Γ hX hG),
    cs_piece i k A Γ z' hz 16 _ _ (k0_off62_eq i k) _ (y16_eq i arg1 arg2 k f1 f2 A Γ hX hG),
    cs_piece i k A Γ z' hz 15 _ _ (k0_off60_eq i k) _ (y15_eq i arg1 arg2 k f1 f2 A Γ hX hG),
    cs_piece i k A Γ z' hz 14 _ _ (k0_off58_eq i k) _ (y14_eq i arg1 arg2 k f1 f2 A Γ hX hG),
    cs_piece i k A Γ z' hz 13 _ _ (k0_off56_eq i k) _ (y13_eq i arg1 arg2 k f1 f2 A Γ hX hG),
    cs_piece i k A Γ z' hz 12 _ _ (k0_off54_eq i k) _ (y12_eq i arg1 arg2 k f1 f2 A Γ hX hG),
    cs_piece i k A Γ z' hz 11 _ _ (k0_off52_eq i k) _ (y11_eq i arg1 arg2 k f1 f2 A Γ hX hG),
    cs_piece i k A Γ z' hz 10 _ _ (k0_off50_eq i k) _ (y10_eq i arg1 arg2 k f1 f2 A Γ hX hG),
    cs_piece i k A Γ z' hz 9 _ _ (k0_off48_eq i k) _ (y9_eq i arg1 arg2 k f1 f2 A Γ hX hG),
    cs_piece i k A Γ z' hz 8 _ _ (k0_off46_eq i k) _ (y8_eq i arg1 arg2 k f1 f2 A Γ hX hG),
    cs_piece i k A Γ z' hz 7 _ _ (k0_off44_eq i k) _ (y7_eq i arg1 arg2 k f1 f2 A Γ hX hG),
    cs_piece i k A Γ z' hz 6 _ _ (k0_off42_eq i k) _ (y6_eq i arg1 arg2 k f1 f2 A Γ hX hG),
    cs_piece i k A Γ z' hz 5 _ _ (k0_off40_eq i k) _ (y5_eq i arg1 arg2 k f1 f2 A Γ hX hG),
    cs_piece i k A Γ z' hz 4 _ _ (k0_off38_eq i k) _ (y4_eq i arg1 arg2 k f1 f2 A Γ hX hG),
    cs_piece i k A Γ z' hz 3 _ _ (k0_off36_eq i k) _ (y3_eq i arg1 arg2 k f1 f2 A Γ hX hG),
    cs_piece i k A Γ z' hz 2 _ _ (k0_off34_eq i k) _ (y2_eq i arg1 arg2 k f1 f2 A Γ hX hG),
    cs_piece i k A Γ z' hz 1 _ _ (k0_off32_eq i k) _ (y1_eq i arg1 arg2 k f1 f2 A Γ hX hG),
    cs_piece i k A Γ z' hz 0 _ _ (k0_off30_eq i k) _ (y0_eq i arg1 arg2 k f1 f2 A Γ hX hG)⟩

theorem cs_cover (y : S27x128x128.Idx) (hk : (y 1).val = 4 * ((i 0).val % 32) + k.val) : ∃ p ∈ (trip c i arg1 harg1 arg2 harg2 arg3 harg3 arg4 harg4 arg5 harg5 arg6 harg6 arg7 harg7 arg8 harg8 arg0 v0 k f1 f2).2.2.2.2.1, y ∈ p.1.set := by
  rw [trip_cs]
  have h2 : (y 2).val < 128 := (y 2).isLt
  have key : ∀ (g : Fin 27) (o : Fin 3 → ℕ) (h : ∀ a, o a + S1x1x128.size a ≤ S27x128x128.size a), o = ![g.val, 4 * ((i 0).val % 32) + k.val, 0] →
      y 0 = g → y ∈ (Rect.unit (s := S27x128x128) o S1x1x128.size h).set := by
    intro g o h ho hg
    subst ho
    have hg' : (y 0).val = g.val := congrArg Fin.val hg
    refine Rect.mem_set_unit.mpr fun a => ?_
    match a with
    | ⟨0, _⟩ => show g.val ≤ (y 0).val ∧ (y 0).val < g.val + 1; omega
    | ⟨1, _⟩ => show 4 * ((i 0).val % 32) + k.val ≤ (y 1).val ∧ (y 1).val < 4 * ((i 0).val % 32) + k.val + 1; omega
    | ⟨2, _⟩ => show 0 ≤ (y 2).val ∧ (y 2).val < 0 + 128; omega
  obtain ⟨g, hg⟩ : ∃ g : Fin 27, y 0 = g := ⟨_, rfl⟩
  match g, hg with
  | 0, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 0 (k0_off30 i k) (k0_off30_inb i k) (k0_off30_eq i k) hg⟩
  | 1, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 1 (k0_off32 i k) (k0_off32_inb i k) (k0_off32_eq i k) hg⟩
  | 2, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 2 (k0_off34 i k) (k0_off34_inb i k) (k0_off34_eq i k) hg⟩
  | 3, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 3 (k0_off36 i k) (k0_off36_inb i k) (k0_off36_eq i k) hg⟩
  | 4, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 4 (k0_off38 i k) (k0_off38_inb i k) (k0_off38_eq i k) hg⟩
  | 5, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 5 (k0_off40 i k) (k0_off40_inb i k) (k0_off40_eq i k) hg⟩
  | 6, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 6 (k0_off42 i k) (k0_off42_inb i k) (k0_off42_eq i k) hg⟩
  | 7, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 7 (k0_off44 i k) (k0_off44_inb i k) (k0_off44_eq i k) hg⟩
  | 8, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 8 (k0_off46 i k) (k0_off46_inb i k) (k0_off46_eq i k) hg⟩
  | 9, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 9 (k0_off48 i k) (k0_off48_inb i k) (k0_off48_eq i k) hg⟩
  | 10, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 10 (k0_off50 i k) (k0_off50_inb i k) (k0_off50_eq i k) hg⟩
  | 11, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 11 (k0_off52 i k) (k0_off52_inb i k) (k0_off52_eq i k) hg⟩
  | 12, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 12 (k0_off54 i k) (k0_off54_inb i k) (k0_off54_eq i k) hg⟩
  | 13, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 13 (k0_off56 i k) (k0_off56_inb i k) (k0_off56_eq i k) hg⟩
  | 14, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 14 (k0_off58 i k) (k0_off58_inb i k) (k0_off58_eq i k) hg⟩
  | 15, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 15 (k0_off60 i k) (k0_off60_inb i k) (k0_off60_eq i k) hg⟩
  | 16, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 16 (k0_off62 i k) (k0_off62_inb i k) (k0_off62_eq i k) hg⟩
  | 17, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 17 (k0_off64 i k) (k0_off64_inb i k) (k0_off64_eq i k) hg⟩
  | 18, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 18 (k0_off66 i k) (k0_off66_inb i k) (k0_off66_eq i k) hg⟩
  | 19, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_self), key 19 (k0_off68 i k) (k0_off68_inb i k) (k0_off68_eq i k) hg⟩
  | 20, hg => exact ⟨_, (List.mem_cons_of_mem _ <| List.mem_cons_of_mem _ <| List.mem_cons_of_mem _ <| List.mem_cons_of_mem _ <| List.mem_cons_of_mem _ <| List.mem_cons_of_mem _ <| List.mem_cons_self), key 20 (k0_off70 i k) (k0_off70_inb i k) (k0_off70_eq i k) hg⟩
  | 21, hg => exact ⟨_, (List.mem_cons_of_mem _ <| List.mem_cons_of_mem _ <| List.mem_cons_of_mem _ <| List.mem_cons_of_mem _ <| List.mem_cons_of_mem _ <| List.mem_cons_self), key 21 (k0_off72 i k) (k0_off72_inb i k) (k0_off72_eq i k) hg⟩
  | 22, hg => exact ⟨_, (List.mem_cons_of_mem _ <| List.mem_cons_of_mem _ <| List.mem_cons_of_mem _ <| List.mem_cons_of_mem _ <| List.mem_cons_self), key 22 (k0_off74 i k) (k0_off74_inb i k) (k0_off74_eq i k) hg⟩
  | 23, hg => exact ⟨_, (List.mem_cons_of_mem _ <| List.mem_cons_of_mem _ <| List.mem_cons_of_mem _ <| List.mem_cons_self), key 23 (k0_off76 i k) (k0_off76_inb i k) (k0_off76_eq i k) hg⟩
  | 24, hg => exact ⟨_, (List.mem_cons_of_mem _ <| List.mem_cons_of_mem _ <| List.mem_cons_self), key 24 (k0_off78 i k) (k0_off78_inb i k) (k0_off78_eq i k) hg⟩
  | 25, hg => exact ⟨_, (List.mem_cons_of_mem _ <| List.mem_cons_self), key 25 (k0_off80 i k) (k0_off80_inb i k) (k0_off80_eq i k) hg⟩
  | 26, hg => exact ⟨_, (List.mem_cons_self), key 26 (k0_off82 i k) (k0_off82_inb i k) (k0_off82_eq i k) hg⟩
  | ⟨n + 27, h⟩, _ => exact absurd h (by omega)

theorem cs_mem (y : S27x128x128.Idx) (g : Fin 27) (o : Fin 3 → ℕ) (h : ∀ a, o a + S1x1x128.size a ≤ S27x128x128.size a)
    (ho : o = ![g.val, 4 * ((i 0).val % 32) + k.val, 0]) (hy : y ∈ (Rect.unit (s := S27x128x128) o S1x1x128.size h).set) :
    (y 1).val = 4 * ((i 0).val % 32) + k.val := by
  subst ho
  have h' : 4 * ((i 0).val % 32) + k.val ≤ (y 1).val ∧ (y 1).val < 4 * ((i 0).val % 32) + k.val + 1 := Rect.mem_set_unit.mp hy 1
  omega

theorem cs_only (y : S27x128x128.Idx) : ∀ p ∈ (trip c i arg1 harg1 arg2 harg2 arg3 harg3 arg4 harg4 arg5 harg5 arg6 harg6 arg7 harg7 arg8 harg8 arg0 v0 k f1 f2).2.2.2.2.1, y ∈ p.1.set → (y 1).val = 4 * ((i 0).val % 32) + k.val := by
  rw [trip_cs]
  simp only [List.forall_mem_cons, List.not_mem_nil, false_imp_iff, implies_true, and_true]
  exact ⟨cs_mem i k y 26 (k0_off82 i k) (k0_off82_inb i k) (k0_off82_eq i k),
    cs_mem i k y 25 (k0_off80 i k) (k0_off80_inb i k) (k0_off80_eq i k),
    cs_mem i k y 24 (k0_off78 i k) (k0_off78_inb i k) (k0_off78_eq i k),
    cs_mem i k y 23 (k0_off76 i k) (k0_off76_inb i k) (k0_off76_eq i k),
    cs_mem i k y 22 (k0_off74 i k) (k0_off74_inb i k) (k0_off74_eq i k),
    cs_mem i k y 21 (k0_off72 i k) (k0_off72_inb i k) (k0_off72_eq i k),
    cs_mem i k y 20 (k0_off70 i k) (k0_off70_inb i k) (k0_off70_eq i k),
    cs_mem i k y 19 (k0_off68 i k) (k0_off68_inb i k) (k0_off68_eq i k),
    cs_mem i k y 18 (k0_off66 i k) (k0_off66_inb i k) (k0_off66_eq i k),
    cs_mem i k y 17 (k0_off64 i k) (k0_off64_inb i k) (k0_off64_eq i k),
    cs_mem i k y 16 (k0_off62 i k) (k0_off62_inb i k) (k0_off62_eq i k),
    cs_mem i k y 15 (k0_off60 i k) (k0_off60_inb i k) (k0_off60_eq i k),
    cs_mem i k y 14 (k0_off58 i k) (k0_off58_inb i k) (k0_off58_eq i k),
    cs_mem i k y 13 (k0_off56 i k) (k0_off56_inb i k) (k0_off56_eq i k),
    cs_mem i k y 12 (k0_off54 i k) (k0_off54_inb i k) (k0_off54_eq i k),
    cs_mem i k y 11 (k0_off52 i k) (k0_off52_inb i k) (k0_off52_eq i k),
    cs_mem i k y 10 (k0_off50 i k) (k0_off50_inb i k) (k0_off50_eq i k),
    cs_mem i k y 9 (k0_off48 i k) (k0_off48_inb i k) (k0_off48_eq i k),
    cs_mem i k y 8 (k0_off46 i k) (k0_off46_inb i k) (k0_off46_eq i k),
    cs_mem i k y 7 (k0_off44 i k) (k0_off44_inb i k) (k0_off44_eq i k),
    cs_mem i k y 6 (k0_off42 i k) (k0_off42_inb i k) (k0_off42_eq i k),
    cs_mem i k y 5 (k0_off40 i k) (k0_off40_inb i k) (k0_off40_eq i k),
    cs_mem i k y 4 (k0_off38 i k) (k0_off38_inb i k) (k0_off38_eq i k),
    cs_mem i k y 3 (k0_off36 i k) (k0_off36_inb i k) (k0_off36_eq i k),
    cs_mem i k y 2 (k0_off34 i k) (k0_off34_inb i k) (k0_off34_eq i k),
    cs_mem i k y 1 (k0_off32 i k) (k0_off32_inb i k) (k0_off32_eq i k),
    cs_mem i k y 0 (k0_off30 i k) (k0_off30_inb i k) (k0_off30_eq i k)⟩

theorem sig_piece (o : Fin 2 → ℕ) (h : ∀ a, o a + S1x128.size a ≤ S416x128.size a) (ho : o = ![4 * (i 0).val + k.val, 0])
    (s : FVec F S128x128 .f32) (hs : s = sG A (blk i k)) (x : S1x128.Idx) :
    sigRow s x = sigs A ((Rect.unit (s := S416x128) o S1x128.size h).emb x) := by
  subst ho hs
  have hx0 : (x 0).val < 1 := (x 0).isLt
  refine (sigs_at A (blk i k) _ x ?_ ?_).symm
  · show 4 * (i 0).val + k.val + 1 * (x 0).val = 4 * (i 0).val + k.val; omega
  · show 0 + 1 * (x 1).val = (x 1).val; omega

theorem sig_mem (y : S416x128.Idx) (o : Fin 2 → ℕ) (h : ∀ a, o a + S1x128.size a ≤ S416x128.size a) (ho : o = ![4 * (i 0).val + k.val, 0]) :
    y ∈ (Rect.unit (s := S416x128) o S1x128.size h).set ↔ (y 0).val = 4 * (i 0).val + k.val := by
  subst ho
  have h1 : (y 1).val < 128 := (y 1).isLt
  refine Rect.mem_set_unit.trans ⟨fun hy => ?_, fun hy a => ?_⟩
  · have h' : 4 * (i 0).val + k.val ≤ (y 0).val ∧ (y 0).val < 4 * (i 0).val + k.val + 1 := hy 0
    omega
  · match a with
    | ⟨0, _⟩ => show 4 * (i 0).val + k.val ≤ (y 0).val ∧ (y 0).val < 4 * (i 0).val + k.val + 1; omega
    | ⟨1, _⟩ => show 0 ≤ (y 1).val ∧ (y 1).val < 0 + 128; omega

include hX in
theorem sig_agree : ∀ p ∈ (trip c i arg1 harg1 arg2 harg2 arg3 harg3 arg4 harg4 arg5 harg5 arg6 harg6 arg7 harg7 arg8 harg8 arg0 v0 k f1 f2).2.2.2.1, ∀ x : p.1.shape.Idx, p.2 x = sigs A (p.1.emb x) := by
  rw [trip_sig]
  simp only [List.forall_mem_cons, List.not_mem_nil, false_imp_iff, implies_true, and_true]
  exact sig_piece i k A _ _ (k0_off28_eq i k) _ (sT_eq i arg1 k f1 A hX)

theorem sig_cover (y : S416x128.Idx) (hk : (y 0).val = 4 * (i 0).val + k.val) : ∃ p ∈ (trip c i arg1 harg1 arg2 harg2 arg3 harg3 arg4 harg4 arg5 harg5 arg6 harg6 arg7 harg7 arg8 harg8 arg0 v0 k f1 f2).2.2.2.1, y ∈ p.1.set := by
  rw [trip_sig]
  exact ⟨_, List.mem_singleton.mpr rfl, (sig_mem i k y (k0_off28 i k) (k0_off28_inb i k) (k0_off28_eq i k)).mpr hk⟩

theorem sig_only (y : S416x128.Idx) : ∀ p ∈ (trip c i arg1 harg1 arg2 harg2 arg3 harg3 arg4 harg4 arg5 harg5 arg6 harg6 arg7 harg7 arg8 harg8 arg0 v0 k f1 f2).2.2.2.1, y ∈ p.1.set → (y 0).val = 4 * (i 0).val + k.val := by
  rw [trip_sig]
  simp only [List.forall_mem_cons, List.not_mem_nil, false_imp_iff, implies_true, and_true]
  intro hy
  exact (sig_mem i k y (k0_off28 i k) (k0_off28_inb i k) (k0_off28_eq i k)).mp hy

theorem rs_piece (o : Fin 2 → ℕ) (h : ∀ a, o a + S128x27.size a ≤ S512x27.size a) (ho : o = ![128 * k.val, 0])
    (ys : List (BitVec 32 × FVec F S128x128 .f32)) (hs : ys = (List.finRange 27).map fun g => (BitVec.ofNat 32 g.val, yG A Γ (blk i k) g)) (x : S128x27.Idx) :
    rowScales (iota .tc S128x128 32 [1] iota_S128x128_d1_w32) ys x
      = (fun z : S512x27.Idx => rscale A Γ (ix2 (row i (z 0)) (z 1))) ((Rect.unit (s := S512x27) o S128x27.size h).emb x) := by
  subst ho hs
  refine (rscale_at A Γ (blk i k) _ x ?_ ?_).symm
  · show 512 * (i 0).val + (128 * k.val + 1 * (x 0).val) = 128 * (4 * (i 0).val + k.val) + (x 0).val; omega
  · show 0 + 1 * (x 1).val = (x 1).val; omega

include hX hG in
theorem ys_eq : [(0#32, y0 arg1 arg2 k f1 f2), (1#32, y1 arg1 arg2 k f1 f2), (2#32, y2 arg1 arg2 k f1 f2), (3#32, y3 arg1 arg2 k f1 f2), (4#32, y4 arg1 arg2 k f1 f2), (5#32, y5 arg1 arg2 k f1 f2), (6#32, y6 arg1 arg2 k f1 f2), (7#32, y7 arg1 arg2 k f1 f2), (8#32, y8 arg1 arg2 k f1 f2), (9#32, y9 arg1 arg2 k f1 f2), (10#32, y10 arg1 arg2 k f1 f2), (11#32, y11 arg1 arg2 k f1 f2), (12#32, y12 arg1 arg2 k f1 f2), (13#32, y13 arg1 arg2 k f1 f2), (14#32, y14 arg1 arg2 k f1 f2), (15#32, y15 arg1 arg2 k f1 f2), (16#32, y16 arg1 arg2 k f1 f2), (17#32, y17 arg1 arg2 k f1 f2), (18#32, y18 arg1 arg2 k f1 f2), (19#32, y19 arg1 arg2 k f1 f2), (20#32, y20 arg1 arg2 k f1 f2), (21#32, y21 arg1 arg2 k f1 f2), (22#32, y22 arg1 arg2 k f1 f2), (23#32, y23 arg1 arg2 k f1 f2), (24#32, y24 arg1 arg2 k f1 f2), (25#32, y25 arg1 arg2 k f1 f2), (26#32, y26 arg1 arg2 k f1 f2)] = (List.finRange 27).map fun g => (BitVec.ofNat 32 g.val, yG A Γ (blk i k) g) := by
  rw [y0_eq i arg1 arg2 k f1 f2 A Γ hX hG, y1_eq i arg1 arg2 k f1 f2 A Γ hX hG, y2_eq i arg1 arg2 k f1 f2 A Γ hX hG, y3_eq i arg1 arg2 k f1 f2 A Γ hX hG, y4_eq i arg1 arg2 k f1 f2 A Γ hX hG, y5_eq i arg1 arg2 k f1 f2 A Γ hX hG, y6_eq i arg1 arg2 k f1 f2 A Γ hX hG, y7_eq i arg1 arg2 k f1 f2 A Γ hX hG, y8_eq i arg1 arg2 k f1 f2 A Γ hX hG, y9_eq i arg1 arg2 k f1 f2 A Γ hX hG, y10_eq i arg1 arg2 k f1 f2 A Γ hX hG, y11_eq i arg1 arg2 k f1 f2 A Γ hX hG, y12_eq i arg1 arg2 k f1 f2 A Γ hX hG, y13_eq i arg1 arg2 k f1 f2 A Γ hX hG, y14_eq i arg1 arg2 k f1 f2 A Γ hX hG, y15_eq i arg1 arg2 k f1 f2 A Γ hX hG, y16_eq i arg1 arg2 k f1 f2 A Γ hX hG, y17_eq i arg1 arg2 k f1 f2 A Γ hX hG, y18_eq i arg1 arg2 k f1 f2 A Γ hX hG, y19_eq i arg1 arg2 k f1 f2 A Γ hX hG, y20_eq i arg1 arg2 k f1 f2 A Γ hX hG, y21_eq i arg1 arg2 k f1 f2 A Γ hX hG, y22_eq i arg1 arg2 k f1 f2 A Γ hX hG, y23_eq i arg1 arg2 k f1 f2 A Γ hX hG, y24_eq i arg1 arg2 k f1 f2 A Γ hX hG, y25_eq i arg1 arg2 k f1 f2 A Γ hX hG, y26_eq i arg1 arg2 k f1 f2 A Γ hX hG]
  rfl

include hX hG in
theorem rs_agree (hv : v0 = iota .tc S128x128 32 [1] iota_S128x128_d1_w32) :
    ∀ p ∈ (trip c i arg1 harg1 arg2 harg2 arg3 harg3 arg4 harg4 arg5 harg5 arg6 harg6 arg7 harg7 arg8 harg8 arg0 v0 k f1 f2).2.1, ∀ x : p.1.shape.Idx, p.2 x = (fun z : S512x27.Idx => rscale A Γ (ix2 (row i (z 0)) (z 1))) (p.1.emb x) := by
  subst hv
  rw [trip_rs]
  simp only [List.forall_mem_cons, List.not_mem_nil, false_imp_iff, implies_true, and_true]
  exact rs_piece i k A Γ _ _ (k0_off83_eq k) _ (ys_eq i arg1 arg2 k f1 f2 A Γ hX hG)

theorem rs_cover (y : S512x27.Idx) (hk : (y 0).val / 128 = k.val) : ∃ p ∈ (trip c i arg1 harg1 arg2 harg2 arg3 harg3 arg4 harg4 arg5 harg5 arg6 harg6 arg7 harg7 arg8 harg8 arg0 v0 k f1 f2).2.1, y ∈ p.1.set := by
  rw [trip_rs]
  have h1 : (y 1).val < 27 := (y 1).isLt
  have key : ∀ (o : Fin 2 → ℕ) (h : ∀ a, o a + S128x27.size a ≤ S512x27.size a), o = ![128 * k.val, 0] →
      y ∈ (Rect.unit (s := S512x27) o S128x27.size h).set := by
    intro o h ho
    subst ho
    refine Rect.mem_set_unit.mpr fun a => ?_
    match a with
    | ⟨0, _⟩ => show 128 * k.val ≤ (y 0).val ∧ (y 0).val < 128 * k.val + 128; omega
    | ⟨1, _⟩ => show 0 ≤ (y 1).val ∧ (y 1).val < 0 + 27; omega
  exact ⟨_, List.mem_singleton.mpr rfl, key (k0_off83 k) (k0_off83_inb k) (k0_off83_eq k)⟩

end trip

end Cert.KernelIdeal.Hand

end
-- ==== Proof.Loop.lean ====
/-
  The row-block loop: its invariant (what the trips so far have stored, as one list of stores per buffer), and what those lists hold
  once all four trips are done.
-/
module

public import proofs.«01_k».proof.Proof.Lists

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## Lists by trips -/

/-- The entries of the first `k` members of a family of lists, the newest first. -/
def upto {α : Type} {n : ℕ} (L : Fin n → List α) : ℕ → List α
  | 0 => []
  | k + 1 => (if h : k < n then L ⟨k, h⟩ else []) ++ upto L k

theorem upto_zero {α : Type} {n : ℕ} (L : Fin n → List α) : upto L 0 = [] := rfl

theorem upto_succ {α : Type} {n : ℕ} (L : Fin n → List α) (k : Fin n) : upto L (k.val + 1) = L k ++ upto L k.val := by
  rw [upto, dif_pos k.isLt]

theorem mem_upto {α : Type} {n : ℕ} (L : Fin n → List α) (p : α) : ∀ m : ℕ, p ∈ upto L m ↔ ∃ k : Fin n, k.val < m ∧ p ∈ L k
  | 0 => by simp [upto]
  | m + 1 => by
    rw [upto, List.mem_append, mem_upto L p m]
    constructor
    · rintro (h | ⟨k, hk, hp⟩)
      · by_cases hm : m < n
        · rw [dif_pos hm] at h; exact ⟨⟨m, hm⟩, Nat.lt_succ_self m, h⟩
        · rw [dif_neg hm] at h; exact absurd h List.not_mem_nil
      · exact ⟨k, by omega, hp⟩
    · rintro ⟨k, hk, hp⟩
      by_cases e : k.val = m
      · subst e; left; rw [dif_pos k.isLt]; exact hp
      · right; exact ⟨k, by omega, hp⟩

section loop

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (arg0 : BitVec 32) (v0 : IVec S128x128 32)
    (f1 : BufTy.Contents (Elt F) arg1.view.ty) (f2 : BufTy.Contents (Elt F) arg2.view.ty)

/-- The stores of trip `k` into each buffer. -/
def L3 (k : Fin k0_t1_loop.trips) := (trip c i arg1 harg1 arg2 harg2 arg3 harg3 arg4 harg4 arg5 harg5 arg6 harg6 arg7 harg7 arg8 harg8 arg0 v0 k f1 f2).1
def L4 (k : Fin k0_t1_loop.trips) := (trip c i arg1 harg1 arg2 harg2 arg3 harg3 arg4 harg4 arg5 harg5 arg6 harg6 arg7 harg7 arg8 harg8 arg0 v0 k f1 f2).2.1
def L5 (k : Fin k0_t1_loop.trips) := (trip c i arg1 harg1 arg2 harg2 arg3 harg3 arg4 harg4 arg5 harg5 arg6 harg6 arg7 harg7 arg8 harg8 arg0 v0 k f1 f2).2.2.1
def L7 (k : Fin k0_t1_loop.trips) := (trip c i arg1 harg1 arg2 harg2 arg3 harg3 arg4 harg4 arg5 harg5 arg6 harg6 arg7 harg7 arg8 harg8 arg0 v0 k f1 f2).2.2.2.1
def L8 (k : Fin k0_t1_loop.trips) := (trip c i arg1 harg1 arg2 harg2 arg3 harg3 arg4 harg4 arg5 harg5 arg6 harg6 arg7 harg7 arg8 harg8 arg0 v0 k f1 f2).2.2.2.2.1

/-- Before trip `k`: the inputs as staged, every other buffer at its contents at entry with the stores of the trips before `k`. -/
abbrev inv (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty) (k : ℕ) : sProp 𝕄 :=
  iprop((arg1.view.loc (c : Thread nD τ) ↦{fullShare} f1) ∗ (arg2.view.loc (c : Thread nD τ) ↦{fullShare} f2)
    ∗ (∃ f, (arg3.view.loc (c : Thread nD τ) ↦{fullShare} f) ∗ ⌜f = arg3.view.writes (Elt F) f3 (upto (L3 c i arg1 harg1 arg2 harg2 arg3 harg3 arg4 harg4 arg5 harg5 arg6 harg6 arg7 harg7 arg8 harg8 arg0 v0 f1 f2) k)⌝)
    ∗ (∃ f, (arg4.view.loc (c : Thread nD τ) ↦{fullShare} f) ∗ ⌜f = arg4.view.writes (Elt F) f4 (upto (L4 c i arg1 harg1 arg2 harg2 arg3 harg3 arg4 harg4 arg5 harg5 arg6 harg6 arg7 harg7 arg8 harg8 arg0 v0 f1 f2) k)⌝)
    ∗ (∃ f, (arg5.view.loc (c : Thread nD τ) ↦{fullShare} f) ∗ ⌜f = arg5.view.writes (Elt F) f5 (upto (L5 c i arg1 harg1 arg2 harg2 arg3 harg3 arg4 harg4 arg5 harg5 arg6 harg6 arg7 harg7 arg8 harg8 arg0 v0 f1 f2) k)⌝)
    ∗ (∃ f, (arg7.view.loc (c : Thread nD τ) ↦{fullShare} f) ∗ ⌜f = arg7.view.writes (Elt F) f7 (upto (L7 c i arg1 harg1 arg2 harg2 arg3 harg3 arg4 harg4 arg5 harg5 arg6 harg6 arg7 harg7 arg8 harg8 arg0 v0 f1 f2) k)⌝)
    ∗ (∃ f, (arg8.view.loc (c : Thread nD τ) ↦{fullShare} f) ∗ ⌜f = arg8.view.writes (Elt F) f8 (upto (L8 c i arg1 harg1 arg2 harg2 arg3 harg3 arg4 harg4 arg5 harg5 arg6 harg6 arg7 harg7 arg8 harg8 arg0 v0 f1 f2) k)⌝))

set_option warn.classDefReducibility false in
@[sl_loop] def loopInv (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty) :
    Gen.LoopInvTy_k0_t1 (F := F) Unit ℕ (UR sig nD τ) ℕ Variants.none c none Set.univ i arg1 harg1 arg2 harg2 arg3 harg3 arg4 harg4 arg5 harg5 arg6 harg6
      arg7 harg7 arg8 harg8 arg0 v0 where
  inv k _ := inv c i arg1 harg1 arg2 harg2 arg3 harg3 arg4 harg4 arg5 harg5 arg6 harg6 arg7 harg7 arg8 harg8 arg0 v0 f1 f2 f3 f4 f5 f7 f8 k
  step k _ := by
    unfold inv
    iintro ⟨H1, H2, ⟨%g3, H3, %e3⟩, ⟨%g4, H4, %e4⟩, ⟨%g5, H5, %e5⟩, ⟨%g7, H7, %e7⟩, ⟨%g8, H8, %e8⟩⟩
    subst e3 e4 e5 e7 e8
    iapply (wp_wand_r Idealize.ShloMosaic.frame (wpE (defs₀ (F := F)) Variants.none (c : Thread nD τ) none) Set.univ)
    isplitl [H1 H2 H3 H4 H5 H7 H8]
    · iapply (trip c i arg1 harg1 arg2 harg2 arg3 harg3 arg4 harg4 arg5 harg5 arg6 harg6 arg7 harg7 arg8 harg8 arg0 v0 k f1 f2).2.2.2.2.2
      unfold Trip
      isplitl [H1]; · iexact H1
      isplitl [H2]; · iexact H2
      isplitl [H3]; · iexact H3
      isplitl [H4]; · iexact H4
      isplitl [H5]; · iexact H5
      isplitl [H7]; · iexact H7
      iexact H8
    · iintro %_ ⟨H1, H2, H3, H4, H5, H7, H8⟩
      isplitl [H1]; · iexact H1
      isplitl [H2]; · iexact H2
      isplitl [H3]
      · iexists _; isplitl [H3]; · iexact H3
        ipureintro; rw [upto_succ, View.writes_append]; rfl
      isplitl [H4]
      · iexists _; isplitl [H4]; · iexact H4
        ipureintro; rw [upto_succ, View.writes_append]; rfl
      isplitl [H5]
      · iexists _; isplitl [H5]; · iexact H5
        ipureintro; rw [upto_succ, View.writes_append]; rfl
      isplitl [H7]
      · iexists _; isplitl [H7]; · iexact H7
        ipureintro; rw [upto_succ, View.writes_append]; rfl
      iexists _; isplitl [H8]; · iexact H8
      ipureintro; rw [upto_succ, View.writes_append]; rfl

/-! ## What the buffers hold after the loop -/

variable (A : Vec F S53248x3456 .bf16) (Γ : Vec F S1x3456 .f32)
    (hX : Staged i arg1 f1 A) (hG : arg2.view.read (Elt F) f2 = Γ) (hv : v0 = iota .tc S128x128 32 [1] iota_S128x128_d1_w32)

/-- The four trips of a block of 512 rows. -/
theorem trip_of (n : ℕ) (h : n < 512) : ∃ k : Fin k0_t1_loop.trips, k.val < 4 ∧ n / 128 = k.val :=
  ⟨⟨n / 128, by rw [trips_eq]; omega⟩, by show n / 128 < 4; omega, rfl⟩

include hX hG in
theorem loop_rc (f) : arg3.view.read (Elt F) (arg3.view.writes (Elt F) f (upto (L3 c i arg1 harg1 arg2 harg2 arg3 harg3 arg4 harg4 arg5 harg5 arg6 harg6 arg7 harg7 arg8 harg8 arg0 v0 f1 f2) 4)) = fun z => rcode A Γ (ix2 (row i (z 0)) (z 1)) := by
  funext y
  refine View.read_writes_apply_of_pieces arg3.view f (fun z : S512x3456.Idx => rcode A Γ (ix2 (row i (z 0)) (z 1))) _ (fun p hp x => ?_) y ?_
  · obtain ⟨k, -, hk⟩ := (mem_upto _ _ _).mp hp
    exact rc_agree c i arg1 harg1 arg2 harg2 arg3 harg3 arg4 harg4 arg5 harg5 arg6 harg6 arg7 harg7 arg8 harg8 arg0 v0 k f1 f2 A Γ hX hG p hk x
  · obtain ⟨k, h4, hk⟩ := trip_of (y 0).val (y 0).isLt
    obtain ⟨p, hp, hy⟩ := rc_cover c i arg1 harg1 arg2 harg2 arg3 harg3 arg4 harg4 arg5 harg5 arg6 harg6 arg7 harg7 arg8 harg8 arg0 v0 k f1 f2 y hk
    exact ⟨p, (mem_upto _ _ _).mpr ⟨k, h4, hp⟩, hy⟩

include hX hG hv in
theorem loop_rs (f) : arg4.view.read (Elt F) (arg4.view.writes (Elt F) f (upto (L4 c i arg1 harg1 arg2 harg2 arg3 harg3 arg4 harg4 arg5 harg5 arg6 harg6 arg7 harg7 arg8 harg8 arg0 v0 f1 f2) 4)) = fun z => rscale A Γ (ix2 (row i (z 0)) (z 1)) := by
  funext y
  refine View.read_writes_apply_of_pieces arg4.view f (fun z : S512x27.Idx => rscale A Γ (ix2 (row i (z 0)) (z 1))) _ (fun p hp x => ?_) y ?_
  · obtain ⟨k, -, hk⟩ := (mem_upto _ _ _).mp hp
    exact rs_agree c i arg1 harg1 arg2 harg2 arg3 harg3 arg4 harg4 arg5 harg5 arg6 harg6 arg7 harg7 arg8 harg8 arg0 v0 k f1 f2 A Γ hX hG hv p hk x
  · obtain ⟨k, h4, hk⟩ := trip_of (y 0).val (y 0).isLt
    obtain ⟨p, hp, hy⟩ := rs_cover c i arg1 harg1 arg2 harg2 arg3 harg3 arg4 harg4 arg5 harg5 arg6 harg6 arg7 harg7 arg8 harg8 arg0 v0 k f1 f2 y hk
    exact ⟨p, (mem_upto _ _ _).mpr ⟨k, h4, hp⟩, hy⟩

include hX hG in
theorem loop_cc (f) : arg5.view.read (Elt F) (arg5.view.writes (Elt F) f (upto (L5 c i arg1 harg1 arg2 harg2 arg3 harg3 arg4 harg4 arg5 harg5 arg6 harg6 arg7 harg7 arg8 harg8 arg0 v0 f1 f2) 4)) = fun z => ccode A Γ (ix2 (z 0) (row i (z 1))) := by
  funext y
  refine View.read_writes_apply_of_pieces arg5.view f (fun z : S3456x512.Idx => ccode A Γ (ix2 (z 0) (row i (z 1)))) _ (fun p hp x => ?_) y ?_
  · obtain ⟨k, -, hk⟩ := (mem_upto _ _ _).mp hp
    exact cc_agree c i arg1 harg1 arg2 harg2 arg3 harg3 arg4 harg4 arg5 harg5 arg6 harg6 arg7 harg7 arg8 harg8 arg0 v0 k f1 f2 A Γ hX hG p hk x
  · obtain ⟨k, h4, hk⟩ := trip_of (y 1).val (y 1).isLt
    obtain ⟨p, hp, hy⟩ := cc_cover c i arg1 harg1 arg2 harg2 arg3 harg3 arg4 harg4 arg5 harg5 arg6 harg6 arg7 harg7 arg8 harg8 arg0 v0 k f1 f2 y hk
    exact ⟨p, (mem_upto _ _ _).mpr ⟨k, h4, hp⟩, hy⟩

include hX in
/-- The rows of reciprocal norms of this grid point's four row blocks are in place, -/
theorem loop_sig (f) (y : S416x128.Idx) (hy : (y 0).val / 4 = (i 0).val) :
    arg7.view.read (Elt F) (arg7.view.writes (Elt F) f (upto (L7 c i arg1 harg1 arg2 harg2 arg3 harg3 arg4 harg4 arg5 harg5 arg6 harg6 arg7 harg7 arg8 harg8 arg0 v0 f1 f2) 4)) y = sigs A y := by
  refine View.read_writes_apply_of_pieces arg7.view f (sigs A) _ (fun p hp x => ?_) y ?_
  · obtain ⟨k, -, hk⟩ := (mem_upto _ _ _).mp hp
    exact sig_agree c i arg1 harg1 arg2 harg2 arg3 harg3 arg4 harg4 arg5 harg5 arg6 harg6 arg7 harg7 arg8 harg8 arg0 v0 k f1 f2 A hX p hk x
  · obtain ⟨p, hp, hy⟩ := sig_cover c i arg1 harg1 arg2 harg2 arg3 harg3 arg4 harg4 arg5 harg5 arg6 harg6 arg7 harg7 arg8 harg8 arg0 v0 ⟨(y 0).val % 4, by rw [trips_eq]; omega⟩ f1 f2 y (by show _ = 4 * (i 0).val + (y 0).val % 4; omega)
    exact ⟨p, (mem_upto _ _ _).mpr ⟨⟨(y 0).val % 4, by rw [trips_eq]; omega⟩, by show (y 0).val % 4 < 4; omega, hp⟩, hy⟩

/-- the others as they were. -/
theorem loop_sig_other (f) (y : S416x128.Idx) (hy : (y 0).val / 4 ≠ (i 0).val) :
    arg7.view.read (Elt F) (arg7.view.writes (Elt F) f (upto (L7 c i arg1 harg1 arg2 harg2 arg3 harg3 arg4 harg4 arg5 harg5 arg6 harg6 arg7 harg7 arg8 harg8 arg0 v0 f1 f2) 4)) y = arg7.view.read (Elt F) f y := by
  refine View.read_writes_apply_of_forall_not_mem arg7.view f y _ fun p hp hm => ?_
  obtain ⟨k, h4, hk⟩ := (mem_upto _ _ _).mp hp
  have := sig_only c i arg1 harg1 arg2 harg2 arg3 harg3 arg4 harg4 arg5 harg5 arg6 harg6 arg7 harg7 arg8 harg8 arg0 v0 k f1 f2 y p hk hm
  omega

include hX hG in
/-- The rows of column scales of this grid point's four row blocks are in place in the carried scales, -/
theorem loop_cs (f) (y : S27x128x128.Idx) (hy : (y 1).val / 4 = (i 0).val % 32) (j : S3456x416.Idx)
    (h0 : (j 0).val = 128 * (y 0).val + (y 2).val) (h1 : (j 1).val = 128 * ((i 0).val / 32) + (y 1).val) :
    arg8.view.read (Elt F) (arg8.view.writes (Elt F) f (upto (L8 c i arg1 harg1 arg2 harg2 arg3 harg3 arg4 harg4 arg5 harg5 arg6 harg6 arg7 harg7 arg8 harg8 arg0 v0 f1 f2) 4)) y = cscale A Γ j := by
  let z' : S27x128x128.Idx → Elt F .f32 := fun z =>
    if h : ∃ j : S3456x416.Idx, (j 0).val = 128 * (z 0).val + (z 2).val ∧ (j 1).val = 128 * ((i 0).val / 32) + (z 1).val then cscale A Γ h.choose
    else arg8.view.read (Elt F) f z
  have hz : ∀ (z : S27x128x128.Idx) (j : S3456x416.Idx), (j 0).val = 128 * (z 0).val + (z 2).val →
      (j 1).val = 128 * ((i 0).val / 32) + (z 1).val → z' z = cscale A Γ j := by
    intro z j e0 e1
    have h : ∃ j : S3456x416.Idx, (j 0).val = 128 * (z 0).val + (z 2).val ∧ (j 1).val = 128 * ((i 0).val / 32) + (z 1).val := ⟨j, e0, e1⟩
    have e : h.choose = j := by
      funext a
      match a with
      | ⟨0, _⟩ => exact Fin.ext (h.choose_spec.1.trans e0.symm)
      | ⟨1, _⟩ => exact Fin.ext (h.choose_spec.2.trans e1.symm)
    show (if h : _ then _ else _) = _
    rw [dif_pos h, e]
  rw [← hz y j h0 h1]
  refine View.read_writes_apply_of_pieces arg8.view f z' _ (fun p hp x => ?_) y ?_
  · obtain ⟨k, -, hk⟩ := (mem_upto _ _ _).mp hp
    exact cs_agree c i arg1 harg1 arg2 harg2 arg3 harg3 arg4 harg4 arg5 harg5 arg6 harg6 arg7 harg7 arg8 harg8 arg0 v0 k f1 f2 A Γ hX hG z' hz p hk x
  · obtain ⟨p, hp, hy⟩ := cs_cover c i arg1 harg1 arg2 harg2 arg3 harg3 arg4 harg4 arg5 harg5 arg6 harg6 arg7 harg7 arg8 harg8 arg0 v0 ⟨(y 1).val % 4, by rw [trips_eq]; omega⟩ f1 f2 y (by show _ = 4 * ((i 0).val % 32) + (y 1).val % 4; omega)
    exact ⟨p, (mem_upto _ _ _).mpr ⟨⟨(y 1).val % 4, by rw [trips_eq]; omega⟩, by show (y 1).val % 4 < 4; omega, hp⟩, hy⟩

/-- the others as they were. -/
theorem loop_cs_other (f) (y : S27x128x128.Idx) (hy : (y 1).val / 4 ≠ (i 0).val % 32) :
    arg8.view.read (Elt F) (arg8.view.writes (Elt F) f (upto (L8 c i arg1 harg1 arg2 harg2 arg3 harg3 arg4 harg4 arg5 harg5 arg6 harg6 arg7 harg7 arg8 harg8 arg0 v0 f1 f2) 4)) y = arg8.view.read (Elt F) f y := by
  refine View.read_writes_apply_of_forall_not_mem arg8.view f y _ fun p hp hm => ?_
  obtain ⟨k, h4, hk⟩ := (mem_upto _ _ _).mp hp
  have hk4 : k.val < 4 := lt_of_lt_of_eq k.isLt trips_eq
  have := cs_only c i arg1 harg1 arg2 harg2 arg3 harg3 arg4 harg4 arg5 harg5 arg6 harg6 arg7 harg7 arg8 harg8 arg0 v0 k f1 f2 y p hk hm
  omega

end loop

end Cert.KernelIdeal.Hand

end
-- ==== Proof.Body.lean ====
/- The kernel body at one grid point: the loop, then, where a block of 128 row blocks ends, the transposed copy of the carried scales. -/
module

public import proofs.«01_k».proof.Proof.Loop

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

section body

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)
    (f1 : BufTy.Contents (Elt F) arg1.view.ty) (f2 : BufTy.Contents (Elt F) arg2.view.ty)

/-- At a point where no block of row blocks ends. -/
theorem body_mid (hc : ¬ k0_cond1 i = 1#1) (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty) (f8 : BufTy.Contents (Elt F) arg8.view.ty) :
    iprop(Trip c arg1 arg2 arg3 arg4 arg5 arg7 arg8 f1 f2 f3 f4 f5 f7 f8 ∗ (arg6.view.loc (c : Thread nD τ) ↦{fullShare} f6)) ⊢
      wp frame (wpE defs₀ Variants.none (c : Thread nD τ) none) Set.univ (cc0_rmsnorm_quant i arg1 harg1 arg2 harg2 arg3 harg3 arg4 harg4 arg5 harg5 arg6 harg6 arg7 harg7 arg8 harg8)
        fun _ => iprop(Trip c arg1 arg2 arg3 arg4 arg5 arg7 arg8 f1 f2 (arg3.view.writes (Elt F) f3 (upto (L3 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg4.view.writes (Elt F) f4 (upto (L4 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg5.view.writes (Elt F) f5 (upto (L5 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg7.view.writes (Elt F) f7 (upto (L7 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
          ∗ (arg6.view.loc (c : Thread nD τ) ↦{fullShare} f6)) := by
  unfold Trip
  iintro ⟨⟨H1, H2, H3, H4, H5, H7, H8⟩, H6⟩
  sl_unfold [cc0_rmsnorm_quant]
  sl_exec (disch := sl_exact hc)
  sl_step
  sl_close

/-- At the last point of a block of row blocks. -/
@[irreducible] def bodyEnd (hc : k0_cond1 i = 1#1) (f8 : BufTy.Contents (Elt F) arg8.view.ty) :
    { L6 : List (View.Piece (Elt F) S3456x128 .f32) // ∀ (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty),
    iprop(Trip c arg1 arg2 arg3 arg4 arg5 arg7 arg8 f1 f2 f3 f4 f5 f7 f8 ∗ (arg6.view.loc (c : Thread nD τ) ↦{fullShare} f6)) ⊢
      wp frame (wpE defs₀ Variants.none (c : Thread nD τ) none) Set.univ (cc0_rmsnorm_quant i arg1 harg1 arg2 harg2 arg3 harg3 arg4 harg4 arg5 harg5 arg6 harg6 arg7 harg7 arg8 harg8)
        fun _ => iprop(Trip c arg1 arg2 arg3 arg4 arg5 arg7 arg8 f1 f2 (arg3.view.writes (Elt F) f3 (upto (L3 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg4.view.writes (Elt F) f4 (upto (L4 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg5.view.writes (Elt F) f5 (upto (L5 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg7.view.writes (Elt F) f7 (upto (L7 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
            (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4))
          ∗ (arg6.view.loc (c : Thread nD τ) ↦{fullShare} arg6.view.writes (Elt F) f6 L6)) } := by
  refine ⟨?_, fun f3 f4 f5 f6 f7 => ?run⟩
  case run =>
    unfold Trip
    iintro ⟨⟨H1, H2, H3, H4, H5, H7, H8⟩, H6⟩
    sl_unfold [cc0_rmsnorm_quant]
    sl_exec_parts (disch := sl_exact hc)
    sl_step
    sl_close

/-! ## The copy of the carried scales -/

/-- Plane `g` of the carried scales, transposed. -/
def plane (f : BufTy.Contents (Elt F) arg8.view.ty) (o : Fin 3 → ℕ) (h : ∀ a, o a + S1x128x128.size a ≤ S27x128x128.size a) : FVec F S128x128 .f32 :=
  transpose S128x128 [1, 0] (shapeCast S128x128 (View.readAt (Elt F) arg8.view (Rect.unit (s := S27x128x128) o S1x128x128.size h).toLoadRect f)
    shapeCasts_S1x128x128_S128x128 : FVec F S128x128 .f32) transposes_S128x128_p1_0_S128x128

theorem bodyEnd_eq (hc : k0_cond1 i = 1#1) (f8 : BufTy.Contents (Elt F) arg8.view.ty) : (bodyEnd c i arg1 harg1 arg2 harg2 arg3 harg3 arg4 harg4 arg5 harg5 arg6 harg6 arg7 harg7 arg8 harg8 f1 f2 hc f8).1 =
    [⟨Rect.unit (s := S3456x128) ![3328, 0] S128x128.size inb_S3456x128_S128x128_3328_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![26, 0, 0] inb_S27x128x128_S1x128x128_26_0_0⟩,
     ⟨Rect.unit (s := S3456x128) ![3200, 0] S128x128.size inb_S3456x128_S128x128_3200_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![25, 0, 0] inb_S27x128x128_S1x128x128_25_0_0⟩,
     ⟨Rect.unit (s := S3456x128) ![3072, 0] S128x128.size inb_S3456x128_S128x128_3072_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![24, 0, 0] inb_S27x128x128_S1x128x128_24_0_0⟩,
     ⟨Rect.unit (s := S3456x128) ![2944, 0] S128x128.size inb_S3456x128_S128x128_2944_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![23, 0, 0] inb_S27x128x128_S1x128x128_23_0_0⟩,
     ⟨Rect.unit (s := S3456x128) ![2816, 0] S128x128.size inb_S3456x128_S128x128_2816_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![22, 0, 0] inb_S27x128x128_S1x128x128_22_0_0⟩,
     ⟨Rect.unit (s := S3456x128) ![2688, 0] S128x128.size inb_S3456x128_S128x128_2688_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![21, 0, 0] inb_S27x128x128_S1x128x128_21_0_0⟩,
     ⟨Rect.unit (s := S3456x128) ![2560, 0] S128x128.size inb_S3456x128_S128x128_2560_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![20, 0, 0] inb_S27x128x128_S1x128x128_20_0_0⟩,
     ⟨Rect.unit (s := S3456x128) ![2432, 0] S128x128.size inb_S3456x128_S128x128_2432_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![19, 0, 0] inb_S27x128x128_S1x128x128_19_0_0⟩,
     ⟨Rect.unit (s := S3456x128) ![2304, 0] S128x128.size inb_S3456x128_S128x128_2304_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![18, 0, 0] inb_S27x128x128_S1x128x128_18_0_0⟩,
     ⟨Rect.unit (s := S3456x128) ![2176, 0] S128x128.size inb_S3456x128_S128x128_2176_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![17, 0, 0] inb_S27x128x128_S1x128x128_17_0_0⟩,
     ⟨Rect.unit (s := S3456x128) ![2048, 0] S128x128.size inb_S3456x128_S128x128_2048_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![16, 0, 0] inb_S27x128x128_S1x128x128_16_0_0⟩,
     ⟨Rect.unit (s := S3456x128) ![1920, 0] S128x128.size inb_S3456x128_S128x128_1920_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![15, 0, 0] inb_S27x128x128_S1x128x128_15_0_0⟩,
     ⟨Rect.unit (s := S3456x128) ![1792, 0] S128x128.size inb_S3456x128_S128x128_1792_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![14, 0, 0] inb_S27x128x128_S1x128x128_14_0_0⟩,
     ⟨Rect.unit (s := S3456x128) ![1664, 0] S128x128.size inb_S3456x128_S128x128_1664_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![13, 0, 0] inb_S27x128x128_S1x128x128_13_0_0⟩,
     ⟨Rect.unit (s := S3456x128) ![1536, 0] S128x128.size inb_S3456x128_S128x128_1536_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![12, 0, 0] inb_S27x128x128_S1x128x128_12_0_0⟩,
     ⟨Rect.unit (s := S3456x128) ![1408, 0] S128x128.size inb_S3456x128_S128x128_1408_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![11, 0, 0] inb_S27x128x128_S1x128x128_11_0_0⟩,
     ⟨Rect.unit (s := S3456x128) ![1280, 0] S128x128.size inb_S3456x128_S128x128_1280_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![10, 0, 0] inb_S27x128x128_S1x128x128_10_0_0⟩,
     ⟨Rect.unit (s := S3456x128) ![1152, 0] S128x128.size inb_S3456x128_S128x128_1152_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![9, 0, 0] inb_S27x128x128_S1x128x128_9_0_0⟩,
     ⟨Rect.unit (s := S3456x128) ![1024, 0] S128x128.size inb_S3456x128_S128x128_1024_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![8, 0, 0] inb_S27x128x128_S1x128x128_8_0_0⟩,
     ⟨Rect.unit (s := S3456x128) ![896, 0] S128x128.size inb_S3456x128_S128x128_896_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![7, 0, 0] inb_S27x128x128_S1x128x128_7_0_0⟩,
     ⟨Rect.unit (s := S3456x128) ![768, 0] S128x128.size inb_S3456x128_S128x128_768_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![6, 0, 0] inb_S27x128x128_S1x128x128_6_0_0⟩,
     ⟨Rect.unit (s := S3456x128) ![640, 0] S128x128.size inb_S3456x128_S128x128_640_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![5, 0, 0] inb_S27x128x128_S1x128x128_5_0_0⟩,
     ⟨Rect.unit (s := S3456x128) ![512, 0] S128x128.size inb_S3456x128_S128x128_512_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![4, 0, 0] inb_S27x128x128_S1x128x128_4_0_0⟩,
     ⟨Rect.unit (s := S3456x128) ![384, 0] S128x128.size inb_S3456x128_S128x128_384_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![3, 0, 0] inb_S27x128x128_S1x128x128_3_0_0⟩,
     ⟨Rect.unit (s := S3456x128) ![256, 0] S128x128.size inb_S3456x128_S128x128_256_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![2, 0, 0] inb_S27x128x128_S1x128x128_2_0_0⟩,
     ⟨Rect.unit (s := S3456x128) ![128, 0] S128x128.size inb_S3456x128_S128x128_128_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![1, 0, 0] inb_S27x128x128_S1x128x128_1_0_0⟩,
     ⟨Rect.unit (s := S3456x128) ![0, 0] S128x128.size inb_S3456x128_S128x128_0_0, plane arg8 (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) ![0, 0, 0] inb_S27x128x128_S1x128x128_0_0_0⟩] := by
  unfold bodyEnd; rfl

/-- The element of the carried scales that result place `y` copies. -/
def src (y : S3456x128.Idx) : S27x128x128.Idx :=
  ix3 ⟨(y 0).val / 128, by have : (y 0).val < 3456 := (y 0).isLt; omega⟩ (y 1) ⟨(y 0).val % 128, Nat.mod_lt _ (by decide)⟩

theorem plane_piece (f : BufTy.Contents (Elt F) arg8.view.ty) (g : Fin 27) (o : Fin 3 → ℕ) (h : ∀ a, o a + S1x128x128.size a ≤ S27x128x128.size a)
    (o' : Fin 2 → ℕ) (h' : ∀ a, o' a + S128x128.size a ≤ S3456x128.size a) (ho : o = ![g.val, 0, 0]) (ho' : o' = ![128 * g.val, 0]) (x : S128x128.Idx) :
    plane arg8 f o h x = (fun y => arg8.view.read (Elt F) f (src y)) ((Rect.unit (s := S3456x128) o' S128x128.size h').emb x) := by
  subst ho ho'
  have hx0 : (x 0).val < 128 := (x 0).isLt
  have hx1 : (x 1).val < 128 := (x 1).isLt
  obtain ⟨a, b, rfl⟩ : ∃ a b : Fin 128, x = ix2 a b := ⟨x 0, x 1, eq_ix2 x⟩
  unfold plane
  rw [show transpose S128x128 [1, 0] (shapeCast S128x128 (View.readAt (Elt F) arg8.view (Rect.unit (s := S27x128x128) ![g.val, 0, 0] S1x128x128.size h).toLoadRect f)
    shapeCasts_S1x128x128_S128x128 : FVec F S128x128 .f32) transposes_S128x128_p1_0_S128x128 (ix2 a b)
      = (shapeCast S128x128 (View.readAt (Elt F) arg8.view (Rect.unit (s := S27x128x128) ![g.val, 0, 0] S1x128x128.size h).toLoadRect f)
    shapeCasts_S1x128x128_S128x128 : FVec F S128x128 .f32) (ix2 b a) from transpose_ix2_apply _ _ _ _, shapeCast_1ab_ab_apply]
  show arg8.view.read (Elt F) f _ = arg8.view.read (Elt F) f _
  congr 1
  funext d
  match d with
  | ⟨0, _⟩ => exact Fin.ext (by show g.val + 1 * 0 = (128 * g.val + 1 * a.val) / 128; omega)
  | ⟨1, _⟩ => exact Fin.ext (by show 0 + 1 * b.val = 0 + 1 * b.val; omega)
  | ⟨2, _⟩ => exact Fin.ext (by show 0 + 1 * a.val = (128 * g.val + 1 * a.val) % 128; omega)

/-- The copy reads, at each place, the carried scale that it copies. -/
theorem read_bodyEnd (hc : k0_cond1 i = 1#1) (f8 : BufTy.Contents (Elt F) arg8.view.ty) (f6 : BufTy.Contents (Elt F) arg6.view.ty) :
    arg6.view.read (Elt F) (arg6.view.writes (Elt F) f6 (bodyEnd c i arg1 harg1 arg2 harg2 arg3 harg3 arg4 harg4 arg5 harg5 arg6 harg6 arg7 harg7 arg8 harg8 f1 f2 hc f8).1)
      = fun y => arg8.view.read (Elt F) (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) (src y) := by
  funext y
  rw [bodyEnd_eq]
  refine View.read_writes_apply_of_pieces arg6.view f6 (fun y => arg8.view.read (Elt F) (arg8.view.writes (Elt F) f8 (upto (L8 c i arg1 harg1 arg2 harg2 arg3 harg3 arg4 harg4 arg5 harg5 arg6 harg6 arg7 harg7 arg8 harg8 (BitVec.ofNat 32 (i 0).val) (iota .tc S128x128 32 [1] iota_S128x128_d1_w32) f1 f2) 4)) (src y)) _ ?_ y ?_
  · simp only [List.forall_mem_cons, List.not_mem_nil, false_imp_iff, implies_true, and_true]
    exact ⟨plane_piece arg8 _ 26 _ _ ![3328, 0] inb_S3456x128_S128x128_3328_0 rfl rfl,
      plane_piece arg8 _ 25 _ _ ![3200, 0] inb_S3456x128_S128x128_3200_0 rfl rfl,
      plane_piece arg8 _ 24 _ _ ![3072, 0] inb_S3456x128_S128x128_3072_0 rfl rfl,
      plane_piece arg8 _ 23 _ _ ![2944, 0] inb_S3456x128_S128x128_2944_0 rfl rfl,
      plane_piece arg8 _ 22 _ _ ![2816, 0] inb_S3456x128_S128x128_2816_0 rfl rfl,
      plane_piece arg8 _ 21 _ _ ![2688, 0] inb_S3456x128_S128x128_2688_0 rfl rfl,
      plane_piece arg8 _ 20 _ _ ![2560, 0] inb_S3456x128_S128x128_2560_0 rfl rfl,
      plane_piece arg8 _ 19 _ _ ![2432, 0] inb_S3456x128_S128x128_2432_0 rfl rfl,
      plane_piece arg8 _ 18 _ _ ![2304, 0] inb_S3456x128_S128x128_2304_0 rfl rfl,
      plane_piece arg8 _ 17 _ _ ![2176, 0] inb_S3456x128_S128x128_2176_0 rfl rfl,
      plane_piece arg8 _ 16 _ _ ![2048, 0] inb_S3456x128_S128x128_2048_0 rfl rfl,
      plane_piece arg8 _ 15 _ _ ![1920, 0] inb_S3456x128_S128x128_1920_0 rfl rfl,
      plane_piece arg8 _ 14 _ _ ![1792, 0] inb_S3456x128_S128x128_1792_0 rfl rfl,
      plane_piece arg8 _ 13 _ _ ![1664, 0] inb_S3456x128_S128x128_1664_0 rfl rfl,
      plane_piece arg8 _ 12 _ _ ![1536, 0] inb_S3456x128_S128x128_1536_0 rfl rfl,
      plane_piece arg8 _ 11 _ _ ![1408, 0] inb_S3456x128_S128x128_1408_0 rfl rfl,
      plane_piece arg8 _ 10 _ _ ![1280, 0] inb_S3456x128_S128x128_1280_0 rfl rfl,
      plane_piece arg8 _ 9 _ _ ![1152, 0] inb_S3456x128_S128x128_1152_0 rfl rfl,
      plane_piece arg8 _ 8 _ _ ![1024, 0] inb_S3456x128_S128x128_1024_0 rfl rfl,
      plane_piece arg8 _ 7 _ _ ![896, 0] inb_S3456x128_S128x128_896_0 rfl rfl,
      plane_piece arg8 _ 6 _ _ ![768, 0] inb_S3456x128_S128x128_768_0 rfl rfl,
      plane_piece arg8 _ 5 _ _ ![640, 0] inb_S3456x128_S128x128_640_0 rfl rfl,
      plane_piece arg8 _ 4 _ _ ![512, 0] inb_S3456x128_S128x128_512_0 rfl rfl,
      plane_piece arg8 _ 3 _ _ ![384, 0] inb_S3456x128_S128x128_384_0 rfl rfl,
      plane_piece arg8 _ 2 _ _ ![256, 0] inb_S3456x128_S128x128_256_0 rfl rfl,
      plane_piece arg8 _ 1 _ _ ![128, 0] inb_S3456x128_S128x128_128_0 rfl rfl,
      plane_piece arg8 _ 0 _ _ ![0, 0] inb_S3456x128_S128x128_0_0 rfl rfl⟩
  · have h1 : (y 1).val < 128 := (y 1).isLt
    have h0 : (y 0).val < 3456 := (y 0).isLt
    have key : ∀ (g : Fin 27) (o : Fin 2 → ℕ) (h : ∀ a, o a + S128x128.size a ≤ S3456x128.size a), o = ![128 * g.val, 0] →
        (y 0).val / 128 = g.val → y ∈ (Rect.unit (s := S3456x128) o S128x128.size h).set := by
      intro g o h ho hg
      subst ho
      refine Rect.mem_set_unit.mpr fun a => ?_
      match a with
      | ⟨0, _⟩ => show 128 * g.val ≤ (y 0).val ∧ (y 0).val < 128 * g.val + 128; omega
      | ⟨1, _⟩ => show 0 ≤ (y 1).val ∧ (y 1).val < 0 + 128; omega
    obtain ⟨g, hg⟩ : ∃ g : Fin 27, (y 0).val / 128 = g.val := ⟨⟨(y 0).val / 128, by omega⟩, rfl⟩
    match g, hg with
    | 0, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 0 ![0, 0] inb_S3456x128_S128x128_0_0 rfl hg⟩
    | 1, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 1 ![128, 0] inb_S3456x128_S128x128_128_0 rfl hg⟩
    | 2, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 2 ![256, 0] inb_S3456x128_S128x128_256_0 rfl hg⟩
    | 3, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 3 ![384, 0] inb_S3456x128_S128x128_384_0 rfl hg⟩
    | 4, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 4 ![512, 0] inb_S3456x128_S128x128_512_0 rfl hg⟩
    | 5, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 5 ![640, 0] inb_S3456x128_S128x128_640_0 rfl hg⟩
    | 6, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 6 ![768, 0] inb_S3456x128_S128x128_768_0 rfl hg⟩
    | 7, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 7 ![896, 0] inb_S3456x128_S128x128_896_0 rfl hg⟩
    | 8, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 8 ![1024, 0] inb_S3456x128_S128x128_1024_0 rfl hg⟩
    | 9, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 9 ![1152, 0] inb_S3456x128_S128x128_1152_0 rfl hg⟩
    | 10, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 10 ![1280, 0] inb_S3456x128_S128x128_1280_0 rfl hg⟩
    | 11, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 11 ![1408, 0] inb_S3456x128_S128x128_1408_0 rfl hg⟩
    | 12, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 12 ![1536, 0] inb_S3456x128_S128x128_1536_0 rfl hg⟩
    | 13, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 13 ![1664, 0] inb_S3456x128_S128x128_1664_0 rfl hg⟩
    | 14, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 14 ![1792, 0] inb_S3456x128_S128x128_1792_0 rfl hg⟩
    | 15, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 15 ![1920, 0] inb_S3456x128_S128x128_1920_0 rfl hg⟩
    | 16, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 16 ![2048, 0] inb_S3456x128_S128x128_2048_0 rfl hg⟩
    | 17, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 17 ![2176, 0] inb_S3456x128_S128x128_2176_0 rfl hg⟩
    | 18, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_of_mem _ <| List.mem_cons_self), key 18 ![2304, 0] inb_S3456x128_S128x128_2304_0 rfl hg⟩
    | 19, hg => exact ⟨_, (List.mem_cons_of_mem _ <| List.mem_cons_of_mem _ <| List.mem_cons_of_mem _ <| List.mem_cons_of_mem _ <| List.mem_cons_of_mem _ <| List.mem_cons_of_mem _ <| List.mem_cons_of_mem _ <| List.mem_cons_self), key 19 ![2432, 0] inb_S3456x128_S128x128_2432_0 rfl hg⟩
    | 20, hg => exact ⟨_, (List.mem_cons_of_mem _ <| List.mem_cons_of_mem _ <| List.mem_cons_of_mem _ <| List.mem_cons_of_mem _ <| List.mem_cons_of_mem _ <| List.mem_cons_of_mem _ <| List.mem_cons_self), key 20 ![2560, 0] inb_S3456x128_S128x128_2560_0 rfl hg⟩
    | 21, hg => exact ⟨_, (List.mem_cons_of_mem _ <| List.mem_cons_of_mem _ <| List.mem_cons_of_mem _ <| List.mem_cons_of_mem _ <| List.mem_cons_of_mem _ <| List.mem_cons_self), key 21 ![2688, 0] inb_S3456x128_S128x128_2688_0 rfl hg⟩
    | 22, hg => exact ⟨_, (List.mem_cons_of_mem _ <| List.mem_cons_of_mem _ <| List.mem_cons_of_mem _ <| List.mem_cons_of_mem _ <| List.mem_cons_self), key 22 ![2816, 0] inb_S3456x128_S128x128_2816_0 rfl hg⟩
    | 23, hg => exact ⟨_, (List.mem_cons_of_mem _ <| List.mem_cons_of_mem _ <| List.mem_cons_of_mem _ <| List.mem_cons_self), key 23 ![2944, 0] inb_S3456x128_S128x128_2944_0 rfl hg⟩
    | 24, hg => exact ⟨_, (List.mem_cons_of_mem _ <| List.mem_cons_of_mem _ <| List.mem_cons_self), key 24 ![3072, 0] inb_S3456x128_S128x128_3072_0 rfl hg⟩
    | 25, hg => exact ⟨_, (List.mem_cons_of_mem _ <| List.mem_cons_self), key 25 ![3200, 0] inb_S3456x128_S128x128_3200_0 rfl hg⟩
    | 26, hg => exact ⟨_, (List.mem_cons_self), key 26 ![3328, 0] inb_S3456x128_S128x128_3328_0 rfl hg⟩
    | ⟨n + 27, h⟩, _ => exact absurd h (by omega)

end body

end Cert.KernelIdeal.Hand

end
-- ==== Proof.Point.lean ====
/- One grid point over the staged blocks: what the kernel body leaves in each, in terms of the whole operands. -/
module

public import proofs.«01_k».proof.Proof.Body

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## Whole buffers -/

theorem set_of_whole {sp : Space} {s : Shape} {e : EltTy} {m : Memref sig .tc sp s e} (h : m.IsWhole) : m.view.set = Finset.univ := by
  obtain ⟨b, hsp, hsh, he, h⟩ := h
  subst hsp hsh he
  cases h
  exact View.set_whole b

/-- A whole memref is owned as its buffer is. -/
theorem owns_pt (c : Dev nD) {sp : Space} {s : Shape} {e : EltTy} {m : Memref sig .tc sp s e} (h : m.IsWhole) (X : s.Idx → Elt F e) :
    (owns (c : Thread nD τ) m fullShare X : sProp 𝕄) ⊢ iprop(∃ f, ⌜m.view.read (Elt F) f = X⌝ ∗ (m.view.loc (c : Thread nD τ) ↦{fullShare} f)) := by
  unfold owns; rw [set_of_whole h]

theorem pt_owns (c : Dev nD) {sp : Space} {s : Shape} {e : EltTy} {m : Memref sig .tc sp s e} (h : m.IsWhole) (f : BufTy.Contents (Elt F) m.view.ty) :
    (m.view.loc (c : Thread nD τ) ↦{fullShare} f : sProp 𝕄) ⊢ owns (c : Thread nD τ) m fullShare (m.view.read (Elt F) f) := by
  refine BIBase.Entails.trans ?_ (owns_intro _ _ _ _)
  rw [set_of_whole h]

/-! ## The point -/

/-- What grid point `i` leaves in the staged results (`X3`, …, `X7`) and the carried scales (`X8`), where the resident
    reciprocals and the carried scales held `Y7` and `Y8`. -/
structure Left (i : grid0.Coords) (A : Vec F S53248x3456 .bf16) (Γ : Vec F S1x3456 .f32)
    (X3 : Vec F S512x3456 .fp8e4m3) (X4 : Vec F S512x27 .f32) (X5 : Vec F S3456x512 .fp8e4m3) (X6 : Vec F S3456x128 .f32)
    (Y7 X7 : Vec F S416x128 .f32) (Y8 X8 : Vec F S27x128x128 .f32) : Prop where
  rc : X3 = fun z => rcode A Γ (ix2 (row i (z 0)) (z 1))
  rs : X4 = fun z => rscale A Γ (ix2 (row i (z 0)) (z 1))
  cc : X5 = fun z => ccode A Γ (ix2 (z 0) (row i (z 1)))
  cs : k0_cond1 i = 1#1 → ∀ y, X6 y = X8 (src y)
  sig : ∀ y, (y 0).val / 4 = (i 0).val → X7 y = sigs A y
  sig_other : ∀ y, (y 0).val / 4 ≠ (i 0).val → X7 y = Y7 y
  carry : ∀ y, (y 1).val / 4 = (i 0).val % 32 → ∀ j : S3456x416.Idx, (j 0).val = 128 * (y 0).val + (y 2).val →
    (j 1).val = 128 * ((i 0).val / 32) + (y 1).val → X8 y = cscale A Γ j
  carry_other : ∀ y, (y 1).val / 4 ≠ (i 0).val % 32 → X8 y = Y8 y

section point

variable (c : Dev nD) (i : grid0.Coords)
    (arg1 : Memref sig .tc .vmem S512x3456 .bf16) (harg1 : arg1.IsWhole) (arg2 : Memref sig .tc .vmem S1x3456 .f32) (harg2 : arg2.IsWhole)
    (arg3 : Memref sig .tc .vmem S512x3456 .fp8e4m3) (harg3 : arg3.IsWhole) (arg4 : Memref sig .tc .vmem S512x27 .f32) (harg4 : arg4.IsWhole)
    (arg5 : Memref sig .tc .vmem S3456x512 .fp8e4m3) (harg5 : arg5.IsWhole) (arg6 : Memref sig .tc .vmem S3456x128 .f32) (harg6 : arg6.IsWhole)
    (arg7 : Memref sig .tc .vmem S416x128 .f32) (harg7 : arg7.IsWhole) (arg8 : Memref sig .tc .vmem S27x128x128 .f32) (harg8 : arg8.IsWhole)

/-- What the body holds on entry, the inputs and the eight blocks at given contents. -/
abbrev Held (X1 : Vec F S512x3456 .bf16) (X2 : Vec F S1x3456 .f32)
    (X3 : Vec F S512x3456 .fp8e4m3) (X4 : Vec F S512x27 .f32) (X5 : Vec F S3456x512 .fp8e4m3) (X6 : Vec F S3456x128 .f32)
    (X7 : Vec F S416x128 .f32) (X8 : Vec F S27x128x128 .f32) : sProp 𝕄 :=
  iprop(owns (c : Thread nD τ) arg1 fullShare X1 ∗ owns (c : Thread nD τ) arg2 fullShare X2 ∗ owns (c : Thread nD τ) arg3 fullShare X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8)

include harg1 harg2 harg3 harg4 harg5 harg6 harg7 harg8 in
/-- The buffers held whole, at contents that read as they must. -/
theorem held_of (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty) :
    iprop(Trip c arg1 arg2 arg3 arg4 arg5 arg7 arg8 f1 f2 f3 f4 f5 f7 f8 ∗ (arg6.view.loc (c : Thread nD τ) ↦{fullShare} f6))
      ⊢ (Held c arg1 arg2 arg3 arg4 arg5 arg6 arg7 arg8 (arg1.view.read (Elt F) f1) (arg2.view.read (Elt F) f2) (arg3.view.read (Elt F) f3)
          (arg4.view.read (Elt F) f4) (arg5.view.read (Elt F) f5) (arg6.view.read (Elt F) f6) (arg7.view.read (Elt F) f7) (arg8.view.read (Elt F) f8) : sProp 𝕄) := by
  unfold Trip Held
  iintro ⟨⟨H1, H2, H3, H4, H5, H7, H8⟩, H6⟩
  isplitl [H1]; · iapply (pt_owns c harg1 f1) $$ H1
  isplitl [H2]; · iapply (pt_owns c harg2 f2) $$ H2
  isplitl [H3]; · iapply (pt_owns c harg3 f3) $$ H3
  isplitl [H4]; · iapply (pt_owns c harg4 f4) $$ H4
  isplitl [H5]; · iapply (pt_owns c harg5 f5) $$ H5
  isplitl [H6]; · iapply (pt_owns c harg6 f6) $$ H6
  isplitl [H7]; · iapply (pt_owns c harg7 f7) $$ H7
  iapply (pt_owns c harg8 f8) $$ H8

theorem point (A : Vec F S53248x3456 .bf16) (Γ : Vec F S1x3456 .f32) (X1 : Vec F S512x3456 .bf16) (hX : ∀ y, X1 y = A (ix2 (row i (y 0)) (y 1)))
    (X3 : Vec F S512x3456 .fp8e4m3) (X4 : Vec F S512x27 .f32) (X5 : Vec F S3456x512 .fp8e4m3) (X6 : Vec F S3456x128 .f32)
    (X7 : Vec F S416x128 .f32) (X8 : Vec F S27x128x128 .f32) :
    (Held c arg1 arg2 arg3 arg4 arg5 arg6 arg7 arg8 X1 Γ X3 X4 X5 X6 X7 X8 : sProp 𝕄) ⊢
      wp frame (wpE defs₀ Variants.none (c : Thread nD τ) none) Set.univ (cc0_rmsnorm_quant i arg1 harg1 arg2 harg2 arg3 harg3 arg4 harg4 arg5 harg5 arg6 harg6 arg7 harg7 arg8 harg8)
        fun _ => iprop(∃ X3' X4' X5' X6' X7' X8', ⌜Left i A Γ X3' X4' X5' X6' X7 X7' X8 X8'⌝
          ∗ Held c arg1 arg2 arg3 arg4 arg5 arg6 arg7 arg8 X1 Γ X3' X4' X5' X6' X7' X8') := by
  unfold Held
  iintro ⟨H1, H2, H3, H4, H5, H6, H7, H8⟩
  ihave G1 := (owns_pt c harg1 X1) $$ H1
  ihave G2 := (owns_pt c harg2 Γ) $$ H2
  ihave G3 := (owns_pt c harg3 X3) $$ H3
  ihave G4 := (owns_pt c harg4 X4) $$ H4
  ihave G5 := (owns_pt c harg5 X5) $$ H5
  ihave G6 := (owns_pt c harg6 X6) $$ H6
  ihave G7 := (owns_pt c harg7 X7) $$ H7
  ihave G8 := (owns_pt c harg8 X8) $$ H8
  icases G1 with ⟨%f1, %e1, H1⟩
  icases G2 with ⟨%f2, %e2, H2⟩
  icases G3 with ⟨%f3, %e3, H3⟩
  icases G4 with ⟨%f4, %e4, H4⟩
  icases G5 with ⟨%f5, %e5, H5⟩
  icases G6 with ⟨%f6, %e6, H6⟩
  icases G7 with ⟨%f7, %e7, H7⟩
  icases G8 with ⟨%f8, %e8, H8⟩
  subst e1 e2 e3 e4 e5 e6 e7 e8
  by_cases hc : k0_cond1 i = 1#1
  · iapply (wp_wand_r Idealize.ShloMosaic.frame (wpE (defs₀ (F := F)) Variants.none (c : Thread nD τ) none) Set.univ)
    isplitl [H1 H2 H3 H4 H5 H6 H7 H8]
    · iapply ((bodyEnd c i arg1 harg1 arg2 harg2 arg3 harg3 arg4 harg4 arg5 harg5 arg6 harg6 arg7 harg7 arg8 harg8 f1 f2 hc f8).2 f3 f4 f5 f6 f7)
      unfold Trip
      isplitr [H6]; swap; · iexact H6
      isplitl [H1]; · iexact H1
      isplitl [H2]; · iexact H2
      isplitl [H3]; · iexact H3
      isplitl [H4]; · iexact H4
      isplitl [H5]; · iexact H5
      isplitl [H7]; · iexact H7
      iexact H8
    · iintro %_ H
      iexists _, _, _, _, _, _
      isplitr; swap
      · iapply (held_of c arg1 harg1 arg2 harg2 arg3 harg3 arg4 harg4 arg5 harg5 arg6 harg6 arg7 harg7 arg8 harg8 f1 f2) $$ H
      ipureintro
      exact ⟨loop_rc c i arg1 harg1 arg2 harg2 arg3 harg3 arg4 harg4 arg5 harg5 arg6 harg6 arg7 harg7 arg8 harg8 _ _ f1 f2 A _ hX rfl f3,
        loop_rs c i arg1 harg1 arg2 harg2 arg3 harg3 arg4 harg4 arg5 harg5 arg6 harg6 arg7 harg7 arg8 harg8 _ _ f1 f2 A _ hX rfl rfl f4,
        loop_cc c i arg1 harg1 arg2 harg2 arg3 harg3 arg4 harg4 arg5 harg5 arg6 harg6 arg7 harg7 arg8 harg8 _ _ f1 f2 A _ hX rfl f5,
        fun _ => congrFun (read_bodyEnd c i arg1 harg1 arg2 harg2 arg3 harg3 arg4 harg4 arg5 harg5 arg6 harg6 arg7 harg7 arg8 harg8 f1 f2 hc f8 f6),
        loop_sig c i arg1 harg1 arg2 harg2 arg3 harg3 arg4 harg4 arg5 harg5 arg6 harg6 arg7 harg7 arg8 harg8 _ _ f1 f2 A hX f7,
        loop_sig_other c i arg1 harg1 arg2 harg2 arg3 harg3 arg4 harg4 arg5 harg5 arg6 harg6 arg7 harg7 arg8 harg8 _ _ f1 f2 f7,
        loop_cs c i arg1 harg1 arg2 harg2 arg3 harg3 arg4 harg4 arg5 harg5 arg6 harg6 arg7 harg7 arg8 harg8 _ _ f1 f2 A _ hX rfl f8,
        loop_cs_other c i arg1 harg1 arg2 harg2 arg3 harg3 arg4 harg4 arg5 harg5 arg6 harg6 arg7 harg7 arg8 harg8 _ _ f1 f2 f8⟩
  · iapply (wp_wand_r Idealize.ShloMosaic.frame (wpE (defs₀ (F := F)) Variants.none (c : Thread nD τ) none) Set.univ)
    isplitl [H1 H2 H3 H4 H5 H6 H7 H8]
    · iapply (body_mid c i arg1 harg1 arg2 harg2 arg3 harg3 arg4 harg4 arg5 harg5 arg6 harg6 arg7 harg7 arg8 harg8 f1 f2 hc f3 f4 f5 f6 f7 f8)
      unfold Trip
      isplitr [H6]; swap; · iexact H6
      isplitl [H1]; · iexact H1
      isplitl [H2]; · iexact H2
      isplitl [H3]; · iexact H3
      isplitl [H4]; · iexact H4
      isplitl [H5]; · iexact H5
      isplitl [H7]; · iexact H7
      iexact H8
    · iintro %_ H
      iexists _, _, _, _, _, _
      isplitr; swap
      · iapply (held_of c arg1 harg1 arg2 harg2 arg3 harg3 arg4 harg4 arg5 harg5 arg6 harg6 arg7 harg7 arg8 harg8 f1 f2) $$ H
      ipureintro
      exact ⟨loop_rc c i arg1 harg1 arg2 harg2 arg3 harg3 arg4 harg4 arg5 harg5 arg6 harg6 arg7 harg7 arg8 harg8 _ _ f1 f2 A _ hX rfl f3,
        loop_rs c i arg1 harg1 arg2 harg2 arg3 harg3 arg4 harg4 arg5 harg5 arg6 harg6 arg7 harg7 arg8 harg8 _ _ f1 f2 A _ hX rfl rfl f4,
        loop_cc c i arg1 harg1 arg2 harg2 arg3 harg3 arg4 harg4 arg5 harg5 arg6 harg6 arg7 harg7 arg8 harg8 _ _ f1 f2 A _ hX rfl f5,
        fun h => absurd h hc,
        loop_sig c i arg1 harg1 arg2 harg2 arg3 harg3 arg4 harg4 arg5 harg5 arg6 harg6 arg7 harg7 arg8 harg8 _ _ f1 f2 A hX f7,
        loop_sig_other c i arg1 harg1 arg2 harg2 arg3 harg3 arg4 harg4 arg5 harg5 arg6 harg6 arg7 harg7 arg8 harg8 _ _ f1 f2 f7,
        loop_cs c i arg1 harg1 arg2 harg2 arg3 harg3 arg4 harg4 arg5 harg5 arg6 harg6 arg7 harg7 arg8 harg8 _ _ f1 f2 A _ hX rfl f8,
        loop_cs_other c i arg1 harg1 arg2 harg2 arg3 harg3 arg4 harg4 arg5 harg5 arg6 harg6 arg7 harg7 arg8 harg8 _ _ f1 f2 f8⟩

end point

end Cert.KernelIdeal.Hand

end
-- ==== Proof.Region.lean ====
/- The grid: what each staged block holds at each point, the invariant on the carried scales, and the run of the whole grid. -/
module

public import proofs.«01_k».proof.Proof.Point
public import proofs.«01_k».proof.Proof.Gen.KernelIdeal.Frame
public import Idealize.ShloMosaic.Lib.Pipeline.ValueKit.Basic
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen

variable {F : FTy → Type} [FloatOps F] [Named F]

local notation "𝕄" => MT nD τ sig Unit (Elt F) ℕ (UR sig nD τ) ℕ

/-! ## The schedule -/

theorem coords_val (t : Fin grid0.N) : (grid0.coords t 0).val = t.val := by
  have h := Pipeline.Grid.coords_val t 0 (S := 1) (B := 104) (by decide) rfl
  have := lt_of_lt_of_eq t.isLt N_0
  omega

/-- The transposed copy is made where a block of 128 row blocks ends. -/
theorem cond1_iff : ∀ t : Fin grid0.N, k0_cond1 (grid0.coords t) = 1#1 ↔ t.val % 32 = 31 ∨ t.val = 103 := by decide +kernel

theorem flush5_iff : ∀ t : Fin grid0.N, win0_5.flush t = true ↔ t.val % 32 = 31 ∨ t.val = 103 := by decide +kernel

/-! ## The proof data -/

variable (m : (ℓ : Loc nD τ sig) → Buf (Elt F) ℓ) (c : Dev nD)

/-- The kernel's operand and gains, as the pipeline finds them. -/
def opA : Vec F S53248x3456 .bf16 := V m c main_v0
def opG : Vec F S1x3456 .f32 := V m c main_v2

/-- Before point `n`, the carried scales hold the column scales of the block of 128 row blocks that `n` belongs to, up to `n`. -/
def Carried (A : Vec F S53248x3456 .bf16) (Γ : Vec F S1x3456 .f32) (n : ℕ) (X : Vec F S27x128x128 .f32) : Prop :=
  ∀ y, (y 1).val < 4 * (n % 32) → ∀ j : S3456x416.Idx, (j 0).val = 128 * (y 0).val + (y 2).val → (j 1).val = 128 * (n / 32) + (y 1).val →
    X y = cscale A Γ j

/-- What the body leaves in the staged column scales where they are written back. -/
def CopiedAt (A : Vec F S53248x3456 .bf16) (Γ : Vec F S1x3456 .f32) (n : ℕ) (X : Vec F S3456x128 .f32) : Prop :=
  n % 32 = 31 ∨ n = 103 → ∀ y, (y 1).val < 4 * (n % 32 + 1) → ∀ j : S3456x416.Idx, (j 0).val = (y 0).val → (j 1).val = 128 * (n / 32) + (y 1).val →
    X y = cscale A Γ j

/-- The reciprocals of the row blocks of point `n` are set, the others kept. -/
def SetAt (A : Vec F S53248x3456 .bf16) (n : ℕ) (Y X : Vec F S416x128 .f32) : Prop :=
  ∀ y, ((y 0).val / 4 = n → X y = sigs A y) ∧ ((y 0).val / 4 ≠ n → X y = Y y)

/-- What one point leaves in each staged block. -/
def after (A : Vec F S53248x3456 .bf16) (Γ : Vec F S1x3456 .f32) :
    (w : Fin cfg0.W) → Fin cfg0.N → (Y X : (cfg0.win w).block.Idx → Elt F (cfg0.win w).elt) → Prop
  | 0, _, Y, X => X = Y
  | 1, _, Y, X => X = Y
  | 2, t, _, X => X = fun z : S512x3456.Idx => rcode A Γ (ix2 (row (grid0.coords t) (z 0)) (z 1))
  | 3, t, _, X => X = fun z : S512x27.Idx => rscale A Γ (ix2 (row (grid0.coords t) (z 0)) (z 1))
  | 4, t, _, X => X = fun z : S3456x512.Idx => ccode A Γ (ix2 (z 0) (row (grid0.coords t) (z 1)))
  | 5, t, _, X => CopiedAt A Γ t.val X
  | 6, t, Y, X => SetAt A t.val Y X
  | ⟨_ + 7, h⟩, _, _, _ => absurd h (Nat.not_lt.2 (Nat.le_add_left _ _))

def rdat : RDat τ (Elt F) Unit ℕ (UR sig nD τ) ℕ cfg0 c where
  A w := V m c (Pipeline.arrRef spec0 w)
  after := after (opA m c) (opG m c)
  Φ t := iprop((∃ X, ⌜Carried (opA m c) (opG m c) t.val X⌝ ∗ owns (c : Thread nD τ) (Memref.whole cc0_scratch0) fullShare X) ∗ ∃ r, prngReg c r)
  q _ := fullShare
  owed _ := 0

/-! ## What the body finds -/

/-- The staged operand is the operand's block of 512 rows. -/
theorem finds_x (t : Fin cfg0.N) (X) (h : (rdat m c).Finds 0 t X) (y : S512x3456.Idx) : X y = opA m c (ix2 (row (grid0.coords t) (y 0)) (y 1)) := by
  obtain ⟨d, rfl⟩ := ((rdat m c).finds_of_fetch (fetch0_0 t) X).mp h
  show V m c main_v0 ((win0_0.rect t).emb y) = V m c main_v0 _
  congr 1
  funext a
  apply Fin.ext
  rw [Pipeline.Window.rect_emb_val win0_0 t _ _ rfl]
  match a with
  | ⟨0, _⟩ =>
    show ((BitVec.ofNat 32 (grid0.coords t 0).val).toNat) * 512 + (y 0).val = 512 * (grid0.coords t 0).val + (y 0).val
    have := (grid0.coords t 0).isLt
    rw [BitVec.toNat_ofNat, Nat.mod_eq_of_lt (by have h : (grid0.coords t 0).val < 104 := (grid0.coords t 0).isLt; omega)]; omega
  | ⟨1, _⟩ => show 0 * 3456 + (y 1).val = (y 1).val; omega

/-- The staged gains are the gains. -/
theorem finds_g : ∀ (n : ℕ) (hn : n < cfg0.N) (X), (rdat m c).Finds 1 ⟨n, hn⟩ X → X = opG m c
  | 0, hn, X, h => by
    obtain ⟨d, rfl⟩ := ((rdat m c).finds_of_fetch ((fetch0_1 ⟨0, hn⟩).mpr rfl) X).mp h
    funext y
    show V m c main_v2 ((win0_1.rect ⟨0, hn⟩).emb y) = V m c main_v2 y
    congr 1
    funext a
    apply Fin.ext
    rw [Pipeline.Window.rect_emb_val win0_1 ⟨0, hn⟩ _ _ rfl]
    match a with
    | ⟨0, _⟩ => show 0 * 1 + (y 0).val = (y 0).val; omega
    | ⟨1, _⟩ => show 0 * 3456 + (y 1).val = (y 1).val; omega
  | n + 1, hn, X, h => by
    have hN : n + 1 < 104 := lt_of_lt_of_eq hn N_0
    have hf : (cfg0.win 1).fetch ⟨n + 1, hn⟩ = false := by
      rw [Bool.eq_false_iff]; intro e
      have := (fetch0_1 _).mp e
      have e' : (n + 1) % 104 = 0 := this
      omega
    rcases ((rdat m c).finds_of_pos hf (Nat.succ_ne_zero n) X).mp h with h | ⟨Y, hY, hX⟩
    · exact absurd h (by rw [Bool.not_eq_true]; rfl)
    · exact (show X = Y from hX).trans (finds_g n (Nat.lt_of_succ_lt hn) Y hY)

/-- The reciprocals of the points so far. -/
theorem leaves_sig : ∀ (n : ℕ) (hn : n < cfg0.N) (X : Vec F S416x128 .f32), (rdat m c).Leaves 6 ⟨n, hn⟩ X →
    ∀ y, (y 0).val / 4 ≤ n → X y = sigs (opA m c) y
  | 0, hn, X, ⟨Y, _, hX⟩, y, hy => ((show SetAt (opA m c) 0 Y X from hX) y).1 (by omega)
  | n + 1, hn, X, ⟨Y, hY, hX⟩, y, hy => by
    have hX' : SetAt (opA m c) (n + 1) Y X := hX
    have hN : n + 1 < 104 := lt_of_lt_of_eq hn N_0
    by_cases e : (y 0).val / 4 = n + 1
    · exact (hX' y).1 e
    · rcases ((rdat m c).finds_of_pos (w := 6) rfl (Nat.succ_ne_zero n) Y).mp hY with h | h
      · have e' : n % 104 = 103 := (flush0_6 _).mp h
        omega
      · exact ((hX' y).2 e).trans (leaves_sig n (Nat.lt_of_succ_lt hn) Y h y (by omega))

end Cert.KernelIdeal.Hand

end
-- ==== Proof.Run.lean ====
/- The run of the whole grid: the body obligation at every point, the arguments kept, and the result arrays in closed form. -/
module

public import proofs.«01_k».proof.Proof.Region

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

theorem defs₀_row (t : Fin cfg0.N) : defs₀ (F := F) .tc cfg0.body (cfg0.bodyArgs t (cfg0.slots t)) = bodyAt0 t := by
  unfold defs₀; rw [Defs.onTc_tc]

variable {m c}

/-- The invariant on the carried scales, one point on. -/
theorem carried_succ {A : Vec F S53248x3456 .bf16} {Γ : Vec F S1x3456 .f32} {t : Fin cfg0.N} {X3 X4 X5 X6 Y7 X7 Y8 X8}
    (h : Left (grid0.coords t) A Γ X3 X4 X5 X6 Y7 X7 Y8 X8) (h8 : Carried A Γ t.val Y8) : Carried A Γ (t.val + 1) X8 := by
  intro y hy j h0 h1
  by_cases e : (y 1).val / 4 = t.val % 32
  · exact h.carry y (by rw [coords_val]; exact e) j h0 (by rw [coords_val]; omega)
  · exact (h.carry_other y (by rw [coords_val]; exact e)).trans (h8 y (by omega) j h0 (by omega))

/-- What is copied where a block of row blocks ends. -/
theorem copied_of {A : Vec F S53248x3456 .bf16} {Γ : Vec F S1x3456 .f32} {t : Fin cfg0.N} {X3 X4 X5 X6 Y7 X7 Y8 X8}
    (h : Left (grid0.coords t) A Γ X3 X4 X5 X6 Y7 X7 Y8 X8) (h8 : Carried A Γ t.val Y8) : CopiedAt A Γ t.val X6 := by
  intro ht y hy j h0 h1
  rw [h.cs ((cond1_iff t).mpr ht) y]
  have s0 : (src y 0).val = (y 0).val / 128 := rfl
  have s1 : (src y 1).val = (y 1).val := rfl
  have s2 : (src y 2).val = (y 0).val % 128 := rfl
  by_cases e : (y 1).val / 4 = t.val % 32
  · exact h.carry (src y) (by rw [coords_val, s1]; exact e) j (by rw [s0, s2]; omega) (by rw [coords_val, s1]; omega)
  · exact (h.carry_other (src y) (by rw [coords_val, s1]; exact e)).trans (h8 (src y) (by rw [s1]; omega) j (by rw [s0, s2]; omega) (by rw [s1]; omega))

variable (m c)

theorem Φ_eq (t : Fin (cfg0.N + 1)) : (rdat m c).Φ t = iprop((∃ X, ⌜Carried (opA m c) (opG m c) t.val X⌝
    ∗ owns (c : Thread nD τ) (Memref.whole cc0_scratch0) fullShare X) ∗ ∃ r, prngReg c r) := rfl

theorem body : (rdat m c).BodyObligation defs₀ Variants.none () Set.univ := by
  intro t Y hY
  rw [Gen.bigSep_W0, Gen.bigSep_W0, defs₀_row]
  unfold Gen.bodyAt0
  have hX := finds_x m c t (Y 0) (hY 0)
  have hG : Y 1 = opG m c := finds_g m c t.val t.isLt (Y 1) (hY 1)
  rw [Φ_eq, Φ_eq, show (rdat m c).owesAt () t.succ = (rdat m c).owesAt () t.castSucc from rfl]
  iintro ⟨⟨⟨%Y8, %h8, H8⟩, Hp⟩, HO, H0, H1, H2, H3, H4, H5, H6⟩
  rw [hG]
  iapply (wp_wand_r Idealize.ShloMosaic.frame (wpE (defs₀ (F := F)) Variants.none (c : Thread nD τ) none) Set.univ)
  isplitl [H0 H1 H2 H3 H4 H5 H6 H8]
  · iapply (point c (grid0.coords t) (win0_0.stage (cfg0.slots t 0)) _ (win0_1.stage (cfg0.slots t 1)) _ (win0_2.stage (cfg0.slots t 2)) _
      (win0_3.stage (cfg0.slots t 3)) _ (win0_4.stage (cfg0.slots t 4)) _ (win0_5.stage (cfg0.slots t 5)) _ (win0_6.stage (cfg0.slots t 6)) _
      (Memref.whole cc0_scratch0) _ (opA m c) (opG m c) (Y 0) hX (Y 2) (Y 3) (Y 4) (Y 5) (Y 6) Y8)
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H8
  · unfold Held
    iintro %_ ⟨%X3, %X4, %X5, %X6, %X7, %X8, %hL, H0, H1, H2, H3, H4, H5, H6, H8⟩
    isplitl [H8 Hp]
    · isplitl [H8]
      · iexists X8; isplitr; · ipureintro; exact carried_succ hL h8
        iexact H8
      · iexact Hp
    isplitl [HO]; · iexact HO
    isplitl [H0]
    · iexists Y 0; isplitr; · ipureintro; exact rfl
      iexact H0
    isplitl [H1]
    · iexists opG m c; isplitr; · ipureintro; exact rfl
      iexact H1
    isplitl [H2]
    · iexists X3; isplitr; · ipureintro; exact hL.rc
      iexact H2
    isplitl [H3]
    · iexists X4; isplitr; · ipureintro; exact hL.rs
      iexact H3
    isplitl [H4]
    · iexists X5; isplitr; · ipureintro; exact hL.cc
      iexact H4
    isplitl [H5]
    · iexists X6; isplitr; · ipureintro; exact copied_of hL h8
      iexact H5
    iexists X7; isplitr
    · ipureintro
      exact fun y => ⟨fun e => hL.sig y (by rw [coords_val]; exact e), fun e => hL.sig_other y (by rw [coords_val]; exact e)⟩
    iexact H6

/-- Before the first point the carried scales are anything, and after the last they are forgotten. -/
theorem enter : Pipeline.ΦA spec0 c ⊢ (rdat m c).Φ 0 := by
  unfold Pipeline.ΦA
  rw [scopedRest0_eq, Φ_eq]
  iintro ⟨⟨%f, H⟩, Hp⟩
  isplitl [H]
  · iexists f
    isplitr; · ipureintro; intro y hy; exact absurd hy (by show ¬ (y 1).val < 0; omega)
    rw [owns_whole]; iexact H
  · iexact Hp

theorem leave : (rdat m c).Φ (Fin.last cfg0.N) ⊢ Pipeline.ΦA spec0 c := by
  unfold Pipeline.ΦA
  rw [scopedRest0_eq, Φ_eq]
  iintro ⟨⟨%f, -, H⟩, Hp⟩
  isplitl [H]
  · iexists f
    iapply (Entails.of_eq (owns_whole (c : Thread nD τ) cc0_scratch0 fullShare f)) $$ H
  · iexact Hp

/-- The run: every result array at what the write-backs leave, every other buffer kept, every semaphore at zero. -/
theorem run : θ_run defs (onTc (τ := τ) (main (F := F))) (s₀ m ρ) fun r => RDat.FramePost cfg0 (rdat m) (V m) r ∧ r.2.sem = fun _ => 0 :=
  RDat.θ_run_frame_track cfgs 0 launch0 defs₀ Variants.none (rdat m) m ρ main (body m) (fun c w => by unfold RDat.share; split <;> rfl) (fun _ _ => rfl)
    (V m) (hmain m Variants.none) (fun _ _ => rfl) (enter m) (leave m) _ fun _ h => h

/-- The arguments end as they began. -/
theorem args {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

end Cert.KernelIdeal.Hand

end
-- ==== Proof.Final.lean ====
/- The result arrays after the run, as the whole-operand functions. -/
module

public import proofs.«01_k».proof.Proof.Run
public import Idealize.ShloMosaic.Lib.Pipeline.ArrRel
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA
open Idealize.SL.Sem
open Idealize.ShloMosaic.Pipeline (RDat)
open Cert.KernelIdeal Cert.KernelIdeal.Gen

variable {F : FTy → Type} [FloatOps F] [Named F]

variable (m : (ℓ : Loc nD τ sig) → Buf (Elt F) ℓ)

theorem idx_toNat (t : Fin grid0.N) : (BitVec.ofNat 32 (grid0.coords t 0).val).toNat = t.val := by
  have := lt_of_lt_of_eq t.isLt N_0
  rw [coords_val, BitVec.toNat_ofNat, Nat.mod_eq_of_lt (by omega)]

theorem idx5 : ∀ t : Fin grid0.N, cc0_transform_5 (grid0.coords t) = ![0, t.val / 32] := by decide +kernel

theorem xsize5 : ∀ t : Fin grid0.N, win0_5.xsize (grid0.coords t) 0 = 3456 ∧ win0_5.xsize (grid0.coords t) 1 = min 128 (416 - 128 * (t.val / 32)) := by decide +kernel

variable {m} {r : PUnit × MemSt nD τ sig (Elt F)} (h : RDat.FramePost cfg0 (rdat m) (V m) r) (c : Dev nD)

include h

theorem final_rc : r.2.mem ((c.tc : Thread nD τ).loc main_v3_0) = rcode (opA m c) (opG m c) := by
  obtain ⟨after, hL, hA⟩ := h.exists_exact c
  refine (hA 2).trans (funext fun i => Pipeline.Dat.arrAt_forall_of_cover _ 2 (fun i v => v = rcode (opA m c) (opG m c) i) (fun t hf y => ?_) (fun i => ?_) i)
  · obtain ⟨Y, -, hX⟩ := hL 2 t hf
    refine (congrFun (show after 2 t = fun z : S512x3456.Idx => rcode (opA m c) (opG m c) (ix2 (row (grid0.coords t) (z 0)) (z 1)) from hX) y).trans ?_
    show rcode _ _ _ = rcode _ _ ((win0_2.rect t).emb y)
    congr 1
    funext a
    apply Fin.ext
    rw [Pipeline.Window.rect_emb_val win0_2 t _ _ rfl]
    match a with
    | ⟨0, _⟩ =>
      show 512 * (grid0.coords t 0).val + (y 0).val = (BitVec.ofNat 32 (grid0.coords t 0).val).toNat * 512 + (y 0).val
      rw [idx_toNat, coords_val]; omega
    | ⟨1, _⟩ => show (y 1).val = 0 * 3456 + (y 1).val; omega
  · have h0 : (i 0).val < 53248 := (i 0).isLt
    have h1 : (i 1).val < 3456 := (i 1).isLt
    have ht : (i 0).val / 512 < grid0.N := by rw [N_0]; omega
    refine ⟨⟨(i 0).val / 512, ht⟩, flush0_2 _, (Pipeline.Window.emb_mem_blk_iff win0_2 _ i rfl).mpr fun a => ?_⟩
    match a with
    | ⟨0, _⟩ =>
      show (BitVec.ofNat 32 (grid0.coords _ 0).val).toNat * 512 ≤ (i 0).val ∧ (i 0).val < (BitVec.ofNat 32 (grid0.coords _ 0).val).toNat * 512 + 512
      rw [idx_toNat]; show (i 0).val / 512 * 512 ≤ (i 0).val ∧ (i 0).val < (i 0).val / 512 * 512 + 512; omega
    | ⟨1, _⟩ => show 0 * 3456 ≤ (i 1).val ∧ (i 1).val < 0 * 3456 + 3456; omega

theorem final_rs : r.2.mem ((c.tc : Thread nD τ).loc main_v3_1) = rscale (opA m c) (opG m c) := by
  obtain ⟨after, hL, hA⟩ := h.exists_exact c
  refine (hA 3).trans (funext fun i => Pipeline.Dat.arrAt_forall_of_cover _ 3 (fun i v => v = rscale (opA m c) (opG m c) i) (fun t hf y => ?_) (fun i => ?_) i)
  · obtain ⟨Y, -, hX⟩ := hL 3 t hf
    refine (congrFun (show after 3 t = fun z : S512x27.Idx => rscale (opA m c) (opG m c) (ix2 (row (grid0.coords t) (z 0)) (z 1)) from hX) y).trans ?_
    show rscale _ _ _ = rscale _ _ ((win0_3.rect t).emb y)
    congr 1
    funext a
    apply Fin.ext
    rw [Pipeline.Window.rect_emb_val win0_3 t _ _ rfl]
    match a with
    | ⟨0, _⟩ =>
      show 512 * (grid0.coords t 0).val + (y 0).val = (BitVec.ofNat 32 (grid0.coords t 0).val).toNat * 512 + (y 0).val
      rw [idx_toNat, coords_val]; omega
    | ⟨1, _⟩ => show (y 1).val = 0 * 27 + (y 1).val; omega
  · have h0 : (i 0).val < 53248 := (i 0).isLt
    have h1 : (i 1).val < 27 := (i 1).isLt
    have ht : (i 0).val / 512 < grid0.N := by rw [N_0]; omega
    refine ⟨⟨(i 0).val / 512, ht⟩, flush0_3 _, (Pipeline.Window.emb_mem_blk_iff win0_3 _ i rfl).mpr fun a => ?_⟩
    match a with
    | ⟨0, _⟩ =>
      show (BitVec.ofNat 32 (grid0.coords _ 0).val).toNat * 512 ≤ (i 0).val ∧ (i 0).val < (BitVec.ofNat 32 (grid0.coords _ 0).val).toNat * 512 + 512
      rw [idx_toNat]; show (i 0).val / 512 * 512 ≤ (i 0).val ∧ (i 0).val < (i 0).val / 512 * 512 + 512; omega
    | ⟨1, _⟩ => show 0 * 27 ≤ (i 1).val ∧ (i 1).val < 0 * 27 + 27; omega

theorem final_cc : r.2.mem ((c.tc : Thread nD τ).loc main_v3_2) = ccode (opA m c) (opG m c) := by
  obtain ⟨after, hL, hA⟩ := h.exists_exact c
  refine (hA 4).trans (funext fun i => Pipeline.Dat.arrAt_forall_of_cover _ 4 (fun i v => v = ccode (opA m c) (opG m c) i) (fun t hf y => ?_) (fun i => ?_) i)
  · obtain ⟨Y, -, hX⟩ := hL 4 t hf
    refine (congrFun (show after 4 t = fun z : S3456x512.Idx => ccode (opA m c) (opG m c) (ix2 (z 0) (row (grid0.coords t) (z 1))) from hX) y).trans ?_
    show ccode _ _ _ = ccode _ _ ((win0_4.rect t).emb y)
    congr 1
    funext a
    apply Fin.ext
    rw [Pipeline.Window.rect_emb_val win0_4 t _ _ rfl]
    match a with
    | ⟨0, _⟩ => show (y 0).val = 0 * 3456 + (y 0).val; omega
    | ⟨1, _⟩ =>
      show 512 * (grid0.coords t 0).val + (y 1).val = (BitVec.ofNat 32 (grid0.coords t 0).val).toNat * 512 + (y 1).val
      rw [idx_toNat, coords_val]; omega
  · have h0 : (i 0).val < 3456 := (i 0).isLt
    have h1 : (i 1).val < 53248 := (i 1).isLt
    have ht : (i 1).val / 512 < grid0.N := by rw [N_0]; omega
    refine ⟨⟨(i 1).val / 512, ht⟩, flush0_4 _, (Pipeline.Window.emb_mem_blk_iff win0_4 _ i rfl).mpr fun a => ?_⟩
    match a with
    | ⟨0, _⟩ => show 0 * 3456 ≤ (i 0).val ∧ (i 0).val < 0 * 3456 + 3456; omega
    | ⟨1, _⟩ =>
      show (BitVec.ofNat 32 (grid0.coords _ 0).val).toNat * 512 ≤ (i 1).val ∧ (i 1).val < (BitVec.ofNat 32 (grid0.coords _ 0).val).toNat * 512 + 512
      rw [idx_toNat]; show (i 1).val / 512 * 512 ≤ (i 1).val ∧ (i 1).val < (i 1).val / 512 * 512 + 512; omega

theorem final_sig : r.2.mem ((c.tc : Thread nD τ).loc main_v3_4) = sigs (opA m c) := by
  obtain ⟨after, hL, hA⟩ := h.exists_exact c
  refine (hA 6).trans (funext fun i => Pipeline.Dat.arrAt_forall_of_cover _ 6 (fun i v => v = sigs (opA m c) i) (fun t hf y => ?_) (fun i => ?_) i)
  · have ht := (flush0_6 t).mp hf
    have h0 : (y 0).val < 416 := (y 0).isLt
    have hN := lt_of_lt_of_eq t.isLt N_0
    refine (leaves_sig m c t.val t.isLt (after 6 t) (hL 6 t hf) y (by omega)).trans ?_
    show sigs _ _ = sigs _ ((win0_6.rect t).emb y)
    congr 1
    funext a
    apply Fin.ext
    rw [Pipeline.Window.rect_emb_val win0_6 t _ _ rfl]
    match a with
    | ⟨0, _⟩ => show (y 0).val = 0 * 416 + (y 0).val; omega
    | ⟨1, _⟩ => show (y 1).val = 0 * 128 + (y 1).val; omega
  · have h0 : (i 0).val < 416 := (i 0).isLt
    have h1 : (i 1).val < 128 := (i 1).isLt
    refine ⟨⟨103, by rw [show cfg0.N = 104 from N_0]; omega⟩, (flush0_6 _).mpr rfl, (Pipeline.Window.emb_mem_blk_iff win0_6 _ i rfl).mpr fun a => ?_⟩
    match a with
    | ⟨0, _⟩ => show 0 * 416 ≤ (i 0).val ∧ (i 0).val < 0 * 416 + 416; omega
    | ⟨1, _⟩ => show 0 * 128 ≤ (i 1).val ∧ (i 1).val < 0 * 128 + 128; omega

theorem final_cs : r.2.mem ((c.tc : Thread nD τ).loc main_v3_3) = cscale (opA m c) (opG m c) := by
  obtain ⟨after, hL, hA⟩ := h.exists_exact c
  refine (hA 5).trans (funext fun i => Pipeline.Dat.arrAt_forall_of_cover _ 5 (fun i v => v = cscale (opA m c) (opG m c) i) (fun t hf y => ?_) (fun i => ?_) i)
  · obtain ⟨Y, -, hX⟩ := hL 5 t hf
    have ht := (flush5_iff t).mp hf
    have hN := lt_of_lt_of_eq t.isLt N_0
    have hX' : CopiedAt (opA m c) (opG m c) t.val (after 5 t) := hX
    have e0 : ((win0_5.rect t).emb y 0).val = (y 0).val := by
      rw [Pipeline.Window.rect_emb_val win0_5 t _ _ rfl]
      show cc0_transform_5 (grid0.coords t) 0 * 3456 + (y 0).val = (y 0).val
      rw [idx5]; show 0 * 3456 + (y 0).val = (y 0).val; omega
    have e1 : ((win0_5.rect t).emb y 1).val = 128 * (t.val / 32) + (y 1).val := by
      rw [Pipeline.Window.rect_emb_val win0_5 t _ _ rfl]
      show cc0_transform_5 (grid0.coords t) 1 * 128 + (y 1).val = 128 * (t.val / 32) + (y 1).val
      rw [idx5]; show t.val / 32 * 128 + (y 1).val = 128 * (t.val / 32) + (y 1).val; omega
    have hb : ((win0_5.rect t).emb y 1).val < 416 := ((win0_5.rect t).emb y 1).isLt
    have hy : (y 1).val < 128 := (win0_5.xinj (grid0.coords t) y 1).isLt
    exact hX' ht (win0_5.xinj (grid0.coords t) y) (by show (y 1).val < _; omega) ((win0_5.rect t).emb y) e0 e1
  · have h0 : (i 0).val < 3456 := (i 0).isLt
    have h1 : (i 1).val < 416 := (i 1).isLt
    have ht : min (32 * ((i 1).val / 128) + 31) 103 < cfg0.N := by rw [show cfg0.N = 104 from N_0]; omega
    refine ⟨⟨min (32 * ((i 1).val / 128) + 31) 103, ht⟩, (flush5_iff _).mpr (by show min (32 * ((i 1).val / 128) + 31) 103 % 32 = 31 ∨ min (32 * ((i 1).val / 128) + 31) 103 = 103; omega),
      (Pipeline.Window.emb_mem_blk_iff win0_5 _ i rfl).mpr fun a => ?_⟩
    have hq : min (32 * ((i 1).val / 128) + 31) 103 / 32 = (i 1).val / 128 := by omega
    match a with
    | ⟨0, _⟩ =>
      show cc0_transform_5 (grid0.coords ⟨min (32 * ((i 1).val / 128) + 31) 103, ht⟩) 0 * 3456 ≤ (i 0).val ∧ (i 0).val < cc0_transform_5 (grid0.coords ⟨min (32 * ((i 1).val / 128) + 31) 103, ht⟩) 0 * 3456 + win0_5.xsize (grid0.coords ⟨min (32 * ((i 1).val / 128) + 31) 103, ht⟩) 0
      rw [idx5, (xsize5 _).1]; show 0 * 3456 ≤ (i 0).val ∧ (i 0).val < 0 * 3456 + 3456; omega
    | ⟨1, _⟩ =>
      show cc0_transform_5 (grid0.coords ⟨min (32 * ((i 1).val / 128) + 31) 103, ht⟩) 1 * 128 ≤ (i 1).val ∧ (i 1).val < cc0_transform_5 (grid0.coords ⟨min (32 * ((i 1).val / 128) + 31) 103, ht⟩) 1 * 128 + win0_5.xsize (grid0.coords ⟨min (32 * ((i 1).val / 128) + 31) 103, ht⟩) 1
      rw [idx5, (xsize5 _).2]
      show min (32 * ((i 1).val / 128) + 31) 103 / 32 * 128 ≤ (i 1).val
        ∧ (i 1).val < min (32 * ((i 1).val / 128) + 31) 103 / 32 * 128 + min 128 (416 - 128 * (min (32 * ((i 1).val / 128) + 31) 103 / 32))
      rw [hq]; omega

end Cert.KernelIdeal.Hand

end
-- ==== Proof.Scale.lean ====
/-
  The power-of-two scale of a group, over the extended reals. The reference writes it with a logarithm: for the group's greatest
  magnitude over 448, `p`, the exponent is `⌊log p / log 2⌋ + 1`, and 0 below the smallest normal number `2⁻¹²⁶`; the scale is 2 to
  that exponent and its inverse 2 to minus it (`scale`, `inv`). The kernel counts the float32 powers of two not above `p` and puts the
  count into an exponent field (`countWord`, `expWord`). For `0 ≤ p < 2¹²⁶` the two agree: `scale_eq`.
-/
module

public import Idealize.ShloMosaic.PureOps.Ideal
public import Idealize.ShloMosaic.PureOps.Ideal.Laws
public import Mathlib.Analysis.SpecialFunctions.Pow.Real
public import Mathlib.Analysis.SpecialFunctions.Log.Basic

@[expose] public section

noncomputable section

namespace Cert.Quant

open Idealize.ShloMosaic

/-- The exponent of the scale of a group whose greatest magnitude over 448 is `p`. -/
def expo (p : EReal) : EReal :=
  if p < (((2 : ℝ) ^ (-126 : ℤ) : ℝ) : EReal) then 0
  else Ideal.liftRound Int.floor (Ideal.div (Ideal.log p) (Ideal.log ((2 : ℝ) : EReal))) + 1

def scale (p : EReal) : EReal := Ideal.exp2 (expo p)
def inv (p : EReal) : EReal := Ideal.exp2 (0 - expo p)

/-- The float32 whose exponent field is `k`, sign and fraction zero. -/
def field (k : BitVec 32) : EReal := Ideal.ofBits .f32 (k <<< 23)

theorem field_zero : field 0#32 = 0 := by
  simp [field, Ideal.ofBits, Ideal.ieee]

theorem field_top : field 255#32 = ⊤ := by
  simp [field, Ideal.ofBits, Ideal.ieee]

theorem field_normal (k : ℕ) (h0 : 0 < k) (h1 : k < 255) : field (BitVec.ofNat 32 k) = (((2 : ℝ) ^ ((k : ℤ) - 127) : ℝ) : EReal) := by
  have e : ((BitVec.ofNat 32 k <<< 23).extractLsb' 23 8).toNat = k := by
    rw [BitVec.extractLsb'_toNat, BitVec.toNat_shiftLeft, BitVec.toNat_ofNat, Nat.shiftLeft_eq, Nat.shiftRight_eq_div_pow]
    omega
  have f : ((BitVec.ofNat 32 k <<< 23).extractLsb' 0 23).toNat = 0 := by
    rw [BitVec.extractLsb'_toNat, BitVec.toNat_shiftLeft, BitVec.toNat_ofNat, Nat.shiftLeft_eq, Nat.shiftRight_eq_div_pow]
    omega
  have s : ((BitVec.ofNat 32 k <<< 23).extractLsb' (8 + 23) 1 == 1#1) = false := by
    have : ((BitVec.ofNat 32 k <<< 23).extractLsb' (8 + 23) 1).toNat = 0 := by
      rw [BitVec.extractLsb'_toNat, BitVec.toNat_shiftLeft, BitVec.toNat_ofNat, Nat.shiftLeft_eq, Nat.shiftRight_eq_div_pow]
      omega
    rw [beq_eq_false_iff_ne]
    intro hh
    rw [hh] at this
    exact absurd this (by decide)
  have h : field (BitVec.ofNat 32 k) = (((1 : ℝ) * ((2 ^ 23 + 0 : ℕ) : ℝ) * (2 : ℝ) ^ ((k : ℤ) - (2 ^ (8 - 1) - 1) - (23 : ℕ)) : ℝ) : EReal) := by
    unfold field Ideal.ofBits Ideal.ieee
    simp only [e, f, s]
    rw [if_neg (by omega), if_neg (by omega), if_neg (by decide)]
  have g : ((2 ^ 23 + 0 : ℕ) : ℝ) = (2 : ℝ) ^ (23 : ℤ) := by norm_num
  rw [h, one_mul, g, ← zpow_add₀ (by norm_num)]
  have : (23 : ℤ) + ((k : ℤ) - (2 ^ (8 - 1) - 1) - (23 : ℕ)) = (k : ℤ) - 127 := by norm_num
  rw [this]

/-- The number of the first 256 exponent fields whose float32 is at most `p`. -/
def count (p : EReal) : ℕ := ∑ k : Fin 256, if field (BitVec.ofNat 32 k.val) ≤ p then 1 else 0

theorem field_le_iff (p : ℝ) (b : ℕ) (h0 : 0 ≤ p) (hb : b < 254) (hlo : b = 0 ∨ (2 : ℝ) ^ ((b : ℤ) - 127) ≤ p)
    (hhi : p < (2 : ℝ) ^ ((b : ℤ) - 126)) (k : ℕ) (hk : k < 256) : field (BitVec.ofNat 32 k) ≤ (p : EReal) ↔ k < b + 1 := by
  rcases Nat.eq_zero_or_pos k with rfl | hpos
  · rw [field_zero]
    exact ⟨fun _ => by omega, fun _ => by exact_mod_cast h0⟩
  by_cases h255 : k = 255
  · subst h255
    rw [field_top]
    simp only [top_le_iff, EReal.coe_ne_top, false_iff]
    omega
  rw [field_normal k hpos (by omega), EReal.coe_le_coe_iff]
  constructor
  · intro h
    have h2 := h.trans_lt hhi
    have := (zpow_lt_zpow_iff_right₀ (by norm_num : (1 : ℝ) < 2)).1 h2
    omega
  · intro h
    rcases hlo with rfl | hlo
    · omega
    · exact ((zpow_le_zpow_iff_right₀ (by norm_num : (1 : ℝ) < 2)).2 (by omega)).trans hlo

theorem count_eq (p : ℝ) (b : ℕ) (h0 : 0 ≤ p) (hb : b < 254) (hlo : b = 0 ∨ (2 : ℝ) ^ ((b : ℤ) - 127) ≤ p)
    (hhi : p < (2 : ℝ) ^ ((b : ℤ) - 126)) : count p = b + 1 := by
  unfold count
  simp only [field_le_iff p b h0 hb hlo hhi _ (Fin.isLt _)]
  rw [Finset.sum_ite, Finset.sum_const_zero, add_zero, Finset.sum_const, smul_eq_mul, mul_one,
    Fin.card_filter_val_lt]
  omega

/-- The kernel's exponent word from the count. -/
def expWord (n : BitVec 32) : BitVec 32 := if n - 1#32 = 0#32 then 0#32 else n - 1#32 - 126#32

theorem exists_binade (p : ℝ) (hlo : (2 : ℝ) ^ (-126 : ℤ) ≤ p) (hhi : p < (2 : ℝ) ^ (126 : ℤ)) :
    ∃ b : ℕ, 0 < b ∧ b < 253 ∧ (2 : ℝ) ^ ((b : ℤ) - 127) ≤ p ∧ p < (2 : ℝ) ^ ((b : ℤ) - 126) := by
  have hp : 0 < p := lt_of_lt_of_le (by positivity) hlo
  obtain ⟨m, h1, h2⟩ := exists_mem_Ico_zpow hp (by norm_num : (1 : ℝ) < 2)
  have a1 : (-126 : ℤ) < m + 1 := (zpow_lt_zpow_iff_right₀ (by norm_num : (1 : ℝ) < 2)).1 (hlo.trans_lt h2)
  have a2 : m < 126 := (zpow_lt_zpow_iff_right₀ (by norm_num : (1 : ℝ) < 2)).1 (h1.trans_lt hhi)
  refine ⟨(m + 127).toNat, by omega, by omega, ?_, ?_⟩
  · rw [show (((m + 127).toNat : ℕ) : ℤ) - 127 = m by omega]; exact h1
  · rw [show (((m + 127).toNat : ℕ) : ℤ) - 126 = m + 1 by omega]; exact h2

theorem floor_log (p : ℝ) (m : ℤ) (hlo : (2 : ℝ) ^ m ≤ p) (hhi : p < (2 : ℝ) ^ (m + 1)) : ⌊Real.log p / Real.log 2⌋ = m := by
  have hp : 0 < p := lt_of_lt_of_le (by positivity) hlo
  have h2 : 0 < Real.log 2 := Real.log_pos (by norm_num)
  rw [Int.floor_eq_iff]
  constructor
  · rw [le_div_iff₀ h2, ← Real.log_zpow]
    exact Real.log_le_log (by positivity) hlo
  · rw [div_lt_iff₀ h2, show ((m : ℝ) + 1) = ((m + 1 : ℤ) : ℝ) by push_cast; ring, ← Real.log_zpow]
    exact Real.log_lt_log hp hhi

theorem expo_small (p : ℝ) (h : p < (2 : ℝ) ^ (-126 : ℤ)) : expo p = 0 := by
  unfold expo
  rw [if_pos (by exact_mod_cast h)]

theorem expo_normal (p : ℝ) (m : ℤ) (hm : -126 ≤ m) (hlo : (2 : ℝ) ^ m ≤ p) (hhi : p < (2 : ℝ) ^ (m + 1)) :
    expo p = (((m + 1 : ℤ) : ℝ) : EReal) := by
  have hp : 0 < p := lt_of_lt_of_le (by positivity) hlo
  have hge : ¬ p < (2 : ℝ) ^ (-126 : ℤ) := not_lt.2 (((zpow_le_zpow_iff_right₀ (by norm_num : (1 : ℝ) < 2)).2 hm).trans hlo)
  have h2 : Real.log 2 ≠ 0 := (Real.log_pos (by norm_num)).ne'
  unfold expo
  rw [if_neg (by rw [EReal.coe_lt_coe_iff]; exact hge), Ideal.log_coe, Ideal.log_coe, if_neg (not_le.2 hp), if_neg (by norm_num)]
  have hd : Ideal.div ((Real.log p : ℝ) : EReal) ((Real.log 2 : ℝ) : EReal) = ((Real.log p / Real.log 2 : ℝ) : EReal) := by
    rw [Ideal.div_coe h2, ← EReal.coe_mul, mul_one_div]
  rw [hd]
  show (((⌊Real.log p / Real.log 2⌋ : ℤ) : ℝ) : EReal) + 1 = _
  rw [floor_log p m hlo hhi]
  push_cast
  rfl

theorem exp2_int (m : ℤ) : Ideal.exp2 ((m : ℝ) : EReal) = (((2 : ℝ) ^ m : ℝ) : EReal) := by
  rw [Ideal.exp2_coe]
  congr 1
  exact Real.rpow_intCast 2 m

/-- The kernel's two words are the scale and its inverse, of a finite group below `2¹²⁶`. -/
theorem scale_eq (p : ℝ) (h0 : 0 ≤ p) (h1 : p < (2 : ℝ) ^ (126 : ℤ)) (n : BitVec 32) (hn : n.toNat = count p) :
    field (expWord n + 127#32) = scale p ∧ field (127#32 - expWord n) = inv p := by
  by_cases hs : p < (2 : ℝ) ^ (-126 : ℤ)
  · have hc : count p = 0 + 1 := count_eq p 0 h0 (by norm_num) (.inl rfl) (by simpa using hs)
    have : n = 1#32 := BitVec.eq_of_toNat_eq (by rw [hn, hc]; rfl)
    subst this
    unfold scale inv
    rw [expo_small p hs, sub_zero, show (expWord 1#32 + 127#32) = BitVec.ofNat 32 127 by decide,
      show (127#32 - expWord 1#32) = BitVec.ofNat 32 127 by decide, field_normal 127 (by norm_num) (by norm_num)]
    have := exp2_int 0
    simp only [Int.cast_zero, EReal.coe_zero, zpow_zero] at this
    rw [this]
    norm_num
  · obtain ⟨b, b0, b1, hlo, hhi⟩ := exists_binade p (not_lt.1 hs) h1
    have hc : count p = b + 1 := count_eq p b h0 (by omega) (.inr hlo) hhi
    have hn' : n = BitVec.ofNat 32 (b + 1) := BitVec.eq_of_toNat_eq (by rw [hn, hc, BitVec.toNat_ofNat]; omega)
    subst hn'
    have he := expo_normal p ((b : ℤ) - 127) (by omega) hlo (by rw [show (b : ℤ) - 127 + 1 = b - 126 by ring]; exact hhi)
    have hb : BitVec.ofNat 32 (b + 1) - 1#32 = BitVec.ofNat 32 b := by
      apply BitVec.eq_of_toNat_eq
      rw [BitVec.toNat_sub, BitVec.toNat_ofNat, BitVec.toNat_ofNat, BitVec.toNat_ofNat]; omega
    have hne : ¬ BitVec.ofNat 32 b = 0#32 := by
      intro h
      have := congrArg BitVec.toNat h
      rw [BitVec.toNat_ofNat, BitVec.toNat_ofNat] at this
      omega
    have w1 : expWord (BitVec.ofNat 32 (b + 1)) + 127#32 = BitVec.ofNat 32 (b + 1) := by
      unfold expWord
      rw [hb, if_neg hne]
      apply BitVec.eq_of_toNat_eq
      rw [BitVec.toNat_add, BitVec.toNat_sub, BitVec.toNat_ofNat, BitVec.toNat_ofNat, BitVec.toNat_ofNat, BitVec.toNat_ofNat]; omega
    have w2 : 127#32 - expWord (BitVec.ofNat 32 (b + 1)) = BitVec.ofNat 32 (253 - b) := by
      unfold expWord
      rw [hb, if_neg hne]
      apply BitVec.eq_of_toNat_eq
      rw [BitVec.toNat_sub, BitVec.toNat_sub, BitVec.toNat_ofNat, BitVec.toNat_ofNat, BitVec.toNat_ofNat, BitVec.toNat_ofNat]; omega
    unfold scale inv
    rw [he, w1, w2, field_normal (b + 1) (by omega) (by omega), field_normal (253 - b) (by omega) (by omega), zero_sub,
      ← EReal.coe_neg, ← Int.cast_neg, exp2_int, exp2_int]
    rw [show ((b + 1 : ℕ) : ℤ) - 127 = (b : ℤ) - 127 + 1 by omega, show ((253 - b : ℕ) : ℤ) - 127 = -((b : ℤ) - 127 + 1) by omega]
    exact ⟨rfl, rfl⟩

end Cert.Quant

end
-- ==== Proof.Spec.lean ====
/-
  What both programs compute, over the extended reals: a row divided by its root mean square and weighted (`normed`), the greatest
  magnitude of a group over 448 (`peak`), and the clipped quotient (`code`). With finite weights the peak of normed values is a real
  number between 0 and `2¹²⁶` whatever the rows hold (`peak_normed`): an entry is at most the root of 3456 times its row's root mean
  square, and a row with an infinite entry is scaled to zero.
-/
module

public import proofs.«01_k».proof.Proof.Scale

@[expose] public section

noncomputable section

namespace Cert.Quant

open Idealize.ShloMosaic

/-- The reciprocal of a row's root mean square. -/
def root (x : Fin 3456 → EReal) : EReal :=
  Ideal.rsqrt ((∑ c, x c * x c) * ((1 / 3456 : ℝ) : EReal) + Ideal.ofBits .f32 0x3727C5AC#32)

def normed (x γ : Fin 3456 → EReal) (c : Fin 3456) : EReal := x c * root x * γ c

/-- The greatest magnitude of a group over 448. -/
def peak (f : Fin 128 → EReal) : EReal :=
  (Finset.univ.fold max (Ideal.ofBits .f32 0xFF800000#32) fun k => max (f k) (-(f k))) * Ideal.ofBits .f32 0x3B124925#32

def code (y s : EReal) : EReal := min (Ideal.ofBits .f32 0x43E00000#32) (max (Ideal.ofBits .f32 0xC3E00000#32) (y * s))

/-! ## The constants -/

theorem bot_bits : Ideal.ofBits .f32 0xFF800000#32 = ⊥ := by simp [Ideal.ofBits, Ideal.ieee]

theorem eps_pos : ∃ e : ℝ, Ideal.ofBits .f32 0x3727C5AC#32 = (e : EReal) ∧ 0 < e := by
  refine ⟨_, by simp [Ideal.ofBits, Ideal.ieee]; rfl, ?_⟩
  positivity

theorem part_bits : ∃ e : ℝ, Ideal.ofBits .f32 0x3B124925#32 = (e : EReal) ∧ 0 < e ∧ e ≤ 1 / 400 := by
  refine ⟨_, by simp [Ideal.ofBits, Ideal.ieee]; rfl, ?_, ?_⟩
  · positivity
  · norm_num

/-! ## The bound -/

theorem real_of_abs_le (x : EReal) (M : ℝ) (h : max x (-x) ≤ (M : EReal)) : ∃ r : ℝ, x = (r : EReal) ∧ |r| ≤ M := by
  have hx := (le_max_left x (-x)).trans h
  have hn := (le_max_right x (-x)).trans h
  induction x with
  | bot => exact absurd hn (by simp)
  | top => exact absurd hx (by simp)
  | coe r =>
    refine ⟨r, rfl, abs_le.2 ⟨?_, by exact_mod_cast hx⟩⟩
    rw [← EReal.coe_neg, EReal.coe_le_coe_iff] at hn
    linarith

theorem sq_nonneg' (x : EReal) : 0 ≤ x * x := by
  induction x with
  | bot => simp
  | top => simp
  | coe r => rw [← EReal.coe_mul]; exact_mod_cast mul_self_nonneg r

theorem coe_sum {n : ℕ} (a : Fin n → ℝ) : (∑ c, ((a c : ℝ) : EReal)) = ((∑ c, a c : ℝ) : EReal) := by
  induction (Finset.univ : Finset (Fin n)) using Finset.cons_induction with
  | empty => simp
  | cons i s hi ih => rw [Finset.sum_cons, Finset.sum_cons, ih, EReal.coe_add]

/-- An entry over its row's root mean square is a real number, at most 59 in magnitude. -/
theorem entry_root (x : Fin 3456 → EReal) (c : Fin 3456) : ∃ r : ℝ, x c * root x = (r : EReal) ∧ |r| ≤ 59 := by
  obtain ⟨e, he, hpos⟩ := eps_pos
  unfold root
  by_cases hfin : ∀ d, ∃ r : ℝ, x d = (r : EReal)
  · choose a ha using hfin
    have hs : (∑ d, x d * x d) = ((∑ d, a d * a d : ℝ) : EReal) := by
      rw [← coe_sum]
      exact Finset.sum_congr rfl fun d _ => by rw [ha d, EReal.coe_mul]
    have hS : 0 ≤ ∑ d, a d * a d := Finset.sum_nonneg fun d _ => mul_self_nonneg _
    have hc : a c * a c ≤ ∑ d, a d * a d := Finset.single_le_sum (f := fun d => a d * a d) (fun d _ => mul_self_nonneg _) (Finset.mem_univ c)
    have hT : 0 < (∑ d, a d * a d) * (1 / 3456) + e := by positivity
    rw [hs, he, ← EReal.coe_mul, ← EReal.coe_add, Ideal.rsqrt_coe, if_neg (not_lt.2 hT.le), if_neg hT.ne', ha c, ← EReal.coe_mul]
    refine ⟨_, rfl, ?_⟩
    rw [abs_mul, abs_inv, abs_of_nonneg (Real.sqrt_nonneg _), mul_inv_le_iff₀ (Real.sqrt_pos.2 hT)]
    have h59 : (59 : ℝ) * Real.sqrt ((∑ d, a d * a d) * (1 / 3456) + e) = Real.sqrt (59 ^ 2 * ((∑ d, a d * a d) * (1 / 3456) + e)) := by
      rw [Real.sqrt_mul (by norm_num), Real.sqrt_sq (by norm_num)]
    rw [h59]
    apply Real.abs_le_sqrt
    nlinarith
  · push Not at hfin
    obtain ⟨d, hd⟩ := hfin
    have hdd : x d * x d = ⊤ := by
      generalize x d = z at hd
      induction z with
      | bot => rfl
      | top => rfl
      | coe r => exact absurd rfl (hd r)
    have hs : (∑ d, x d * x d) = ⊤ := top_le_iff.1 (hdd ▸ Finset.single_le_sum (f := fun d => x d * x d) (fun d _ => sq_nonneg' _) (Finset.mem_univ d))
    rw [hs, EReal.top_mul_coe_of_pos (by norm_num), he, EReal.top_add_coe, Ideal.rsqrt_top, mul_zero]
    exact ⟨0, rfl, by norm_num⟩

theorem coe_max (a b : ℝ) : ((max a b : ℝ) : EReal) = max (a : EReal) (b : EReal) := EReal.coe_strictMono.monotone.map_max

/-- The greatest of finitely many magnitudes, of real numbers at most `M`. -/
theorem fold_max_le {n : ℕ} (f : Fin n → EReal) (M : ℝ) (h : ∀ k, ∃ r : ℝ, f k = (r : EReal) ∧ |r| ≤ M) (s : Finset (Fin n)) (hs : s.Nonempty) :
    ∃ q : ℝ, (s.fold max (⊥ : EReal) fun k => max (f k) (-(f k))) = (q : EReal) ∧ 0 ≤ q ∧ q ≤ M := by
  induction hs using Finset.Nonempty.cons_induction with
  | singleton i =>
    obtain ⟨r, hr, hM⟩ := h i
    refine ⟨|r|, ?_, abs_nonneg r, hM⟩
    rw [Finset.fold_singleton, hr, ← EReal.coe_neg, ← coe_max, max_bot_right]
    rfl
  | cons i s hi _ ih =>
    obtain ⟨r, hr, hM⟩ := h i
    obtain ⟨q, hq, h0, h1⟩ := ih
    refine ⟨max |r| q, ?_, le_max_of_le_left (abs_nonneg r), max_le hM h1⟩
    rw [Finset.fold_cons, hq, hr, ← EReal.coe_neg, ← coe_max, ← coe_max]
    rfl

/-- The peak of 128 normed values, of any rows and places, with weights in the range of bfloat16. -/
theorem peak_normed (x γ : Fin 128 → Fin 3456 → EReal) (c : Fin 128 → Fin 3456)
    (hγ : ∀ k, max (γ k (c k)) (-(γ k (c k))) ≤ (((2 : ℝ) ^ (128 : ℤ) : ℝ) : EReal)) :
    ∃ p : ℝ, peak (fun k => normed (x k) (γ k) (c k)) = (p : EReal) ∧ 0 ≤ p ∧ p < (2 : ℝ) ^ (126 : ℤ) := by
  obtain ⟨e, he, hpos, hle⟩ := part_bits
  obtain ⟨q, hq, h0, h1⟩ := fold_max_le (fun k => normed (x k) (γ k) (c k)) (59 * (2 : ℝ) ^ (128 : ℤ)) (fun k => by
    obtain ⟨r, hr, hr59⟩ := entry_root (x k) (c k)
    obtain ⟨g, hg, hgM⟩ := real_of_abs_le _ _ (hγ k)
    refine ⟨r * g, ?_, ?_⟩
    · unfold normed; rw [hr, hg, EReal.coe_mul]
    · rw [abs_mul]; exact mul_le_mul hr59 hgM (abs_nonneg _) (by norm_num)) Finset.univ ⟨0, Finset.mem_univ _⟩
  refine ⟨q * e, ?_, by positivity, ?_⟩
  · unfold peak; rw [bot_bits, hq, he, EReal.coe_mul]
  · have : q * e ≤ 59 * (2 : ℝ) ^ (128 : ℤ) * (1 / 400) := mul_le_mul h1 hle hpos.le (by positivity)
    refine this.trans_lt ?_
    norm_num

end Cert.Quant

end
-- ==== Proof.Values.lean ====
/-
  The kernel's tile operations read at a place, over the extended reals.
-/
module

public import proofs.«01_k».proof.Proof.Spec
public import proofs.«01_k».proof.Proof.Lists
public import Idealize.ShloMosaic.Lib.WordSum
public import Idealize.ShloMosaic.Lib.ValueLayout
public import Idealize.ShloMosaic.Lib.ValueLayoutCasts
public import Idealize.ShloMosaic.Lib.Pointwise

@[expose] public section

set_option maxRecDepth 16384

noncomputable section

namespace Cert.KernelIdeal.Hand

open Idealize.ShloMosaic Idealize.ShloMosaic.TcCoe
open Cert.KernelIdeal Cert.KernelIdeal.Gen
open Cert.Quant (root normed peak scale inv field expWord)

/-! ## The rows' norms -/

theorem ext_at (x : Vec Ideal S128x128 .bf16) (j : S128x128.Idx) : ext x j = x j := by
  unfold ext
  pointwise

theorem sqSum_at (xs : List (Vec Ideal S128x128 .bf16)) (a : FVec Ideal S128x128 .f32) (j : S128x128.Idx) :
    xs.foldl sqSum a j = a j + (xs.map fun x => x j * x j).sum := by
  induction xs generalizing a with
  | nil => simp
  | cons x xs ih =>
    rw [List.foldl_cons, ih, List.map_cons, List.sum_cons, ← add_assoc]
    congr 1
    show a j + ext x j * ext x j = _
    rw [ext_at]

theorem zeroTile_at (j : S128x128.Idx) : (zeroTile : FVec Ideal S128x128 .f32) j = 0 := Ideal.ofBits_zero_f32

/-- A sum over 27 groups of 128 columns is a sum over the columns. -/
theorem sum_groups (f : Fin 3456 → EReal) :
    ∑ k : Fin 128, ∑ g : Fin 27, f ⟨128 * g.val + k.val, by omega⟩ = ∑ c, f c := by
  rw [Finset.sum_comm, ← Fintype.sum_prod_type']
  refine Fintype.sum_equiv (finProdFinEquiv (m := 27) (n := 128)) _ _ fun p => congrArg f (Fin.ext ?_)
  show 128 * p.1.val + p.2.val = p.2.val + 128 * p.1.val
  omega

theorem sigOf_at (a : FVec Ideal S128x128 .f32) (r : Fin 128) (u : Fin 1) :
    sigOf a (ix2 r u) = Ideal.rsqrt ((∑ k : Fin 128, a (ix2 r k)) * ((1 / 3456 : ℝ) : EReal) + Ideal.ofBits .f32 0x3727C5AC#32) := by
  unfold sigOf
  pointwise
  rw [IdealRules.named_const.ideal_named_scalar _ _ _ _ rfl]

theorem sigTile_at (xs : List (Vec Ideal S128x128 .bf16)) (r k : Fin 128) :
    sigTile xs (ix2 r k) = Ideal.rsqrt ((∑ k : Fin 128, (xs.map fun x => x (ix2 r k) * x (ix2 r k)).sum) * ((1 / 3456 : ℝ) : EReal) + Ideal.ofBits .f32 0x3727C5AC#32) := by
  unfold sigTile
  pointwise
  rw [sigOf_at]
  simp only [sqSum_at, zeroTile_at, zero_add]

theorem sigRow_at (s : FVec Ideal S128x128 .f32) (u : Fin 1) (k : Fin 128) : sigRow s (ix2 u k) = s (ix2 k 0) := by
  unfold sigRow
  pointwise

theorem yTile_at (s : FVec Ideal S128x128 .f32) (x : Vec Ideal S128x128 .bf16) (g : Vec Ideal S1x128 .f32) (r k : Fin 128) :
    yTile s x g (ix2 r k) = x (ix2 r k) * s (ix2 r k) * g (ix2 0 k) := by
  unfold yTile
  pointwise [ext_at]

/-! ## The scales -/

theorem rowP_at (y : FVec Ideal S128x128 .f32) (r : Fin 128) (u : Fin 1) : rowP y (ix2 r u) = peak fun k => y (ix2 r k) := by
  unfold rowP peak
  pointwise
  rfl

theorem colP_at (y : FVec Ideal S128x128 .f32) (u : Fin 1) (k : Fin 128) : colP y (ix2 u k) = peak fun r => y (ix2 r k) := by
  unfold colP peak
  pointwise
  rfl

theorem count_fold (q : EReal) : (Finset.fold IntOp.addi (0#32) (fun x : Fin 256 => BitVec.setWidth 32 (BitVec.ofBool
    (decide (Ideal.ofBits FTy.f32 (IntOp.shli ArithUnit.vector (BitVec.ofNat 32 x.val) 23#32) ≤ q)))) Finset.univ).toNat = Quant.count q := by
  have hb (b : Bool) : (BitVec.setWidth 32 (BitVec.ofBool b)).toNat = if b then 1 else 0 := by cases b <;> rfl
  have hs : (∑ x : Fin 256, (BitVec.setWidth 32 (BitVec.ofBool (decide (field (BitVec.ofNat 32 x.val) ≤ q)))).toNat) = Quant.count q :=
    Finset.sum_congr rfl fun x _ => by rw [hb]; simp only [decide_eq_true_eq]
  have hle : Quant.count q ≤ ∑ _x : Fin 256, 1 := Finset.sum_le_sum fun x _ => by split <;> omega
  rw [← hs]
  refine WordSum.toNat_sum Finset.univ (fun x : Fin 256 => BitVec.setWidth 32 (BitVec.ofBool (decide (field (BitVec.ofNat 32 x.val) ≤ q)))) ?_
  rw [hs]
  simp only [Finset.sum_const, Finset.card_univ, Fintype.card_fin, smul_eq_mul, mul_one] at hle
  omega

theorem rowCount_at (p : FVec Ideal S128x1 .f32) (r : Fin 128) (u : Fin 1) : (rowCount p (ix2 r u)).toNat = Quant.count (p (ix2 r u)) := by
  obtain rfl : u = 0 := Subsingleton.elim _ _
  rw [← count_fold]
  unfold rowCount
  pointwise

theorem colCount_at (p : FVec Ideal S1x128 .f32) (u : Fin 1) (k : Fin 128) : (colCount p (ix2 u k)).toNat = Quant.count (p (ix2 u k)) := by
  obtain rfl : u = 0 := Subsingleton.elim _ _
  rw [← count_fold]
  unfold colCount
  pointwise

theorem exp_word (n : BitVec 32) : Scalar.select (IntOp.cmpi CmpIPredicate.eq (IntOp.subi n 1#32) 0#32) (0#32)
    (IntOp.subi (IntOp.subi n 1#32) 126#32) = expWord n := by
  unfold expWord
  by_cases h : n - 1#32 = 0#32
  · rw [if_pos h]
    show (if (BitVec.ofBool (n - 1#32 == 0#32)) = 1#1 then _ else _) = _
    rw [h]; rfl
  · rw [if_neg h]
    show (if (BitVec.ofBool (n - 1#32 == 0#32)) = 1#1 then _ else _) = _
    rw [beq_eq_false_iff_ne.2 h]; rfl

theorem rowExp_at (p : FVec Ideal S128x1 .f32) (r : Fin 128) (u : Fin 1) : rowExp p (ix2 r u) = expWord (rowCount p (ix2 r u)) := by
  rw [← exp_word]
  unfold rowExp
  pointwise

theorem colExp_at (p : FVec Ideal S1x128 .f32) (u : Fin 1) (k : Fin 128) : colExp p (ix2 u k) = expWord (colCount p (ix2 u k)) := by
  rw [← exp_word]
  unfold colExp
  pointwise

theorem rowScale_at (y : FVec Ideal S128x128 .f32) (r : Fin 128) (u : Fin 1) : rowScale y (ix2 r u) = field (rowExp (rowP y) (ix2 r u) + 127#32) := rfl
theorem rowInv_at (y : FVec Ideal S128x128 .f32) (r : Fin 128) (u : Fin 1) : rowInv y (ix2 r u) = field (127#32 - rowExp (rowP y) (ix2 r u)) := rfl
theorem colScale_at (y : FVec Ideal S128x128 .f32) (u : Fin 1) (k : Fin 128) : colScale y (ix2 u k) = field (colExp (colP y) (ix2 u k) + 127#32) := rfl
theorem colInv_at (y : FVec Ideal S128x128 .f32) (u : Fin 1) (k : Fin 128) : colInv y (ix2 u k) = field (127#32 - colExp (colP y) (ix2 u k)) := rfl

/-- With a peak in range, a row's scale and its inverse are those of the logarithm. -/
theorem row_scales (y : FVec Ideal S128x128 .f32) (r : Fin 128) (u : Fin 1)
    (h : ∃ p : ℝ, (peak fun k => y (ix2 r k)) = (p : EReal) ∧ 0 ≤ p ∧ p < (2 : ℝ) ^ (126 : ℤ)) :
    rowScale y (ix2 r u) = scale (peak fun k => y (ix2 r k)) ∧ rowInv y (ix2 r u) = inv (peak fun k => y (ix2 r k)) := by
  obtain ⟨p, hp, h0, h1⟩ := h
  rw [rowScale_at, rowInv_at, rowExp_at, hp]
  exact Quant.scale_eq p h0 h1 _ (by rw [rowCount_at, rowP_at, hp])

theorem col_scales (y : FVec Ideal S128x128 .f32) (u : Fin 1) (k : Fin 128)
    (h : ∃ p : ℝ, (peak fun r => y (ix2 r k)) = (p : EReal) ∧ 0 ≤ p ∧ p < (2 : ℝ) ^ (126 : ℤ)) :
    colScale y (ix2 u k) = scale (peak fun r => y (ix2 r k)) ∧ colInv y (ix2 u k) = inv (peak fun r => y (ix2 r k)) := by
  obtain ⟨p, hp, h0, h1⟩ := h
  rw [colScale_at, colInv_at, colExp_at, hp]
  exact Quant.scale_eq p h0 h1 _ (by rw [colCount_at, colP_at, hp])

/-! ## The codes and scales -/

theorem rowCode_at (y : FVec Ideal S128x128 .f32) (r k : Fin 128) : rowCode y (ix2 r k) = Quant.code (y (ix2 r k)) (rowInv y (ix2 r 0)) := by
  unfold rowCode code Quant.code
  pointwise

theorem colCode_at (y : FVec Ideal S128x128 .f32) (k r : Fin 128) : colCode y (ix2 k r) = Quant.code (y (ix2 r k)) (colInv y (ix2 0 k)) := by
  unfold colCode code Quant.code
  pointwise

theorem setLane_at (a : FVec Ideal S128x128 .f32) (w : ℕ) (hw : w < 128) (y : FVec Ideal S128x128 .f32) (r k : Fin 128) :
    setLane (iota .tc S128x128 32 [1] iota_S128x128_d1_w32) a (BitVec.ofNat 32 w, y) (ix2 r k) = if k.val = w then rowScale y (ix2 r 0) else a (ix2 r k) := by
  unfold setLane
  pointwise
  have hk := k.isLt
  show (if (BitVec.ofBool (BitVec.ofNat 32 k.val == BitVec.ofNat 32 w)) = 1#1 then _ else _) = _
  by_cases h : k.val = w
  · rw [if_pos h, h]; simp
  · rw [if_neg h, beq_eq_false_iff_ne.2]
    · rfl
    · intro e
      have := congrArg BitVec.toNat e
      rw [BitVec.toNat_ofNat, BitVec.toNat_ofNat] at this
      omega

theorem rowScales_at (ys : Fin 27 → FVec Ideal S128x128 .f32) (r : Fin 128) (g : Fin 27) :
    rowScales (iota .tc S128x128 32 [1] iota_S128x128_d1_w32) ((List.finRange 27).map fun g => (BitVec.ofNat 32 g.val, ys g)) (ix2 r g) = rowScale (ys g) (ix2 r 0) := by
  have key (l : List (Fin 27)) (a : FVec Ideal S128x128 .f32) (h : g ∈ l ∨ a (ix2 r ⟨g.val, by omega⟩) = rowScale (ys g) (ix2 r 0)) :
      (l.map fun g => (BitVec.ofNat 32 g.val, ys g)).foldl (setLane (iota .tc S128x128 32 [1] iota_S128x128_d1_w32)) a (ix2 r ⟨g.val, by omega⟩)
        = rowScale (ys g) (ix2 r 0) := by
    induction l generalizing a with
    | nil => exact h.resolve_left (by simp)
    | cons w l ih =>
      rw [List.map_cons, List.foldl_cons]
      refine ih _ ?_
      rw [setLane_at _ _ (by omega)]
      by_cases hw : g.val = w.val
      · right; rw [if_pos hw, Fin.ext hw]
      · rw [if_neg hw]
        rcases h with h | h
        · rcases List.mem_cons.1 h with rfl | h
          · exact absurd rfl hw
          · exact .inl h
        · exact .inr h
  rw [← key (List.finRange 27) zeroTile (.inl (List.mem_finRange g))]
  unfold rowScales
  pointwise

/-! ## The results -/

section results

variable (A : Vec Ideal S53248x3456 .bf16) (Γ : Vec Ideal S1x3456 .f32)

/-- Row `r` of the operand, and the weights. -/
abbrev xrow (r : Fin 53248) : Fin 3456 → EReal := fun c => A (ix2 r c)
abbrev wt : Fin 3456 → EReal := fun c => Γ (ix2 0 c)

/-- Row `r` normed and weighted, at column `c`. -/
abbrev Y (r : Fin 53248) (c : Fin 3456) : EReal := normed (xrow A r) (wt Γ) c

/-- The row `k` of block `b`, and the column `k` of group `g`. -/
abbrev rowAt (b : Fin 416) (k : Fin 128) : Fin 53248 := ⟨128 * b.val + k.val, by omega⟩
abbrev colAt (g : Fin 27) (k : Fin 128) : Fin 3456 := ⟨128 * g.val + k.val, by omega⟩

/-- The peak of row `r` in the column group `g`, and of column `c` in the row block `b`. -/
abbrev rowPeak (r : Fin 53248) (g : Fin 27) : EReal := peak fun k => Y A Γ r (colAt g k)
abbrev colPeak (b : Fin 416) (c : Fin 3456) : EReal := peak fun k => Y A Γ (rowAt b k) c

theorem sG_at (b : Fin 416) (r k : Fin 128) : sG A b (ix2 r k) = root (xrow A (rowAt b r)) := by
  unfold sG
  rw [sigTile_at]
  unfold root
  simp only [List.map_map]
  rw [← sum_groups fun c => xrow A (rowAt b r) c * xrow A (rowAt b r) c]
  congr 3

theorem yG_at (b : Fin 416) (g : Fin 27) (r k : Fin 128) : yG A Γ b g (ix2 r k) = Y A Γ (rowAt b r) (colAt g k) := by
  unfold yG
  rw [yTile_at, sG_at]
  rfl

variable (hΓ : ∀ c, max (wt Γ c) (-(wt Γ c)) ≤ (((2 : ℝ) ^ (128 : ℤ) : ℝ) : EReal))
include hΓ

theorem rowPeak_real (r : Fin 53248) (g : Fin 27) : ∃ p : ℝ, rowPeak A Γ r g = (p : EReal) ∧ 0 ≤ p ∧ p < (2 : ℝ) ^ (126 : ℤ) :=
  Quant.peak_normed (fun _ => xrow A r) (fun _ => wt Γ) (colAt g) fun _ => hΓ _

theorem colPeak_real (b : Fin 416) (c : Fin 3456) : ∃ p : ℝ, colPeak A Γ b c = (p : EReal) ∧ 0 ≤ p ∧ p < (2 : ℝ) ^ (126 : ℤ) :=
  Quant.peak_normed (fun k => xrow A (rowAt b k)) (fun _ => wt Γ) (fun _ => c) fun _ => hΓ _

theorem row_tile (b : Fin 416) (g : Fin 27) (r : Fin 128) :
    rowScale (yG A Γ b g) (ix2 r 0) = scale (rowPeak A Γ (rowAt b r) g) ∧ rowInv (yG A Γ b g) (ix2 r 0) = inv (rowPeak A Γ (rowAt b r) g) := by
  have e : (fun k => yG A Γ b g (ix2 r k)) = fun k => Y A Γ (rowAt b r) (colAt g k) := funext fun k => yG_at A Γ b g r k
  have := row_scales (yG A Γ b g) r 0 (by rw [e]; exact rowPeak_real A Γ hΓ (rowAt b r) g)
  rwa [e] at this

theorem col_tile (b : Fin 416) (g : Fin 27) (k : Fin 128) :
    colScale (yG A Γ b g) (ix2 0 k) = scale (colPeak A Γ b (colAt g k)) ∧ colInv (yG A Γ b g) (ix2 0 k) = inv (colPeak A Γ b (colAt g k)) := by
  have e : (fun r => yG A Γ b g (ix2 r k)) = fun r => Y A Γ (rowAt b r) (colAt g k) := funext fun r => yG_at A Γ b g r k
  have := col_scales (yG A Γ b g) 0 k (by rw [e]; exact colPeak_real A Γ hΓ b (colAt g k))
  rwa [e] at this

/-- The group a column lies in, and the block a row lies in. -/
abbrev grp (c : Fin 3456) : Fin 27 := ⟨c.val / 128, by omega⟩
abbrev blkOf (r : Fin 53248) : Fin 416 := ⟨r.val / 128, by omega⟩

omit hΓ in
theorem rowAt_blk (r : Fin 53248) : rowAt (blkOf r) ⟨r.val % 128, Nat.mod_lt _ (by decide)⟩ = r := Fin.ext (Nat.div_add_mod _ _)
omit hΓ in
theorem colAt_grp (c : Fin 3456) : colAt (grp c) ⟨c.val % 128, Nat.mod_lt _ (by decide)⟩ = c := Fin.ext (Nat.div_add_mod _ _)

theorem rcode_value (r : Fin 53248) (c : Fin 3456) : rcode A Γ (ix2 r c) = Quant.code (Y A Γ r c) (inv (rowPeak A Γ r (grp c))) := by
  refine (rowCode_at (yG A Γ (blkOf r) (grp c)) ⟨r.val % 128, Nat.mod_lt _ (by decide)⟩ ⟨c.val % 128, Nat.mod_lt _ (by decide)⟩).trans ?_
  rw [(row_tile A Γ hΓ _ _ _).2, yG_at, rowAt_blk, colAt_grp]

theorem rscale_value (r : Fin 53248) (g : Fin 27) : rscale A Γ (ix2 r g) = scale (rowPeak A Γ r g) := by
  refine (rowScales_at (fun g => yG A Γ (blkOf r) g) ⟨r.val % 128, Nat.mod_lt _ (by decide)⟩ g).trans ?_
  rw [(row_tile A Γ hΓ _ _ _).1, rowAt_blk]

theorem ccode_value (c : Fin 3456) (r : Fin 53248) : ccode A Γ (ix2 c r) = Quant.code (Y A Γ r c) (inv (colPeak A Γ (blkOf r) c)) := by
  refine (colCode_at (yG A Γ (blkOf r) (grp c)) ⟨c.val % 128, Nat.mod_lt _ (by decide)⟩ ⟨r.val % 128, Nat.mod_lt _ (by decide)⟩).trans ?_
  rw [(col_tile A Γ hΓ _ _ _).2, yG_at, rowAt_blk, colAt_grp]

theorem cscale_value (c : Fin 3456) (b : Fin 416) : cscale A Γ (ix2 c b) = scale (colPeak A Γ b c) := by
  refine (col_tile A Γ hΓ b (grp c) ⟨c.val % 128, Nat.mod_lt _ (by decide)⟩).1.trans ?_
  rw [colAt_grp]

omit hΓ in
theorem sigs_value (b : Fin 416) (k : Fin 128) : sigs A (ix2 b k) = root (xrow A (rowAt b k)) :=
  (sigRow_at (sG A b) 0 k).trans (sG_at A b k 0)

end results

end Cert.KernelIdeal.Hand

end
-- ==== Proof.PlainValues.lean ====
/-
  The reference's results, over the extended reals, as the same functions of the rows and weights as the kernel's (Spec.lean).
-/
module

public import proofs.«01_k».proof.Proof.Spec
public import proofs.«01_k».proof.Proof.Gen.ReferenceIdeal.Frame
public import Idealize.ShloMosaic.Lib.Pipeline.ValueKit.Geometry
public import Idealize.ShloMosaic.Lib.ValueLayout
public import Idealize.ShloMosaic.Lib.ValueLayoutCasts
public import Idealize.ShloMosaic.Lib.Pointwise

@[expose] public section

set_option maxRecDepth 16384

noncomputable section

namespace Cert.ReferenceIdeal.Hand

open Idealize.ShloMosaic Idealize.ShloMosaic.TcCoe
open Idealize.ShloMosaic.Pipeline (Dat)
open Cert.ReferenceIdeal Cert.ReferenceIdeal.Gen
open Cert.Quant (root normed peak scale inv expo)

/-! ## The constants -/

theorem dims_bits : Ideal.ofBits .f32 0x45580000#32 = ((3456 : ℝ) : EReal) := by
  simp [Ideal.ofBits, Ideal.ieee]; rw [← EReal.coe_mul]; norm_num
theorem two_bits : Ideal.ofBits .f32 0x40000000#32 = ((2 : ℝ) : EReal) := by
  simp [Ideal.ofBits, Ideal.ieee]; rw [← EReal.coe_mul]; norm_num
theorem one_bits : Ideal.ofBits .f32 0x3F800000#32 = 1 := by
  simp [Ideal.ofBits, Ideal.ieee]; rw [← EReal.coe_mul]; norm_num
theorem small_bits : Ideal.ofBits .f32 0x00800000#32 = (((2 : ℝ) ^ (-126 : ℤ) : ℝ) : EReal) := by
  simp [Ideal.ofBits, Ideal.ieee]; rw [← EReal.coe_mul]; norm_num

/-! ## The operations on whole arrays -/

/-- The exponents of a vector of peaks. -/
def expoV {s : Shape} (p : FVec Ideal s .f32) : FVec Ideal s .f32 :=
  select (cmpf .olt p (broadcast s (Scalar.ofBits .f32 0x00800000#32))) (broadcast s (Scalar.ofBits .f32 0x00000000#32))
    (addf (floor (divf (log p) (log (broadcast s (Scalar.ofBits .f32 0x40000000#32))))) (broadcast s (Scalar.ofBits .f32 0x3F800000#32)))

theorem expoV_at {s : Shape} (p : FVec Ideal s .f32) (j : s.Idx) : expoV p j = expo (p j) := by
  unfold expo
  rw [← small_bits, ← two_bits, ← one_bits, ← Ideal.ofBits_zero_f32]
  show Scalar.select (BitVec.ofBool (decide (p j < Ideal.ofBits .f32 0x00800000#32))) _ _ = _
  by_cases h : p j < Ideal.ofBits .f32 0x00800000#32
  · rw [if_pos h, decide_eq_true h]; rfl
  · rw [if_neg h, decide_eq_false h]; rfl

/-- The greatest magnitudes along the axes `axes`, over 448. -/
def peakV {s t : Shape} (axes : List (Fin s.rank)) (h : s.Reduces axes t) (y : FVec Ideal s .f32) : FVec Ideal t .f32 :=
  mulf (multiReduction .maximumf axes t (absf y) 0xFF800000#32 h (.inl rfl) rfl) (broadcast t (Scalar.ofBits .f32 0x3B124925#32))

theorem peak_last {a b : ℕ} (h) (y : FVec Ideal ⟨3, ![a, b, 128]⟩ .f32) (r : Fin a) (g : Fin b) :
    peakV (t := ⟨2, ![a, b]⟩) [2] h y (ix2 r g) = peak fun k => y (ix3 r g k) := by
  unfold peakV peak
  pointwise
  rfl

theorem peak_mid {a b : ℕ} (h) (y : FVec Ideal ⟨3, ![a, 128, b]⟩ .f32) (r : Fin a) (g : Fin b) :
    peakV (t := ⟨2, ![a, b]⟩) [1] h y (ix2 r g) = peak fun k => y (ix3 r k g) := by
  unfold peakV peak
  pointwise
  rfl

/-- The codes of a vector of values by a vector of inverse scales. -/
def codeV {s : Shape} (y i : FVec Ideal s .f32) : FVec Ideal s .fp8e4m3 :=
  truncf .fp8e4m3 (minimumf (broadcast s (Scalar.ofBits .f32 0x43E00000#32)) (maximumf (broadcast s (Scalar.ofBits .f32 0xC3E00000#32)) (mulf y i))) bitsLt_fp8e4m3_f32

theorem codeV_at {s : Shape} (y i : FVec Ideal s .f32) (j : s.Idx) : codeV y i j = Quant.code (y j) (i j) := rfl

theorem exp2_at {s : Shape} (e : FVec Ideal s .f32) (j : s.Idx) : exp2 e j = Ideal.exp2 (e j) := rfl

/-- The inverse scales of a vector of exponents. -/
def invV {s : Shape} (e : FVec Ideal s .f32) : FVec Ideal s .f32 := exp2 (subf (broadcast s (Scalar.ofBits .f32 0x00000000#32)) e)

theorem invV_at {s : Shape} (e : FVec Ideal s .f32) (j : s.Idx) : invV e j = Ideal.exp2 (0 - e j) := by
  rw [← Ideal.ofBits_zero_f32]; rfl

/-! ## The groups of rows and of columns -/

/-- The group a column lies in and its place there; the block a row lies in and its place there. -/
abbrev grp (c : Fin 3456) : Fin 27 := ⟨c.val / 128, by omega⟩
abbrev blkOf (r : Fin 53248) : Fin 416 := ⟨r.val / 128, by omega⟩
abbrev colAt (g : Fin 27) (k : Fin 128) : Fin 3456 := ⟨128 * g.val + k.val, by omega⟩
abbrev rowAt (b : Fin 416) (k : Fin 128) : Fin 53248 := ⟨128 * b.val + k.val, by omega⟩
abbrev lane (n : ℕ) : Fin 128 := ⟨n % 128, Nat.mod_lt _ (by decide)⟩

theorem split_cols {α : Type} (z : S53248x3456.Idx → α) (r : Fin 53248) (g : Fin 27) (k : Fin 128) :
    shapeCast S53248x27x128 z shapeCasts_S53248x3456_S53248x27x128 (ix3 r g k) = z (ix2 r (colAt g k)) := by
  refine shapeCast_apply z _ _ _ ?_
  simp only [Shape.rowMajor_val_three, Shape.rowMajor_val_two]
  show r.val * 3456 + (128 * g.val + k.val) = (r.val * 27 + g.val) * 128 + k.val
  omega

theorem join_cols {α : Type} (z : S53248x27x128.Idx → α) (r : Fin 53248) (c : Fin 3456) :
    shapeCast S53248x3456 z shapeCasts_S53248x27x128_S53248x3456 (ix2 r c) = z (ix3 r (grp c) (lane c.val)) := by
  refine shapeCast_apply z _ _ _ ?_
  simp only [Shape.rowMajor_val_three, Shape.rowMajor_val_two]
  show (r.val * 27 + c.val / 128) * 128 + c.val % 128 = r.val * 3456 + c.val
  omega

theorem split_rows {α : Type} (z : S53248x3456.Idx → α) (b : Fin 416) (k : Fin 128) (c : Fin 3456) :
    shapeCast S416x128x3456 z shapeCasts_S53248x3456_S416x128x3456 (ix3 b k c) = z (ix2 (rowAt b k) c) := by
  refine shapeCast_apply z _ _ _ ?_
  simp only [Shape.rowMajor_val_three, Shape.rowMajor_val_two]
  show (128 * b.val + k.val) * 3456 + c.val = (b.val * 128 + k.val) * 3456 + c.val
  omega

theorem join_rows {α : Type} (z : S416x128x3456.Idx → α) (r : Fin 53248) (c : Fin 3456) :
    shapeCast S53248x3456 z shapeCasts_S416x128x3456_S53248x3456 (ix2 r c) = z (ix3 (blkOf r) (lane r.val) c) := by
  refine shapeCast_apply z _ _ _ ?_
  simp only [Shape.rowMajor_val_three, Shape.rowMajor_val_two]
  show (r.val / 128 * 128 + r.val % 128) * 3456 + c.val = r.val * 3456 + c.val
  omega

theorem spread_cols (s : FVec Ideal S53248x27 .f32) (r : Fin 53248) (g : Fin 27) (k : Fin 128) :
    broadcastTo S53248x27x128 (shapeCast S53248x27x1 s shapeCasts_S53248x27_S53248x27x1) broadcasts_S53248x27x1_S53248x27x128 (ix3 r g k) = s (ix2 r g) := by
  pointwise

theorem spread_rows (s : FVec Ideal S416x3456 .f32) (b : Fin 416) (k : Fin 128) (c : Fin 3456) :
    broadcastTo S416x128x3456 (shapeCast S416x1x3456 s shapeCasts_S416x3456_S416x1x3456) broadcasts_S416x1x3456_S416x128x3456 (ix3 b k c) = s (ix2 b c) := by
  pointwise

theorem flip_scales {α : Type} (z : S416x3456.Idx → α) (c : Fin 3456) (b : Fin 416) :
    transpose S3456x416 [1, 0] z transposes_S416x3456_p1_0_S3456x416 (ix2 c b) = z (ix2 b c) := by
  pointwise

theorem flip_codes {α : Type} (z : S53248x3456.Idx → α) (c : Fin 3456) (r : Fin 53248) :
    transpose S3456x53248 [1, 0] z transposes_S53248x3456_p1_0_S3456x53248 (ix2 c r) = z (ix2 r c) := by
  pointwise

/-! ## The body's results at a place -/

section values

variable (A : Vec Ideal S53248x3456 .bf16) (Γ : Vec Ideal S1x3456 .bf16)

/-- Row `r` normed and weighted, at column `c`. -/
abbrev Y (r : Fin 53248) (c : Fin 3456) : EReal := normed (fun c => A (ix2 r c)) (fun c => Γ (ix2 0 c)) c

theorem root_at (r : Fin 53248) : k0_pay2 A (ix1 r) = root fun c => A (ix2 r c) := by
  unfold k0_pay2 k0_pay1 root
  pointwise
  rw [dims_bits, Ideal.div_coe (by norm_num)]

theorem normed_at (r : Fin 53248) (c : Fin 3456) : k0_pay3 A Γ (ix2 r c) = Y A Γ r c := by
  unfold k0_pay3 k0_pay1 Y normed
  pointwise [root_at]

theorem sigs_at (b : Fin 416) (k : Fin 128) : k0_pay4 A (ix2 b k) = root fun c => A (ix2 (rowAt b k) c) := by
  unfold k0_pay4
  rw [← root_at]
  pointwise
  exact congrArg (k0_pay2 A) (congrArg ix1 (Fin.ext (by show b.val * 128 + k.val = 128 * b.val + k.val; omega)))

theorem pay5_at (r : Fin 53248) (g : Fin 27) (k : Fin 128) : k0_pay5 A Γ (ix3 r g k) = Y A Γ r (colAt g k) :=
  (split_cols (k0_pay3 A Γ) r g k).trans (normed_at A Γ r _)

theorem pay6_eq : k0_pay6 A Γ = expoV (peakV [2] reduces_S53248x27x128_S53248x27 (k0_pay5 A Γ)) := rfl
theorem pay7_eq : k0_pay7 A Γ = exp2 (k0_pay6 A Γ) := rfl
theorem pay8_eq : k0_pay8 A Γ = invV (k0_pay6 A Γ) := rfl
theorem pay9_eq (y : FVec Ideal S53248x27x128 .f32) (s : FVec Ideal S53248x27 .f32) : k0_pay9 y s = shapeCast S53248x3456
    (codeV y (broadcastTo S53248x27x128 (shapeCast S53248x27x1 s shapeCasts_S53248x27_S53248x27x1) broadcasts_S53248x27x1_S53248x27x128))
    shapeCasts_S53248x27x128_S53248x3456 := rfl
theorem pay11_eq (y : FVec Ideal S53248x3456 .f32) : k0_pay11 y = expoV (peakV [1] reduces_S416x128x3456_S416x3456 (k0_pay10 y)) := rfl
theorem pay12_eq (y : FVec Ideal S53248x3456 .f32) : k0_pay12 y = transpose S3456x416 [1, 0] (exp2 (k0_pay11 y)) transposes_S416x3456_p1_0_S3456x416 := rfl
theorem pay13_eq (y : FVec Ideal S53248x3456 .f32) : k0_pay13 y = transpose S3456x53248 [1, 0] (shapeCast S53248x3456
    (codeV (k0_pay10 y) (broadcastTo S416x128x3456 (shapeCast S416x1x3456 (invV (k0_pay11 y)) shapeCasts_S416x3456_S416x1x3456) broadcasts_S416x1x3456_S416x128x3456))
    shapeCasts_S416x128x3456_S53248x3456) transposes_S53248x3456_p1_0_S3456x53248 := rfl

/-- The peak of row `r` in the column group `g`, and of column `c` in the row block `b`. -/
abbrev rowPeak (r : Fin 53248) (g : Fin 27) : EReal := peak fun k => Y A Γ r (colAt g k)
abbrev colPeak (b : Fin 416) (c : Fin 3456) : EReal := peak fun k => Y A Γ (rowAt b k) c

theorem pay6_at (r : Fin 53248) (g : Fin 27) : k0_pay6 A Γ (ix2 r g) = expo (rowPeak A Γ r g) := by
  rw [pay6_eq, expoV_at]
  refine congrArg expo ((peak_last _ (k0_pay5 A Γ) r g).trans ?_)
  exact congrArg peak (funext fun k => pay5_at A Γ r g k)

theorem rscale_at (r : Fin 53248) (g : Fin 27) : k0_pay7 A Γ (ix2 r g) = scale (rowPeak A Γ r g) := by
  rw [pay7_eq, exp2_at, pay6_at]
  rfl

theorem lane_cols (c : Fin 3456) : colAt (grp c) (lane c.val) = c := Fin.ext (Nat.div_add_mod _ _)
theorem lane_rows (r : Fin 53248) : rowAt (blkOf r) (lane r.val) = r := Fin.ext (Nat.div_add_mod _ _)

theorem rcode_at (r : Fin 53248) (c : Fin 3456) :
    k0_pay9 (k0_pay5 A Γ) (k0_pay8 A Γ) (ix2 r c) = Quant.code (Y A Γ r c) (inv (rowPeak A Γ r (grp c))) := by
  rw [pay9_eq]
  refine (join_cols _ r c).trans ?_
  rw [codeV_at, spread_cols, pay8_eq, invV_at, pay6_at, pay5_at, lane_cols]
  rfl

theorem pay10_at (b : Fin 416) (k : Fin 128) (c : Fin 3456) : k0_pay10 (k0_pay3 A Γ) (ix3 b k c) = Y A Γ (rowAt b k) c :=
  (split_rows (k0_pay3 A Γ) b k c).trans (normed_at A Γ _ c)

theorem pay11_at (b : Fin 416) (c : Fin 3456) : k0_pay11 (k0_pay3 A Γ) (ix2 b c) = expo (colPeak A Γ b c) := by
  rw [pay11_eq, expoV_at]
  refine congrArg expo ((peak_mid _ (k0_pay10 (k0_pay3 A Γ)) b c).trans ?_)
  exact congrArg peak (funext fun k => pay10_at A Γ b k c)

theorem cscale_at (c : Fin 3456) (b : Fin 416) : k0_pay12 (k0_pay3 A Γ) (ix2 c b) = scale (colPeak A Γ b c) := by
  rw [pay12_eq]
  refine (flip_scales _ c b).trans ?_
  rw [exp2_at, pay11_at]
  rfl

theorem ccode_at (c : Fin 3456) (r : Fin 53248) :
    k0_pay13 (k0_pay3 A Γ) (ix2 c r) = Quant.code (Y A Γ r c) (inv (colPeak A Γ (blkOf r) c)) := by
  rw [pay13_eq]
  refine (flip_codes _ c r).trans ((join_rows _ r c).trans ?_)
  rw [codeV_at, spread_rows, invV_at, pay11_at, pay10_at, lane_rows]
  rfl

end values

end Cert.ReferenceIdeal.Hand

end
-- ==== Proof.Equations.lean ====
/-
  The kernel's five results are the reference's, over the extended reals, of the same rows and weights, when the weights are at most
  `2¹²⁸` in magnitude.
-/
module

public import proofs.«01_k».proof.Proof.Values
public import proofs.«01_k».proof.Proof.PlainValues

@[expose] public section

set_option maxRecDepth 16384

noncomputable section

namespace Cert.Equations

open Idealize.ShloMosaic Idealize.ShloMosaic.TcCoe
open Cert.KernelIdeal Cert.KernelIdeal.Hand
open Cert.Quant (root normed peak scale inv)

theorem eta2 {a b : ℕ} (j : (⟨2, ![a, b]⟩ : Shape).Idx) : j = ix2 (j 0) (j 1) := by
  funext d
  match d with
  | ⟨0, _⟩ => rfl
  | ⟨1, _⟩ => rfl

variable (A : Vec Ideal S53248x3456 .bf16) (Γ : Vec Ideal S1x3456 .f32) (Γ' : Vec Ideal S1x3456 .bf16)
  (hw : wt Γ = fun c => Γ' (ix2 0 c))
  (hΓ : ∀ c, max (wt Γ c) (-(wt Γ c)) ≤ (((2 : ℝ) ^ (128 : ℤ) : ℝ) : EReal))

theorem sig_eq : sigs A = Cert.ReferenceIdeal.Gen.k0_pay4 (F := Ideal) A := by
  funext j
  rw [eta2 j]
  exact (sigs_value A _ _).trans (Cert.ReferenceIdeal.Hand.sigs_at A _ _).symm

include hw hΓ

theorem rc_eq : rcode A Γ = Cert.ReferenceIdeal.Gen.k0_pay9 (Cert.ReferenceIdeal.Gen.k0_pay5 A Γ') (Cert.ReferenceIdeal.Gen.k0_pay8 A Γ') := by
  funext j
  rw [eta2 j]
  refine (rcode_value A Γ hΓ (j 0) (j 1)).trans (Eq.trans ?_ (Cert.ReferenceIdeal.Hand.rcode_at A Γ' (j 0) (j 1)).symm)
  exact congrArg (fun w => Quant.code (normed (xrow A (j 0)) w (j 1)) (inv (peak fun k => normed (xrow A (j 0)) w (colAt (grp (j 1)) k)))) hw

theorem rs_eq : rscale A Γ = Cert.ReferenceIdeal.Gen.k0_pay7 A Γ' := by
  funext j
  rw [eta2 j]
  refine (rscale_value A Γ hΓ (j 0) (j 1)).trans (Eq.trans ?_ (Cert.ReferenceIdeal.Hand.rscale_at A Γ' (j 0) (j 1)).symm)
  exact congrArg (fun w => scale (peak fun k => normed (xrow A (j 0)) w (colAt (j 1) k))) hw

theorem cc_eq : ccode A Γ = Cert.ReferenceIdeal.Gen.k0_pay13 (Cert.ReferenceIdeal.Gen.k0_pay3 A Γ') := by
  funext j
  rw [eta2 j]
  refine (ccode_value A Γ hΓ (j 0) (j 1)).trans (Eq.trans ?_ (Cert.ReferenceIdeal.Hand.ccode_at A Γ' (j 0) (j 1)).symm)
  exact congrArg (fun w => Quant.code (normed (xrow A (j 1)) w (j 0)) (inv (peak fun k => normed (xrow A (rowAt (blkOf (j 1)) k)) w (j 0)))) hw

theorem cs_eq : cscale A Γ = Cert.ReferenceIdeal.Gen.k0_pay12 (Cert.ReferenceIdeal.Gen.k0_pay3 A Γ') := by
  funext j
  rw [eta2 j]
  refine (cscale_value A Γ hΓ (j 0) (j 1)).trans (Eq.trans ?_ (Cert.ReferenceIdeal.Hand.cscale_at A Γ' (j 0) (j 1)).symm)
  exact congrArg (fun w => scale (peak fun k => normed (xrow A (rowAt (j 1) k)) w (j 0))) hw

end Cert.Equations

end
-- ==== Proof.Plain.lean ====
/-
  The reference's arrays after its one grid point are the body's results of the whole operands.
-/
module

public import proofs.«01_k».proof.Proof.Spec
public import proofs.«01_k».proof.Proof.Gen.ReferenceIdeal.Frame
public import Idealize.ShloMosaic.Lib.Pipeline.ValueKit.Geometry
public import Idealize.ShloMosaic.Lib.ValueLayout
public import Idealize.ShloMosaic.Lib.ValueLayoutCasts
public import Idealize.ShloMosaic.Lib.Pointwise

@[expose] public section

set_option maxRecDepth 16384

noncomputable section

namespace Cert.ReferenceIdeal.Hand

open Idealize.ShloMosaic Idealize.ShloMosaic.TcCoe
open Idealize.ShloMosaic.Pipeline (Dat)
open Cert.ReferenceIdeal Cert.ReferenceIdeal.Gen
open Cert.Quant (root normed peak scale inv expo)

/-! ## The arrays are the payloads of the whole operands -/

theorem unit_idx {s : Shape} (off : Fin s.rank → ℕ) (h) (h0 : ∀ a, off a = 0) (j : s.Idx) : (Rect.unit (s := s) off s.size h).idx j = j := by
  funext a
  apply Fin.ext
  show off a + 1 * (j a).val = (j a).val
  rw [h0]; omega

theorem zero2 : ∀ a, (![0, 0] : Fin 2 → ℕ) a = 0 := by decide

section final

variable {F : FTy → Type} [FloatOps F] (m : (ℓ : Loc nD τ sig) → Buf (Elt F) ℓ) (c : Dev nD)

theorem ld_x (x : Vec F S53248x3456 .bf16) : View.ld x r0_0 = x := funext fun j => congrArg x (unit_idx _ _ zero2 j)
theorem ld_g (x : Vec F S1x3456 .bf16) : View.ld x r0_1 = x := funext fun j => congrArg x (unit_idx _ _ zero2 j)

/-- The operands as the call finds them. -/
abbrev opA : Vec F S53248x3456 .bf16 := V m c main_v0
abbrev opG : Vec F S1x3456 .bf16 := V m c main_v1

theorem at_x (t : Fin cfg0.N) : iblk m c 0 t = opA m c := funext fun j => by
  show opA m c ((win0_0.rect t).emb j) = opA m c j
  congr 1
  funext a
  apply Fin.ext
  rw [Pipeline.Window.rect_emb_val win0_0 t _ _ rfl]
  match a with | ⟨0, _⟩ => show 0 * 53248 + (j 0).val = (j 0).val; omega | ⟨1, _⟩ => show 0 * 3456 + (j 1).val = (j 1).val; omega

theorem at_g (t : Fin cfg0.N) : iblk m c 1 t = opG m c := funext fun j => by
  show opG m c ((win0_1.rect t).emb j) = opG m c j
  congr 1
  funext a
  apply Fin.ext
  rw [Pipeline.Window.rect_emb_val win0_1 t _ _ rfl]
  match a with | ⟨0, _⟩ => show 0 * 1 + (j 0).val = (j 0).val; omega | ⟨1, _⟩ => show 0 * 3456 + (j 1).val = (j 1).val; omega

/-- One store of the whole block leaves what was stored. -/
theorem canon_whole {s : Shape} {e : EltTy} (off : Fin s.rank → ℕ) (h) (h0 : ∀ a, off a = 0) (p : Vec F s e)
    (hc : ∀ y : s.Idx, ∃ pc ∈ ([⟨Rect.unit off s.size h, p⟩] : List (View.Piece (Elt F) s e)), y ∈ pc.1.set) :
    (View.canon ([⟨Rect.unit off s.size h, p⟩] : List (View.Piece (Elt F) s e)) : Vec F s e) = p := funext fun y => by
  refine View.canon_apply_of_pieces p _ (fun pc hpc x => ?_) y (hc y)
  obtain rfl := List.mem_singleton.1 hpc
  exact (congrArg p (unit_idx off h h0 x)).symm

/-- The launch's only point. -/
abbrev t0 : Fin cfg0.N := ⟨0, by decide⟩

theorem out2 (x : Vec F S53248x3456 .bf16) (g : Vec F S1x3456 .bf16) : out0_2 x g = k0_pay9 (k0_pay5 x g) (k0_pay8 x g) := by
  refine (canon_whole (s := S53248x3456) _ _ zero2 _ (cover0_2 _)).trans ?_
  simp only [ld_x, ld_g, k0_pay14]

theorem final2 : (dats m 0 c).arrAt 2 cfg0.N = k0_pay9 (k0_pay5 (opA m c) (opG m c)) (k0_pay8 (opA m c) (opG m c)) :=
  (dats m 0 c).arrAt_eq_of_after_last 2 t0 (by decide +kernel) _ fun j =>
    congrFun ((after0_2 m c t0).trans ((congrArg₂ out0_2 (at_x m c t0) (at_g m c t0)).trans (out2 _ _))) j

theorem out3 (x : Vec F S53248x3456 .bf16) (g : Vec F S1x3456 .bf16) : out0_3 x g = k0_pay7 x g := by
  refine (canon_whole (s := S53248x27) _ _ zero2 _ (cover0_3 _)).trans ?_
  simp only [ld_x, ld_g, k0_pay14]

theorem final3 : (dats m 0 c).arrAt 3 cfg0.N = k0_pay7 (opA m c) (opG m c) :=
  (dats m 0 c).arrAt_eq_of_after_last 3 t0 (by decide +kernel) _ fun j =>
    congrFun ((after0_3 m c t0).trans ((congrArg₂ out0_3 (at_x m c t0) (at_g m c t0)).trans (out3 _ _))) j

theorem out4 (x : Vec F S53248x3456 .bf16) (g : Vec F S1x3456 .bf16) : out0_4 x g = k0_pay13 (k0_pay3 x g) := by
  refine (canon_whole (s := S3456x53248) _ _ zero2 _ (cover0_4 _)).trans ?_
  simp only [ld_x, ld_g, k0_pay14]

theorem final4 : (dats m 0 c).arrAt 4 cfg0.N = k0_pay13 (k0_pay3 (opA m c) (opG m c)) :=
  (dats m 0 c).arrAt_eq_of_after_last 4 t0 (by decide +kernel) _ fun j =>
    congrFun ((after0_4 m c t0).trans ((congrArg₂ out0_4 (at_x m c t0) (at_g m c t0)).trans (out4 _ _))) j

theorem out5 (x : Vec F S53248x3456 .bf16) (g : Vec F S1x3456 .bf16) : out0_5 x g = k0_pay12 (k0_pay3 x g) := by
  refine (canon_whole (s := S3456x416) _ _ zero2 _ (cover0_5 _)).trans ?_
  simp only [ld_x, ld_g, k0_pay14]

theorem final5 : (dats m 0 c).arrAt 5 cfg0.N = k0_pay12 (k0_pay3 (opA m c) (opG m c)) :=
  (dats m 0 c).arrAt_eq_of_after_last 5 t0 (by decide +kernel) _ fun j =>
    congrFun ((after0_5 m c t0).trans ((congrArg₂ out0_5 (at_x m c t0) (at_g m c t0)).trans (out5 _ _))) j

theorem out6 (x : Vec F S53248x3456 .bf16) (g : Vec F S1x3456 .bf16) : out0_6 x g = k0_pay4 x := by
  refine (canon_whole (s := S416x128) _ _ zero2 _ (cover0_6 _)).trans ?_
  simp only [ld_x, ld_g, k0_pay14]

theorem final6 : (dats m 0 c).arrAt 6 cfg0.N = k0_pay4 (opA m c) :=
  (dats m 0 c).arrAt_eq_of_after_last 6 t0 (by decide +kernel) _ fun j =>
    congrFun ((after0_6 m c t0).trans ((congrArg₂ out0_6 (at_x m c t0) (at_g m c t0)).trans (out6 _ _))) j

end final

end Cert.ReferenceIdeal.Hand

end
-- ==== Proof.Operands.lean ====
/-
  The operands each call finds, from the arguments: the rows of `x` in order, and `gamma` as one row.
-/
module

public import proofs.«01_k».proof.Proof.Region
public import proofs.«01_k».proof.Proof.Plain
public import Idealize.ShloMosaic.Lib.ValueLayout
public import Idealize.ShloMosaic.Lib.ValueLayoutCasts
public import Idealize.ShloMosaic.Lib.Pointwise

@[expose] public section

set_option maxRecDepth 16384

noncomputable section

open Idealize.ShloMosaic Idealize.ShloMosaic.TcCoe

namespace Cert.KernelIdeal.Hand

open Cert.KernelIdeal Cert.KernelIdeal.Gen

variable (m : (ℓ : Loc nD τ sig) → Buf (Elt Ideal) ℓ) (c : Dev nD)

theorem opA_eq : opA m c = shapeCast S53248x3456 (m ((c.tc : Thread nD τ).loc main_arg0)) shapeCasts_S13x4096x3456_S53248x3456 := by
  unfold opA
  unfold_abbrev_sides
  after_results
  rfl

theorem opG_eq : opG m c = shapeCast S1x3456 (extf .f32 (m ((c.tc : Thread nD τ).loc main_arg1) : FVec Ideal S3456 .bf16) bitsLt_bf16_f32 : FVec Ideal S3456 .f32) shapeCasts_S3456_S1x3456 := by
  unfold opG
  unfold_abbrev_sides
  after_results
  rfl

theorem opG_at (k : Fin 3456) : opG m c (ix2 0 k) = (m ((c.tc : Thread nD τ).loc main_arg1) : FVec Ideal S3456 .bf16) (ix1 k) := by
  rw [opG_eq]
  pointwise

end Cert.KernelIdeal.Hand

namespace Cert.ReferenceIdeal.Hand

open Cert.ReferenceIdeal Cert.ReferenceIdeal.Gen

variable (m : (ℓ : Loc nD τ sig) → Buf (Elt Ideal) ℓ) (c : Dev nD)

theorem opA_eq : opA m c = shapeCast S53248x3456 (m ((c.tc : Thread nD τ).loc main_arg0)) shapeCasts_S13x4096x3456_S53248x3456 := by
  unfold opA
  unfold_abbrev_sides
  after_results
  rfl

theorem opG_eq : opG m c = shapeCast S1x3456 (m ((c.tc : Thread nD τ).loc main_arg1) : FVec Ideal S3456 .bf16) shapeCasts_S3456_S1x3456 := by
  unfold opG
  unfold_abbrev_sides
  after_results
  rfl

theorem opG_at (k : Fin 3456) : opG m c (ix2 0 k) = (m ((c.tc : Thread nD τ).loc main_arg1) : FVec Ideal S3456 .bf16) (ix1 k) := by
  rw [opG_eq]
  pointwise

end Cert.ReferenceIdeal.Hand

end
-- ==== Proof.Gamma.lean ====
/-
  The precondition read back: every weight is at most `2¹²⁸` in magnitude.
-/
module

public import proofs.«01_k».proof.Pre_gamma_finite
public import Idealize.ShloMosaic.PureOps.Ideal
public import Idealize.ShloMosaic.PureOps.Ideal.Laws
public import Idealize.ShloMosaic.Lib.ReduceAll
public import Idealize.ShloMosaic.Lib.ValueLayout
public import Idealize.ShloMosaic.Lib.ValueIdx

@[expose] public section

noncomputable section

namespace Cert.Pre_gamma_finite

open Idealize.ShloMosaic Idealize.ShloMosaic.TcCoe Idealize.ShloMosaic.ValueIdx

variable [Facts]

/-- The greatest bfloat16 is below `2¹²⁸`. -/
theorem max_bits : Ideal.ofBits .f32 0x7F7F0000#32 ≤ (((2 : ℝ) ^ (128 : ℤ) : ℝ) : EReal) := by
  simp [Ideal.ofBits, Ideal.ieee]; exact_mod_cast (by norm_num : (16711680 : ℝ) * 2 ^ 104 ≤ 2 ^ 128)

theorem bound (x : FVec Ideal S13x4096x3456 .bf16) (γ : FVec Ideal S3456 .bf16) (h : fn (F := Ideal) x γ = fun _ => 1#1) (c : Fin 3456) :
    max (γ (ix1 c)) (-(γ (ix1 c))) ≤ (((2 : ℝ) ^ (128 : ℤ) : ℝ) : EReal) := by
  haveI : Subsingleton S_.Idx := ⟨fun _ _ => funext fun a => a.elim0⟩
  have e := Host.reduce_andi_all _ _ _ _ _ (congrFun h (Shape.Idx.first Facts.h_S_)) (ix1 c : S3456.Idx)
  have e' : BitVec.ofBool (decide (max (γ (ix1 c)) (-(γ (ix1 c))) ≤ Ideal.ofBits .f32 0x7F7F0000#32)) = 1#1 := e
  by_cases hle : max (γ (ix1 c)) (-(γ (ix1 c))) ≤ Ideal.ofBits .f32 0x7F7F0000#32
  · exact hle.trans max_bits
  · rw [decide_eq_false hle] at e'; exact absurd e' (by decide)

end Cert.Pre_gamma_finite

end
-- ==== Proof.lean ====
module

public import proofs.«01_k».proof.Defs
public import proofs.«01_k».proof.Proof.Machine
public import proofs.«01_k».proof.Proof.Final
public import proofs.«01_k».proof.Proof.Equations
public import proofs.«01_k».proof.Proof.Operands
public import proofs.«01_k».proof.Proof.Plain
public import proofs.«01_k».proof.Proof.Gamma
public import proofs.«01_k».proof.Proof.Gen.ReferenceIdeal
public import proofs.«01_k».proof.Proof.Gen.ReferenceIdeal.Frame
public import proofs.«01_k».proof.Proof.Gen.Pre_gamma_finite
public import Idealize.ShloMosaic.Adequacy
public import Idealize.ShloMosaic.Init

@[expose] public section

noncomputable section

namespace Cert.Proof

open Idealize.ShloMosaic Idealize.SL.Sem

/-- The kernel on machine floats runs, keeps its arguments, and ends with every semaphore at zero. -/
theorem kernel_runs : Cert.quiescent_Kernel (hKernel := Cert.Kernel.Gen.facts) := fun m ρ _ =>
  (θ_run _ _ _).mono (fun _ h => ⟨Cert.Kernel.Hand.args m h.1, h.2⟩) (Cert.Kernel.Hand.run m ρ)

/-- The idealized kernel does too. -/
theorem ideal_runs : Cert.quiescent_KernelIdeal (hKernelIdeal := Cert.KernelIdeal.Gen.facts) := fun m ρ _ =>
  (θ_run _ _ _).mono (fun _ h => ⟨Cert.KernelIdeal.Hand.args m h.1, h.2⟩) (Cert.KernelIdeal.Hand.run m ρ)

/-- The constant the kernel multiplies by stands for `1 / 3456`, of which it is the nearest float. -/
theorem named : Cert.preserves_Kernel_KernelIdeal :=
  IdealRules.named_const.statement Cert.KernelIdeal.κ "inv_d" .f32 0x3997B426#32 ((1 / 3456 : ℝ) : EReal) rfl

/-- From memories that agree on the arguments, with every weight finite, the kernel's five results are the reference's. -/
theorem algebraic : Cert.algebraic_KernelIdeal_ReferenceIdeal_pre_gamma_finite
    (hKernelIdeal := Cert.KernelIdeal.Gen.facts) (hReferenceIdeal := Cert.ReferenceIdeal.Gen.facts)
    (hPre_gamma_finite := Cert.Pre_gamma_finite.Gen.facts) := by
  intro m g m' g' hpre harg
  have hA : ∀ c, Cert.ReferenceIdeal.Hand.opA m' c = Cert.KernelIdeal.Hand.opA m c := fun c => by
    rw [Cert.ReferenceIdeal.Hand.opA_eq, Cert.KernelIdeal.Hand.opA_eq, (harg c).1]
  have hw : ∀ c, Cert.KernelIdeal.Hand.wt (Cert.KernelIdeal.Hand.opG m c)
      = fun k => Cert.ReferenceIdeal.Hand.opG m' c (Idealize.ShloMosaic.ix2 0 k) := fun c => by
    funext k
    refine (Cert.KernelIdeal.Hand.opG_at m c k).trans (Eq.trans ?_ (Cert.ReferenceIdeal.Hand.opG_at m' c k).symm)
    rw [(harg c).2]
  have hΓ : ∀ c k, max (Cert.KernelIdeal.Hand.wt (Cert.KernelIdeal.Hand.opG m c) k)
      (-(Cert.KernelIdeal.Hand.wt (Cert.KernelIdeal.Hand.opG m c) k)) ≤ (((2 : ℝ) ^ (128 : ℤ) : ℝ) : EReal) := fun c k => by
    rw [show Cert.KernelIdeal.Hand.wt (Cert.KernelIdeal.Hand.opG m c) k = _ from Cert.KernelIdeal.Hand.opG_at m c k]
    exact Cert.Pre_gamma_finite.bound _ _ (hpre c) k
  refine ⟨fun c => Cert.KernelIdeal.Hand.rcode (Cert.KernelIdeal.Hand.opA m c) (Cert.KernelIdeal.Hand.opG m c),
    fun c => Cert.KernelIdeal.Hand.rscale (Cert.KernelIdeal.Hand.opA m c) (Cert.KernelIdeal.Hand.opG m c),
    fun c => Cert.KernelIdeal.Hand.ccode (Cert.KernelIdeal.Hand.opA m c) (Cert.KernelIdeal.Hand.opG m c),
    fun c => Cert.KernelIdeal.Hand.cscale (Cert.KernelIdeal.Hand.opA m c) (Cert.KernelIdeal.Hand.opG m c),
    fun c => Cert.KernelIdeal.Hand.sigs (Cert.KernelIdeal.Hand.opA m c), ?_, ?_⟩
  · exact (θ_run _ _ _).mono (fun r h c => ⟨Cert.KernelIdeal.Hand.final_rc h.1 c, Cert.KernelIdeal.Hand.final_rs h.1 c,
      Cert.KernelIdeal.Hand.final_cc h.1 c, Cert.KernelIdeal.Hand.final_cs h.1 c, Cert.KernelIdeal.Hand.final_sig h.1 c,
      (Cert.KernelIdeal.Hand.args m h.1 c).1, (Cert.KernelIdeal.Hand.args m h.1 c).2⟩) (Cert.KernelIdeal.Hand.run m g)
  · refine (θ_run _ _ _).mono (fun r h c => ⟨?_, ?_, ?_, ?_, ?_, ?_, ?_⟩) (Cert.ReferenceIdeal.Gen.run_main m' g')
    · refine (((h c).1 2).trans (Cert.ReferenceIdeal.Hand.final2 m' c)).trans ?_
      rw [hA c]
      exact (Cert.Equations.rc_eq _ _ _ (hw c) (hΓ c)).symm
    · refine (((h c).1 3).trans (Cert.ReferenceIdeal.Hand.final3 m' c)).trans ?_
      rw [hA c]
      exact (Cert.Equations.rs_eq _ _ _ (hw c) (hΓ c)).symm
    · refine (((h c).1 4).trans (Cert.ReferenceIdeal.Hand.final4 m' c)).trans ?_
      rw [hA c]
      exact (Cert.Equations.cc_eq _ _ _ (hw c) (hΓ c)).symm
    · refine (((h c).1 5).trans (Cert.ReferenceIdeal.Hand.final5 m' c)).trans ?_
      rw [hA c]
      exact (Cert.Equations.cs_eq _ _ _ (hw c) (hΓ c)).symm
    · refine (((h c).1 6).trans (Cert.ReferenceIdeal.Hand.final6 m' c)).trans ?_
      rw [hA c]
      exact (Cert.Equations.sig_eq _).symm
    · exact ((h c).2 Cert.ReferenceIdeal.main_arg0 (Pipeline.mem_restRefs_of Cert.ReferenceIdeal.main_arg0 (by decide) (by decide))).trans
        (Cert.ReferenceIdeal.Gen.V_main_arg0 m' c)
    · exact ((h c).2 Cert.ReferenceIdeal.main_arg1 (Pipeline.mem_restRefs_of Cert.ReferenceIdeal.main_arg1 (by decide) (by decide))).trans
        (Cert.ReferenceIdeal.Gen.V_main_arg1 m' c)

theorem claim : Cert.Claim :=
  ⟨Cert.Kernel.Gen.facts, Cert.KernelIdeal.Gen.facts, Cert.ReferenceIdeal.Gen.facts, Cert.Pre_gamma_finite.Gen.facts,
    kernel_runs, ideal_runs, fun m ρ _ => ideal_runs m ρ trivial,
    fun m ρ _ => Cert.ReferenceIdeal.Gen.frame m ρ, fun m ρ _ => Cert.ReferenceIdeal.Gen.frame m ρ, named, algebraic⟩

end Cert.Proof

end
